-- ==== Defs.lean ====
def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_ProjectS (m : (ℓ : Loc Cert.ProjectS.nD Cert.ProjectS.τ Cert.ProjectS.sig) → Buf (Elt Bits) ℓ) : Prop :=
  True

def Pre_ProjectSIdeal (m : (ℓ : Loc Cert.ProjectSIdeal.nD Cert.ProjectSIdeal.τ Cert.ProjectSIdeal.sig) → Buf (Elt Ideal) ℓ) : Prop :=
  True

def Pre_ProjectSRefIdeal (m : (ℓ : Loc Cert.ProjectSRefIdeal.nD Cert.ProjectSRefIdeal.τ Cert.ProjectSRefIdeal.sig) → Buf (Elt Ideal) ℓ) : Prop :=
  True

def Pre_TailS (m : (ℓ : Loc Cert.TailS.nD Cert.TailS.τ Cert.TailS.sig) → Buf (Elt Bits) ℓ) : Prop :=
  True

def Pre_TailSIdeal (m : (ℓ : Loc Cert.TailSIdeal.nD Cert.TailSIdeal.τ Cert.TailSIdeal.sig) → Buf (Elt Ideal) ℓ) : Prop :=
  True

def Pre_TailSRefIdeal (m : (ℓ : Loc Cert.TailSRefIdeal.nD Cert.TailSRefIdeal.τ Cert.TailSRefIdeal.sig) → Buf (Elt Ideal) ℓ) : Prop :=
  True

def Pre_DeltaS (m : (ℓ : Loc Cert.DeltaS.nD Cert.DeltaS.τ Cert.DeltaS.sig) → Buf (Elt Bits) ℓ) : Prop :=
  True

def Pre_DeltaSIdeal (m : (ℓ : Loc Cert.DeltaSIdeal.nD Cert.DeltaSIdeal.τ Cert.DeltaSIdeal.sig) → Buf (Elt Ideal) ℓ) : Prop :=
  True

def Pre_DeltaSIdeal_finite_values [hPre_finite_values : Cert.Pre_finite_values.Facts] (m : (ℓ : Loc Cert.DeltaSIdeal.nD Cert.DeltaSIdeal.τ Cert.DeltaSIdeal.sig) → Buf (Elt Ideal) ℓ) : Prop :=
  ∀ c : Dev Cert.DeltaSIdeal.nD,
    (Cert.Pre_finite_values.fn (F := Ideal) (m ((c.tc : Thread Cert.DeltaSIdeal.nD Cert.DeltaSIdeal.τ).loc Cert.DeltaSIdeal.main_arg0)) (m ((c.tc : Thread Cert.DeltaSIdeal.nD Cert.DeltaSIdeal.τ).loc Cert.DeltaSIdeal.main_arg1)) (m ((c.tc : Thread Cert.DeltaSIdeal.nD Cert.DeltaSIdeal.τ).loc Cert.DeltaSIdeal.main_arg2)) (m ((c.tc : Thread Cert.DeltaSIdeal.nD Cert.DeltaSIdeal.τ).loc Cert.DeltaSIdeal.main_arg3)) (m ((c.tc : Thread Cert.DeltaSIdeal.nD Cert.DeltaSIdeal.τ).loc Cert.DeltaSIdeal.main_arg4)) (m ((c.tc : Thread Cert.DeltaSIdeal.nD Cert.DeltaSIdeal.τ).loc Cert.DeltaSIdeal.main_arg5)) (m ((c.tc : Thread Cert.DeltaSIdeal.nD Cert.DeltaSIdeal.τ).loc Cert.DeltaSIdeal.main_arg6)) (m ((c.tc : Thread Cert.DeltaSIdeal.nD Cert.DeltaSIdeal.τ).loc Cert.DeltaSIdeal.main_arg7)) (m ((c.tc : Thread Cert.DeltaSIdeal.nD Cert.DeltaSIdeal.τ).loc Cert.DeltaSIdeal.main_arg8))).1 = (fun _ => 1#1)
    ∧ (Cert.Pre_finite_values.fn (F := Ideal) (m ((c.tc : Thread Cert.DeltaSIdeal.nD Cert.DeltaSIdeal.τ).loc Cert.DeltaSIdeal.main_arg0)) (m ((c.tc : Thread Cert.DeltaSIdeal.nD Cert.DeltaSIdeal.τ).loc Cert.DeltaSIdeal.main_arg1)) (m ((c.tc : Thread Cert.DeltaSIdeal.nD Cert.DeltaSIdeal.τ).loc Cert.DeltaSIdeal.main_arg2)) (m ((c.tc : Thread Cert.DeltaSIdeal.nD Cert.DeltaSIdeal.τ).loc Cert.DeltaSIdeal.main_arg3)) (m ((c.tc : Thread Cert.DeltaSIdeal.nD Cert.DeltaSIdeal.τ).loc Cert.DeltaSIdeal.main_arg4)) (m ((c.tc : Thread Cert.DeltaSIdeal.nD Cert.DeltaSIdeal.τ).loc Cert.DeltaSIdeal.main_arg5)) (m ((c.tc : Thread Cert.DeltaSIdeal.nD Cert.DeltaSIdeal.τ).loc Cert.DeltaSIdeal.main_arg6)) (m ((c.tc : Thread Cert.DeltaSIdeal.nD Cert.DeltaSIdeal.τ).loc Cert.DeltaSIdeal.main_arg7)) (m ((c.tc : Thread Cert.DeltaSIdeal.nD Cert.DeltaSIdeal.τ).loc Cert.DeltaSIdeal.main_arg8))).2.1 = (fun _ => 1#1)
    ∧ (Cert.Pre_finite_values.fn (F := Ideal) (m ((c.tc : Thread Cert.DeltaSIdeal.nD Cert.DeltaSIdeal.τ).loc Cert.DeltaSIdeal.main_arg0)) (m ((c.tc : Thread Cert.DeltaSIdeal.nD Cert.DeltaSIdeal.τ).loc Cert.DeltaSIdeal.main_arg1)) (m ((c.tc : Thread Cert.DeltaSIdeal.nD Cert.DeltaSIdeal.τ).loc Cert.DeltaSIdeal.main_arg2)) (m ((c.tc : Thread Cert.DeltaSIdeal.nD Cert.DeltaSIdeal.τ).loc Cert.DeltaSIdeal.main_arg3)) (m ((c.tc : Thread Cert.DeltaSIdeal.nD Cert.DeltaSIdeal.τ).loc Cert.DeltaSIdeal.main_arg4)) (m ((c.tc : Thread Cert.DeltaSIdeal.nD Cert.DeltaSIdeal.τ).loc Cert.DeltaSIdeal.main_arg5)) (m ((c.tc : Thread Cert.DeltaSIdeal.nD Cert.DeltaSIdeal.τ).loc Cert.DeltaSIdeal.main_arg6)) (m ((c.tc : Thread Cert.DeltaSIdeal.nD Cert.DeltaSIdeal.τ).loc Cert.DeltaSIdeal.main_arg7)) (m ((c.tc : Thread Cert.DeltaSIdeal.nD Cert.DeltaSIdeal.τ).loc Cert.DeltaSIdeal.main_arg8))).2.2 = (fun _ => 1#1)

def Pre_DeltaSRefIdeal (m : (ℓ : Loc Cert.DeltaSRefIdeal.nD Cert.DeltaSRefIdeal.τ Cert.DeltaSRefIdeal.sig) → Buf (Elt Ideal) ℓ) : Prop :=
  True

def Pre_DeltaSRefIdeal_finite_values [hPre_finite_values : Cert.Pre_finite_values.Facts] (m : (ℓ : Loc Cert.DeltaSRefIdeal.nD Cert.DeltaSRefIdeal.τ Cert.DeltaSRefIdeal.sig) → Buf (Elt Ideal) ℓ) : Prop :=
  ∀ c : Dev Cert.DeltaSRefIdeal.nD,
    (Cert.Pre_finite_values.fn (F := Ideal) (m ((c.tc : Thread Cert.DeltaSRefIdeal.nD Cert.DeltaSRefIdeal.τ).loc Cert.DeltaSRefIdeal.main_arg0)) (m ((c.tc : Thread Cert.DeltaSRefIdeal.nD Cert.DeltaSRefIdeal.τ).loc Cert.DeltaSRefIdeal.main_arg1)) (m ((c.tc : Thread Cert.DeltaSRefIdeal.nD Cert.DeltaSRefIdeal.τ).loc Cert.DeltaSRefIdeal.main_arg2)) (m ((c.tc : Thread Cert.DeltaSRefIdeal.nD Cert.DeltaSRefIdeal.τ).loc Cert.DeltaSRefIdeal.main_arg3)) (m ((c.tc : Thread Cert.DeltaSRefIdeal.nD Cert.DeltaSRefIdeal.τ).loc Cert.DeltaSRefIdeal.main_arg4)) (m ((c.tc : Thread Cert.DeltaSRefIdeal.nD Cert.DeltaSRefIdeal.τ).loc Cert.DeltaSRefIdeal.main_arg5)) (m ((c.tc : Thread Cert.DeltaSRefIdeal.nD Cert.DeltaSRefIdeal.τ).loc Cert.DeltaSRefIdeal.main_arg6)) (m ((c.tc : Thread Cert.DeltaSRefIdeal.nD Cert.DeltaSRefIdeal.τ).loc Cert.DeltaSRefIdeal.main_arg7)) (m ((c.tc : Thread Cert.DeltaSRefIdeal.nD Cert.DeltaSRefIdeal.τ).loc Cert.DeltaSRefIdeal.main_arg8))).1 = (fun _ => 1#1)
    ∧ (Cert.Pre_finite_values.fn (F := Ideal) (m ((c.tc : Thread Cert.DeltaSRefIdeal.nD Cert.DeltaSRefIdeal.τ).loc Cert.DeltaSRefIdeal.main_arg0)) (m ((c.tc : Thread Cert.DeltaSRefIdeal.nD Cert.DeltaSRefIdeal.τ).loc Cert.DeltaSRefIdeal.main_arg1)) (m ((c.tc : Thread Cert.DeltaSRefIdeal.nD Cert.DeltaSRefIdeal.τ).loc Cert.DeltaSRefIdeal.main_arg2)) (m ((c.tc : Thread Cert.DeltaSRefIdeal.nD Cert.DeltaSRefIdeal.τ).loc Cert.DeltaSRefIdeal.main_arg3)) (m ((c.tc : Thread Cert.DeltaSRefIdeal.nD Cert.DeltaSRefIdeal.τ).loc Cert.DeltaSRefIdeal.main_arg4)) (m ((c.tc : Thread Cert.DeltaSRefIdeal.nD Cert.DeltaSRefIdeal.τ).loc Cert.DeltaSRefIdeal.main_arg5)) (m ((c.tc : Thread Cert.DeltaSRefIdeal.nD Cert.DeltaSRefIdeal.τ).loc Cert.DeltaSRefIdeal.main_arg6)) (m ((c.tc : Thread Cert.DeltaSRefIdeal.nD Cert.DeltaSRefIdeal.τ).loc Cert.DeltaSRefIdeal.main_arg7)) (m ((c.tc : Thread Cert.DeltaSRefIdeal.nD Cert.DeltaSRefIdeal.τ).loc Cert.DeltaSRefIdeal.main_arg8))).2.1 = (fun _ => 1#1)
    ∧ (Cert.Pre_finite_values.fn (F := Ideal) (m ((c.tc : Thread Cert.DeltaSRefIdeal.nD Cert.DeltaSRefIdeal.τ).loc Cert.DeltaSRefIdeal.main_arg0)) (m ((c.tc : Thread Cert.DeltaSRefIdeal.nD Cert.DeltaSRefIdeal.τ).loc Cert.DeltaSRefIdeal.main_arg1)) (m ((c.tc : Thread Cert.DeltaSRefIdeal.nD Cert.DeltaSRefIdeal.τ).loc Cert.DeltaSRefIdeal.main_arg2)) (m ((c.tc : Thread Cert.DeltaSRefIdeal.nD Cert.DeltaSRefIdeal.τ).loc Cert.DeltaSRefIdeal.main_arg3)) (m ((c.tc : Thread Cert.DeltaSRefIdeal.nD Cert.DeltaSRefIdeal.τ).loc Cert.DeltaSRefIdeal.main_arg4)) (m ((c.tc : Thread Cert.DeltaSRefIdeal.nD Cert.DeltaSRefIdeal.τ).loc Cert.DeltaSRefIdeal.main_arg5)) (m ((c.tc : Thread Cert.DeltaSRefIdeal.nD Cert.DeltaSRefIdeal.τ).loc Cert.DeltaSRefIdeal.main_arg6)) (m ((c.tc : Thread Cert.DeltaSRefIdeal.nD Cert.DeltaSRefIdeal.τ).loc Cert.DeltaSRefIdeal.main_arg7)) (m ((c.tc : Thread Cert.DeltaSRefIdeal.nD Cert.DeltaSRefIdeal.τ).loc Cert.DeltaSRefIdeal.main_arg8))).2.2 = (fun _ => 1#1)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_ProjectS [hProjectS : Cert.ProjectS.Facts] : Prop :=
  ∀ (m : (ℓ : Loc Cert.ProjectS.nD Cert.ProjectS.τ Cert.ProjectS.sig) → Buf (Elt Bits) ℓ) (g : Dev Cert.ProjectS.nD → PrngReg), Pre_ProjectS m →
    θ_run (Cert.ProjectS.defs (F := Bits)) (onTc (τ := Cert.ProjectS.τ) (Cert.ProjectS.main (F := Bits))) ⟨m, fun _ => 0, g⟩ (fun r => (∀ c : Dev Cert.ProjectS.nD,
      r.2.mem ((c.tc : Thread Cert.ProjectS.nD Cert.ProjectS.τ).loc Cert.ProjectS.main_arg0) = m ((c.tc : Thread Cert.ProjectS.nD Cert.ProjectS.τ).loc Cert.ProjectS.main_arg0)
      ∧ r.2.mem ((c.tc : Thread Cert.ProjectS.nD Cert.ProjectS.τ).loc Cert.ProjectS.main_arg1) = m ((c.tc : Thread Cert.ProjectS.nD Cert.ProjectS.τ).loc Cert.ProjectS.main_arg1)
      ∧ r.2.mem ((c.tc : Thread Cert.ProjectS.nD Cert.ProjectS.τ).loc Cert.ProjectS.main_arg2) = m ((c.tc : Thread Cert.ProjectS.nD Cert.ProjectS.τ).loc Cert.ProjectS.main_arg2))
      ∧ r.2.sem = fun _ => 0)

def quiescent_ProjectSIdeal [hProjectSIdeal : Cert.ProjectSIdeal.Facts] : Prop :=
  ∀ (m : (ℓ : Loc Cert.ProjectSIdeal.nD Cert.ProjectSIdeal.τ Cert.ProjectSIdeal.sig) → Buf (Elt Ideal) ℓ) (g : Dev Cert.ProjectSIdeal.nD → PrngReg), Pre_ProjectSIdeal m →
    θ_run (Cert.ProjectSIdeal.defs (F := Ideal)) (onTc (τ := Cert.ProjectSIdeal.τ) (Cert.ProjectSIdeal.main (F := Ideal))) ⟨m, fun _ => 0, g⟩ (fun r => (∀ c : Dev Cert.ProjectSIdeal.nD,
      r.2.mem ((c.tc : Thread Cert.ProjectSIdeal.nD Cert.ProjectSIdeal.τ).loc Cert.ProjectSIdeal.main_arg0) = m ((c.tc : Thread Cert.ProjectSIdeal.nD Cert.ProjectSIdeal.τ).loc Cert.ProjectSIdeal.main_arg0)
      ∧ r.2.mem ((c.tc : Thread Cert.ProjectSIdeal.nD Cert.ProjectSIdeal.τ).loc Cert.ProjectSIdeal.main_arg1) = m ((c.tc : Thread Cert.ProjectSIdeal.nD Cert.ProjectSIdeal.τ).loc Cert.ProjectSIdeal.main_arg1)
      ∧ r.2.mem ((c.tc : Thread Cert.ProjectSIdeal.nD Cert.ProjectSIdeal.τ).loc Cert.ProjectSIdeal.main_arg2) = m ((c.tc : Thread Cert.ProjectSIdeal.nD Cert.ProjectSIdeal.τ).loc Cert.ProjectSIdeal.main_arg2))
      ∧ r.2.sem = fun _ => 0)

def quiescent_ProjectSRefIdeal [hProjectSRefIdeal : Cert.ProjectSRefIdeal.Facts] : Prop :=
  ∀ (m : (ℓ : Loc Cert.ProjectSRefIdeal.nD Cert.ProjectSRefIdeal.τ Cert.ProjectSRefIdeal.sig) → Buf (Elt Ideal) ℓ) (g : Dev Cert.ProjectSRefIdeal.nD → PrngReg), Pre_ProjectSRefIdeal m →
    θ_run (Cert.ProjectSRefIdeal.defs (F := Ideal)) (onTc (τ := Cert.ProjectSRefIdeal.τ) (Cert.ProjectSRefIdeal.main (F := Ideal))) ⟨m, fun _ => 0, g⟩ (fun r => (∀ c : Dev Cert.ProjectSRefIdeal.nD,
      r.2.mem ((c.tc : Thread Cert.ProjectSRefIdeal.nD Cert.ProjectSRefIdeal.τ).loc Cert.ProjectSRefIdeal.main_arg0) = m ((c.tc : Thread Cert.ProjectSRefIdeal.nD Cert.ProjectSRefIdeal.τ).loc Cert.ProjectSRefIdeal.main_arg0)
      ∧ r.2.mem ((c.tc : Thread Cert.ProjectSRefIdeal.nD Cert.ProjectSRefIdeal.τ).loc Cert.ProjectSRefIdeal.main_arg1) = m ((c.tc : Thread Cert.ProjectSRefIdeal.nD Cert.ProjectSRefIdeal.τ).loc Cert.ProjectSRefIdeal.main_arg1)
      ∧ r.2.mem ((c.tc : Thread Cert.ProjectSRefIdeal.nD Cert.ProjectSRefIdeal.τ).loc Cert.ProjectSRefIdeal.main_arg2) = m ((c.tc : Thread Cert.ProjectSRefIdeal.nD Cert.ProjectSRefIdeal.τ).loc Cert.ProjectSRefIdeal.main_arg2))
      ∧ r.2.sem = fun _ => 0)

def quiescent_TailS [hTailS : Cert.TailS.Facts] : Prop :=
  ∀ (m : (ℓ : Loc Cert.TailS.nD Cert.TailS.τ Cert.TailS.sig) → Buf (Elt Bits) ℓ) (g : Dev Cert.TailS.nD → PrngReg), Pre_TailS m →
    θ_run (Cert.TailS.defs (F := Bits)) (onTc (τ := Cert.TailS.τ) (Cert.TailS.main (F := Bits))) ⟨m, fun _ => 0, g⟩ (fun r => (∀ c : Dev Cert.TailS.nD,
      r.2.mem ((c.tc : Thread Cert.TailS.nD Cert.TailS.τ).loc Cert.TailS.main_arg0) = m ((c.tc : Thread Cert.TailS.nD Cert.TailS.τ).loc Cert.TailS.main_arg0)
      ∧ r.2.mem ((c.tc : Thread Cert.TailS.nD Cert.TailS.τ).loc Cert.TailS.main_arg1) = m ((c.tc : Thread Cert.TailS.nD Cert.TailS.τ).loc Cert.TailS.main_arg1)
      ∧ r.2.mem ((c.tc : Thread Cert.TailS.nD Cert.TailS.τ).loc Cert.TailS.main_arg2) = m ((c.tc : Thread Cert.TailS.nD Cert.TailS.τ).loc Cert.TailS.main_arg2)
      ∧ r.2.mem ((c.tc : Thread Cert.TailS.nD Cert.TailS.τ).loc Cert.TailS.main_arg3) = m ((c.tc : Thread Cert.TailS.nD Cert.TailS.τ).loc Cert.TailS.main_arg3)
      ∧ r.2.mem ((c.tc : Thread Cert.TailS.nD Cert.TailS.τ).loc Cert.TailS.main_arg4) = m ((c.tc : Thread Cert.TailS.nD Cert.TailS.τ).loc Cert.TailS.main_arg4)
      ∧ r.2.mem ((c.tc : Thread Cert.TailS.nD Cert.TailS.τ).loc Cert.TailS.main_arg5) = m ((c.tc : Thread Cert.TailS.nD Cert.TailS.τ).loc Cert.TailS.main_arg5)
      ∧ r.2.mem ((c.tc : Thread Cert.TailS.nD Cert.TailS.τ).loc Cert.TailS.main_arg6) = m ((c.tc : Thread Cert.TailS.nD Cert.TailS.τ).loc Cert.TailS.main_arg6)
      ∧ r.2.mem ((c.tc : Thread Cert.TailS.nD Cert.TailS.τ).loc Cert.TailS.main_arg7) = m ((c.tc : Thread Cert.TailS.nD Cert.TailS.τ).loc Cert.TailS.main_arg7)
      ∧ r.2.mem ((c.tc : Thread Cert.TailS.nD Cert.TailS.τ).loc Cert.TailS.main_arg8) = m ((c.tc : Thread Cert.TailS.nD Cert.TailS.τ).loc Cert.TailS.main_arg8)
      ∧ r.2.mem ((c.tc : Thread Cert.TailS.nD Cert.TailS.τ).loc Cert.TailS.main_arg9) = m ((c.tc : Thread Cert.TailS.nD Cert.TailS.τ).loc Cert.TailS.main_arg9))
      ∧ r.2.sem = fun _ => 0)

def quiescent_TailSIdeal [hTailSIdeal : Cert.TailSIdeal.Facts] : Prop :=
  ∀ (m : (ℓ : Loc Cert.TailSIdeal.nD Cert.TailSIdeal.τ Cert.TailSIdeal.sig) → Buf (Elt Ideal) ℓ) (g : Dev Cert.TailSIdeal.nD → PrngReg), Pre_TailSIdeal m →
    θ_run (Cert.TailSIdeal.defs (F := Ideal)) (onTc (τ := Cert.TailSIdeal.τ) (Cert.TailSIdeal.main (F := Ideal))) ⟨m, fun _ => 0, g⟩ (fun r => (∀ c : Dev Cert.TailSIdeal.nD,
      r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
      ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
      ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
      ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
      ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
      ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
      ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
      ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
      ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
      ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9))
      ∧ r.2.sem = fun _ => 0)

def quiescent_TailSRefIdeal [hTailSRefIdeal : Cert.TailSRefIdeal.Facts] : Prop :=
  ∀ (m : (ℓ : Loc Cert.TailSRefIdeal.nD Cert.TailSRefIdeal.τ Cert.TailSRefIdeal.sig) → Buf (Elt Ideal) ℓ) (g : Dev Cert.TailSRefIdeal.nD → PrngReg), Pre_TailSRefIdeal m →
    θ_run (Cert.TailSRefIdeal.defs (F := Ideal)) (onTc (τ := Cert.TailSRefIdeal.τ) (Cert.TailSRefIdeal.main (F := Ideal))) ⟨m, fun _ => 0, g⟩ (fun r => (∀ c : Dev Cert.TailSRefIdeal.nD,
      r.2.mem ((c.tc : Thread Cert.TailSRefIdeal.nD Cert.TailSRefIdeal.τ).loc Cert.TailSRefIdeal.main_arg0) = m ((c.tc : Thread Cert.TailSRefIdeal.nD Cert.TailSRefIdeal.τ).loc Cert.TailSRefIdeal.main_arg0)
      ∧ r.2.mem ((c.tc : Thread Cert.TailSRefIdeal.nD Cert.TailSRefIdeal.τ).loc Cert.TailSRefIdeal.main_arg1) = m ((c.tc : Thread Cert.TailSRefIdeal.nD Cert.TailSRefIdeal.τ).loc Cert.TailSRefIdeal.main_arg1)
      ∧ r.2.mem ((c.tc : Thread Cert.TailSRefIdeal.nD Cert.TailSRefIdeal.τ).loc Cert.TailSRefIdeal.main_arg2) = m ((c.tc : Thread Cert.TailSRefIdeal.nD Cert.TailSRefIdeal.τ).loc Cert.TailSRefIdeal.main_arg2)
      ∧ r.2.mem ((c.tc : Thread Cert.TailSRefIdeal.nD Cert.TailSRefIdeal.τ).loc Cert.TailSRefIdeal.main_arg3) = m ((c.tc : Thread Cert.TailSRefIdeal.nD Cert.TailSRefIdeal.τ).loc Cert.TailSRefIdeal.main_arg3)
      ∧ r.2.mem ((c.tc : Thread Cert.TailSRefIdeal.nD Cert.TailSRefIdeal.τ).loc Cert.TailSRefIdeal.main_arg4) = m ((c.tc : Thread Cert.TailSRefIdeal.nD Cert.TailSRefIdeal.τ).loc Cert.TailSRefIdeal.main_arg4)
      ∧ r.2.mem ((c.tc : Thread Cert.TailSRefIdeal.nD Cert.TailSRefIdeal.τ).loc Cert.TailSRefIdeal.main_arg5) = m ((c.tc : Thread Cert.TailSRefIdeal.nD Cert.TailSRefIdeal.τ).loc Cert.TailSRefIdeal.main_arg5)
      ∧ r.2.mem ((c.tc : Thread Cert.TailSRefIdeal.nD Cert.TailSRefIdeal.τ).loc Cert.TailSRefIdeal.main_arg6) = m ((c.tc : Thread Cert.TailSRefIdeal.nD Cert.TailSRefIdeal.τ).loc Cert.TailSRefIdeal.main_arg6)
      ∧ r.2.mem ((c.tc : Thread Cert.TailSRefIdeal.nD Cert.TailSRefIdeal.τ).loc Cert.TailSRefIdeal.main_arg7) = m ((c.tc : Thread Cert.TailSRefIdeal.nD Cert.TailSRefIdeal.τ).loc Cert.TailSRefIdeal.main_arg7)
      ∧ r.2.mem ((c.tc : Thread Cert.TailSRefIdeal.nD Cert.TailSRefIdeal.τ).loc Cert.TailSRefIdeal.main_arg8) = m ((c.tc : Thread Cert.TailSRefIdeal.nD Cert.TailSRefIdeal.τ).loc Cert.TailSRefIdeal.main_arg8)
      ∧ r.2.mem ((c.tc : Thread Cert.TailSRefIdeal.nD Cert.TailSRefIdeal.τ).loc Cert.TailSRefIdeal.main_arg9) = m ((c.tc : Thread Cert.TailSRefIdeal.nD Cert.TailSRefIdeal.τ).loc Cert.TailSRefIdeal.main_arg9))
      ∧ r.2.sem = fun _ => 0)

def quiescent_DeltaS [hDeltaS : Cert.DeltaS.Facts] : Prop :=
  ∀ (m : (ℓ : Loc Cert.DeltaS.nD Cert.DeltaS.τ Cert.DeltaS.sig) → Buf (Elt Bits) ℓ) (g : Dev Cert.DeltaS.nD → PrngReg), Pre_DeltaS m →
    θ_run (Cert.DeltaS.defs (F := Bits)) (onTc (τ := Cert.DeltaS.τ) (Cert.DeltaS.main (F := Bits))) ⟨m, fun _ => 0, g⟩ (fun r => (∀ c : Dev Cert.DeltaS.nD,
      r.2.mem ((c.tc : Thread Cert.DeltaS.nD Cert.DeltaS.τ).loc Cert.DeltaS.main_arg0) = m ((c.tc : Thread Cert.DeltaS.nD Cert.DeltaS.τ).loc Cert.DeltaS.main_arg0)
      ∧ r.2.mem ((c.tc : Thread Cert.DeltaS.nD Cert.DeltaS.τ).loc Cert.DeltaS.main_arg1) = m ((c.tc : Thread Cert.DeltaS.nD Cert.DeltaS.τ).loc Cert.DeltaS.main_arg1)
      ∧ r.2.mem ((c.tc : Thread Cert.DeltaS.nD Cert.DeltaS.τ).loc Cert.DeltaS.main_arg2) = m ((c.tc : Thread Cert.DeltaS.nD Cert.DeltaS.τ).loc Cert.DeltaS.main_arg2)
      ∧ r.2.mem ((c.tc : Thread Cert.DeltaS.nD Cert.DeltaS.τ).loc Cert.DeltaS.main_arg3) = m ((c.tc : Thread Cert.DeltaS.nD Cert.DeltaS.τ).loc Cert.DeltaS.main_arg3)
      ∧ r.2.mem ((c.tc : Thread Cert.DeltaS.nD Cert.DeltaS.τ).loc Cert.DeltaS.main_arg4) = m ((c.tc : Thread Cert.DeltaS.nD Cert.DeltaS.τ).loc Cert.DeltaS.main_arg4)
      ∧ r.2.mem ((c.tc : Thread Cert.DeltaS.nD Cert.DeltaS.τ).loc Cert.DeltaS.main_arg5) = m ((c.tc : Thread Cert.DeltaS.nD Cert.DeltaS.τ).loc Cert.DeltaS.main_arg5)
      ∧ r.2.mem ((c.tc : Thread Cert.DeltaS.nD Cert.DeltaS.τ).loc Cert.DeltaS.main_arg6) = m ((c.tc : Thread Cert.DeltaS.nD Cert.DeltaS.τ).loc Cert.DeltaS.main_arg6)
      ∧ r.2.mem ((c.tc : Thread Cert.DeltaS.nD Cert.DeltaS.τ).loc Cert.DeltaS.main_arg7) = m ((c.tc : Thread Cert.DeltaS.nD Cert.DeltaS.τ).loc Cert.DeltaS.main_arg7)
      ∧ r.2.mem ((c.tc : Thread Cert.DeltaS.nD Cert.DeltaS.τ).loc Cert.DeltaS.main_arg8) = m ((c.tc : Thread Cert.DeltaS.nD Cert.DeltaS.τ).loc Cert.DeltaS.main_arg8))
      ∧ r.2.sem = fun _ => 0)

def quiescent_DeltaSIdeal [hDeltaSIdeal : Cert.DeltaSIdeal.Facts] : Prop :=
  ∀ (m : (ℓ : Loc Cert.DeltaSIdeal.nD Cert.DeltaSIdeal.τ Cert.DeltaSIdeal.sig) → Buf (Elt Ideal) ℓ) (g : Dev Cert.DeltaSIdeal.nD → PrngReg), Pre_DeltaSIdeal m →
    θ_run (Cert.DeltaSIdeal.defs (F := Ideal)) (onTc (τ := Cert.DeltaSIdeal.τ) (Cert.DeltaSIdeal.main (F := Ideal))) ⟨m, fun _ => 0, g⟩ (fun r => (∀ c : Dev Cert.DeltaSIdeal.nD,
      r.2.mem ((c.tc : Thread Cert.DeltaSIdeal.nD Cert.DeltaSIdeal.τ).loc Cert.DeltaSIdeal.main_arg0) = m ((c.tc : Thread Cert.DeltaSIdeal.nD Cert.DeltaSIdeal.τ).loc Cert.DeltaSIdeal.main_arg0)
      ∧ r.2.mem ((c.tc : Thread Cert.DeltaSIdeal.nD Cert.DeltaSIdeal.τ).loc Cert.DeltaSIdeal.main_arg1) = m ((c.tc : Thread Cert.DeltaSIdeal.nD Cert.DeltaSIdeal.τ).loc Cert.DeltaSIdeal.main_arg1)
      ∧ r.2.mem ((c.tc : Thread Cert.DeltaSIdeal.nD Cert.DeltaSIdeal.τ).loc Cert.DeltaSIdeal.main_arg2) = m ((c.tc : Thread Cert.DeltaSIdeal.nD Cert.DeltaSIdeal.τ).loc Cert.DeltaSIdeal.main_arg2)
      ∧ r.2.mem ((c.tc : Thread Cert.DeltaSIdeal.nD Cert.DeltaSIdeal.τ).loc Cert.DeltaSIdeal.main_arg3) = m ((c.tc : Thread Cert.DeltaSIdeal.nD Cert.DeltaSIdeal.τ).loc Cert.DeltaSIdeal.main_arg3)
      ∧ r.2.mem ((c.tc : Thread Cert.DeltaSIdeal.nD Cert.DeltaSIdeal.τ).loc Cert.DeltaSIdeal.main_arg4) = m ((c.tc : Thread Cert.DeltaSIdeal.nD Cert.DeltaSIdeal.τ).loc Cert.DeltaSIdeal.main_arg4)
      ∧ r.2.mem ((c.tc : Thread Cert.DeltaSIdeal.nD Cert.DeltaSIdeal.τ).loc Cert.DeltaSIdeal.main_arg5) = m ((c.tc : Thread Cert.DeltaSIdeal.nD Cert.DeltaSIdeal.τ).loc Cert.DeltaSIdeal.main_arg5)
      ∧ r.2.mem ((c.tc : Thread Cert.DeltaSIdeal.nD Cert.DeltaSIdeal.τ).loc Cert.DeltaSIdeal.main_arg6) = m ((c.tc : Thread Cert.DeltaSIdeal.nD Cert.DeltaSIdeal.τ).loc Cert.DeltaSIdeal.main_arg6)
      ∧ r.2.mem ((c.tc : Thread Cert.DeltaSIdeal.nD Cert.DeltaSIdeal.τ).loc Cert.DeltaSIdeal.main_arg7) = m ((c.tc : Thread Cert.DeltaSIdeal.nD Cert.DeltaSIdeal.τ).loc Cert.DeltaSIdeal.main_arg7)
      ∧ r.2.mem ((c.tc : Thread Cert.DeltaSIdeal.nD Cert.DeltaSIdeal.τ).loc Cert.DeltaSIdeal.main_arg8) = m ((c.tc : Thread Cert.DeltaSIdeal.nD Cert.DeltaSIdeal.τ).loc Cert.DeltaSIdeal.main_arg8))
      ∧ r.2.sem = fun _ => 0)

def quiescent_DeltaSIdeal_pre_finite_values [hDeltaSIdeal : Cert.DeltaSIdeal.Facts] [hPre_finite_values : Cert.Pre_finite_values.Facts] : Prop :=
  ∀ (m : (ℓ : Loc Cert.DeltaSIdeal.nD Cert.DeltaSIdeal.τ Cert.DeltaSIdeal.sig) → Buf (Elt Ideal) ℓ) (g : Dev Cert.DeltaSIdeal.nD → PrngReg), Pre_DeltaSIdeal_finite_values m →
    θ_run (Cert.DeltaSIdeal.defs (F := Ideal)) (onTc (τ := Cert.DeltaSIdeal.τ) (Cert.DeltaSIdeal.main (F := Ideal))) ⟨m, fun _ => 0, g⟩ (fun r => (∀ c : Dev Cert.DeltaSIdeal.nD,
      r.2.mem ((c.tc : Thread Cert.DeltaSIdeal.nD Cert.DeltaSIdeal.τ).loc Cert.DeltaSIdeal.main_arg0) = m ((c.tc : Thread Cert.DeltaSIdeal.nD Cert.DeltaSIdeal.τ).loc Cert.DeltaSIdeal.main_arg0)
      ∧ r.2.mem ((c.tc : Thread Cert.DeltaSIdeal.nD Cert.DeltaSIdeal.τ).loc Cert.DeltaSIdeal.main_arg1) = m ((c.tc : Thread Cert.DeltaSIdeal.nD Cert.DeltaSIdeal.τ).loc Cert.DeltaSIdeal.main_arg1)
      ∧ r.2.mem ((c.tc : Thread Cert.DeltaSIdeal.nD Cert.DeltaSIdeal.τ).loc Cert.DeltaSIdeal.main_arg2) = m ((c.tc : Thread Cert.DeltaSIdeal.nD Cert.DeltaSIdeal.τ).loc Cert.DeltaSIdeal.main_arg2)
      ∧ r.2.mem ((c.tc : Thread Cert.DeltaSIdeal.nD Cert.DeltaSIdeal.τ).loc Cert.DeltaSIdeal.main_arg3) = m ((c.tc : Thread Cert.DeltaSIdeal.nD Cert.DeltaSIdeal.τ).loc Cert.DeltaSIdeal.main_arg3)
      ∧ r.2.mem ((c.tc : Thread Cert.DeltaSIdeal.nD Cert.DeltaSIdeal.τ).loc Cert.DeltaSIdeal.main_arg4) = m ((c.tc : Thread Cert.DeltaSIdeal.nD Cert.DeltaSIdeal.τ).loc Cert.DeltaSIdeal.main_arg4)
      ∧ r.2.mem ((c.tc : Thread Cert.DeltaSIdeal.nD Cert.DeltaSIdeal.τ).loc Cert.DeltaSIdeal.main_arg5) = m ((c.tc : Thread Cert.DeltaSIdeal.nD Cert.DeltaSIdeal.τ).loc Cert.DeltaSIdeal.main_arg5)
      ∧ r.2.mem ((c.tc : Thread Cert.DeltaSIdeal.nD Cert.DeltaSIdeal.τ).loc Cert.DeltaSIdeal.main_arg6) = m ((c.tc : Thread Cert.DeltaSIdeal.nD Cert.DeltaSIdeal.τ).loc Cert.DeltaSIdeal.main_arg6)
      ∧ r.2.mem ((c.tc : Thread Cert.DeltaSIdeal.nD Cert.DeltaSIdeal.τ).loc Cert.DeltaSIdeal.main_arg7) = m ((c.tc : Thread Cert.DeltaSIdeal.nD Cert.DeltaSIdeal.τ).loc Cert.DeltaSIdeal.main_arg7)
      ∧ r.2.mem ((c.tc : Thread Cert.DeltaSIdeal.nD Cert.DeltaSIdeal.τ).loc Cert.DeltaSIdeal.main_arg8) = m ((c.tc : Thread Cert.DeltaSIdeal.nD Cert.DeltaSIdeal.τ).loc Cert.DeltaSIdeal.main_arg8))
      ∧ r.2.sem = fun _ => 0)

def quiescent_DeltaSRefIdeal [hDeltaSRefIdeal : Cert.DeltaSRefIdeal.Facts] : Prop :=
  ∀ (m : (ℓ : Loc Cert.DeltaSRefIdeal.nD Cert.DeltaSRefIdeal.τ Cert.DeltaSRefIdeal.sig) → Buf (Elt Ideal) ℓ) (g : Dev Cert.DeltaSRefIdeal.nD → PrngReg), Pre_DeltaSRefIdeal m →
    θ_run (Cert.DeltaSRefIdeal.defs (F := Ideal)) (onTc (τ := Cert.DeltaSRefIdeal.τ) (Cert.DeltaSRefIdeal.main (F := Ideal))) ⟨m, fun _ => 0, g⟩ (fun r => (∀ c : Dev Cert.DeltaSRefIdeal.nD,
      r.2.mem ((c.tc : Thread Cert.DeltaSRefIdeal.nD Cert.DeltaSRefIdeal.τ).loc Cert.DeltaSRefIdeal.main_arg0) = m ((c.tc : Thread Cert.DeltaSRefIdeal.nD Cert.DeltaSRefIdeal.τ).loc Cert.DeltaSRefIdeal.main_arg0)
      ∧ r.2.mem ((c.tc : Thread Cert.DeltaSRefIdeal.nD Cert.DeltaSRefIdeal.τ).loc Cert.DeltaSRefIdeal.main_arg1) = m ((c.tc : Thread Cert.DeltaSRefIdeal.nD Cert.DeltaSRefIdeal.τ).loc Cert.DeltaSRefIdeal.main_arg1)
      ∧ r.2.mem ((c.tc : Thread Cert.DeltaSRefIdeal.nD Cert.DeltaSRefIdeal.τ).loc Cert.DeltaSRefIdeal.main_arg2) = m ((c.tc : Thread Cert.DeltaSRefIdeal.nD Cert.DeltaSRefIdeal.τ).loc Cert.DeltaSRefIdeal.main_arg2)
      ∧ r.2.mem ((c.tc : Thread Cert.DeltaSRefIdeal.nD Cert.DeltaSRefIdeal.τ).loc Cert.DeltaSRefIdeal.main_arg3) = m ((c.tc : Thread Cert.DeltaSRefIdeal.nD Cert.DeltaSRefIdeal.τ).loc Cert.DeltaSRefIdeal.main_arg3)
      ∧ r.2.mem ((c.tc : Thread Cert.DeltaSRefIdeal.nD Cert.DeltaSRefIdeal.τ).loc Cert.DeltaSRefIdeal.main_arg4) = m ((c.tc : Thread Cert.DeltaSRefIdeal.nD Cert.DeltaSRefIdeal.τ).loc Cert.DeltaSRefIdeal.main_arg4)
      ∧ r.2.mem ((c.tc : Thread Cert.DeltaSRefIdeal.nD Cert.DeltaSRefIdeal.τ).loc Cert.DeltaSRefIdeal.main_arg5) = m ((c.tc : Thread Cert.DeltaSRefIdeal.nD Cert.DeltaSRefIdeal.τ).loc Cert.DeltaSRefIdeal.main_arg5)
      ∧ r.2.mem ((c.tc : Thread Cert.DeltaSRefIdeal.nD Cert.DeltaSRefIdeal.τ).loc Cert.DeltaSRefIdeal.main_arg6) = m ((c.tc : Thread Cert.DeltaSRefIdeal.nD Cert.DeltaSRefIdeal.τ).loc Cert.DeltaSRefIdeal.main_arg6)
      ∧ r.2.mem ((c.tc : Thread Cert.DeltaSRefIdeal.nD Cert.DeltaSRefIdeal.τ).loc Cert.DeltaSRefIdeal.main_arg7) = m ((c.tc : Thread Cert.DeltaSRefIdeal.nD Cert.DeltaSRefIdeal.τ).loc Cert.DeltaSRefIdeal.main_arg7)
      ∧ r.2.mem ((c.tc : Thread Cert.DeltaSRefIdeal.nD Cert.DeltaSRefIdeal.τ).loc Cert.DeltaSRefIdeal.main_arg8) = m ((c.tc : Thread Cert.DeltaSRefIdeal.nD Cert.DeltaSRefIdeal.τ).loc Cert.DeltaSRefIdeal.main_arg8))
      ∧ r.2.sem = fun _ => 0)

def quiescent_DeltaSRefIdeal_pre_finite_values [hDeltaSRefIdeal : Cert.DeltaSRefIdeal.Facts] [hPre_finite_values : Cert.Pre_finite_values.Facts] : Prop :=
  ∀ (m : (ℓ : Loc Cert.DeltaSRefIdeal.nD Cert.DeltaSRefIdeal.τ Cert.DeltaSRefIdeal.sig) → Buf (Elt Ideal) ℓ) (g : Dev Cert.DeltaSRefIdeal.nD → PrngReg), Pre_DeltaSRefIdeal_finite_values m →
    θ_run (Cert.DeltaSRefIdeal.defs (F := Ideal)) (onTc (τ := Cert.DeltaSRefIdeal.τ) (Cert.DeltaSRefIdeal.main (F := Ideal))) ⟨m, fun _ => 0, g⟩ (fun r => (∀ c : Dev Cert.DeltaSRefIdeal.nD,
      r.2.mem ((c.tc : Thread Cert.DeltaSRefIdeal.nD Cert.DeltaSRefIdeal.τ).loc Cert.DeltaSRefIdeal.main_arg0) = m ((c.tc : Thread Cert.DeltaSRefIdeal.nD Cert.DeltaSRefIdeal.τ).loc Cert.DeltaSRefIdeal.main_arg0)
      ∧ r.2.mem ((c.tc : Thread Cert.DeltaSRefIdeal.nD Cert.DeltaSRefIdeal.τ).loc Cert.DeltaSRefIdeal.main_arg1) = m ((c.tc : Thread Cert.DeltaSRefIdeal.nD Cert.DeltaSRefIdeal.τ).loc Cert.DeltaSRefIdeal.main_arg1)
      ∧ r.2.mem ((c.tc : Thread Cert.DeltaSRefIdeal.nD Cert.DeltaSRefIdeal.τ).loc Cert.DeltaSRefIdeal.main_arg2) = m ((c.tc : Thread Cert.DeltaSRefIdeal.nD Cert.DeltaSRefIdeal.τ).loc Cert.DeltaSRefIdeal.main_arg2)
      ∧ r.2.mem ((c.tc : Thread Cert.DeltaSRefIdeal.nD Cert.DeltaSRefIdeal.τ).loc Cert.DeltaSRefIdeal.main_arg3) = m ((c.tc : Thread Cert.DeltaSRefIdeal.nD Cert.DeltaSRefIdeal.τ).loc Cert.DeltaSRefIdeal.main_arg3)
      ∧ r.2.mem ((c.tc : Thread Cert.DeltaSRefIdeal.nD Cert.DeltaSRefIdeal.τ).loc Cert.DeltaSRefIdeal.main_arg4) = m ((c.tc : Thread Cert.DeltaSRefIdeal.nD Cert.DeltaSRefIdeal.τ).loc Cert.DeltaSRefIdeal.main_arg4)
      ∧ r.2.mem ((c.tc : Thread Cert.DeltaSRefIdeal.nD Cert.DeltaSRefIdeal.τ).loc Cert.DeltaSRefIdeal.main_arg5) = m ((c.tc : Thread Cert.DeltaSRefIdeal.nD Cert.DeltaSRefIdeal.τ).loc Cert.DeltaSRefIdeal.main_arg5)
      ∧ r.2.mem ((c.tc : Thread Cert.DeltaSRefIdeal.nD Cert.DeltaSRefIdeal.τ).loc Cert.DeltaSRefIdeal.main_arg6) = m ((c.tc : Thread Cert.DeltaSRefIdeal.nD Cert.DeltaSRefIdeal.τ).loc Cert.DeltaSRefIdeal.main_arg6)
      ∧ r.2.mem ((c.tc : Thread Cert.DeltaSRefIdeal.nD Cert.DeltaSRefIdeal.τ).loc Cert.DeltaSRefIdeal.main_arg7) = m ((c.tc : Thread Cert.DeltaSRefIdeal.nD Cert.DeltaSRefIdeal.τ).loc Cert.DeltaSRefIdeal.main_arg7)
      ∧ r.2.mem ((c.tc : Thread Cert.DeltaSRefIdeal.nD Cert.DeltaSRefIdeal.τ).loc Cert.DeltaSRefIdeal.main_arg8) = m ((c.tc : Thread Cert.DeltaSRefIdeal.nD Cert.DeltaSRefIdeal.τ).loc Cert.DeltaSRefIdeal.main_arg8))
      ∧ r.2.sem = fun _ => 0)

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v12_0)) (v1 : (c : Dev Cert.ProjectIdeal.nD) → Buf (Elt Ideal) ((c.tc : Thread Cert.ProjectIdeal.nD Cert.ProjectIdeal.τ).loc Cert.ProjectIdeal.main_v12_1)) (v2 : (c : Dev Cert.ProjectIdeal.nD) → Buf (Elt Ideal) ((c.tc : Thread Cert.ProjectIdeal.nD Cert.ProjectIdeal.τ).loc Cert.ProjectIdeal.main_v12_2)) (v3 : (c : Dev Cert.ProjectIdeal.nD) → Buf (Elt Ideal) ((c.tc : Thread Cert.ProjectIdeal.nD Cert.ProjectIdeal.τ).loc Cert.ProjectIdeal.main_v12_3)) (v4 : (c : Dev Cert.ProjectIdeal.nD) → Buf (Elt Ideal) ((c.tc : Thread Cert.ProjectIdeal.nD Cert.ProjectIdeal.τ).loc Cert.ProjectIdeal.main_v12_4)) (v5 : (c : Dev Cert.ProjectIdeal.nD) → Buf (Elt Ideal) ((c.tc : Thread Cert.ProjectIdeal.nD Cert.ProjectIdeal.τ).loc Cert.ProjectIdeal.main_v12_5)) (v6 : (c : Dev Cert.ProjectIdeal.nD) → Buf (Elt Ideal) ((c.tc : Thread Cert.ProjectIdeal.nD Cert.ProjectIdeal.τ).loc Cert.ProjectIdeal.main_v12_6)) (v7 : (c : Dev Cert.ProjectIdeal.nD) → Buf (Elt Ideal) ((c.tc : Thread Cert.ProjectIdeal.nD Cert.ProjectIdeal.τ).loc Cert.ProjectIdeal.main_v12_7)) (v8 : (c : Dev Cert.ProjectIdeal.nD) → Buf (Elt Ideal) ((c.tc : Thread Cert.ProjectIdeal.nD Cert.ProjectIdeal.τ).loc Cert.ProjectIdeal.main_v12_8)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v12_0) = v0 c
          ∧ r.2.mem ((c.tc : Thread Cert.ProjectIdeal.nD Cert.ProjectIdeal.τ).loc Cert.ProjectIdeal.main_v12_1) = v1 c
          ∧ r.2.mem ((c.tc : Thread Cert.ProjectIdeal.nD Cert.ProjectIdeal.τ).loc Cert.ProjectIdeal.main_v12_2) = v2 c
          ∧ r.2.mem ((c.tc : Thread Cert.ProjectIdeal.nD Cert.ProjectIdeal.τ).loc Cert.ProjectIdeal.main_v12_3) = v3 c
          ∧ r.2.mem ((c.tc : Thread Cert.ProjectIdeal.nD Cert.ProjectIdeal.τ).loc Cert.ProjectIdeal.main_v12_4) = v4 c
          ∧ r.2.mem ((c.tc : Thread Cert.ProjectIdeal.nD Cert.ProjectIdeal.τ).loc Cert.ProjectIdeal.main_v12_5) = v5 c
          ∧ r.2.mem ((c.tc : Thread Cert.ProjectIdeal.nD Cert.ProjectIdeal.τ).loc Cert.ProjectIdeal.main_v12_6) = v6 c
          ∧ r.2.mem ((c.tc : Thread Cert.ProjectIdeal.nD Cert.ProjectIdeal.τ).loc Cert.ProjectIdeal.main_v12_7) = v7 c
          ∧ r.2.mem ((c.tc : Thread Cert.ProjectIdeal.nD Cert.ProjectIdeal.τ).loc Cert.ProjectIdeal.main_v12_8) = v8 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v28) = v0 c
          ∧ r.2.mem ((c.tc : Thread Cert.ProjectRefIdeal.nD Cert.ProjectRefIdeal.τ).loc Cert.ProjectRefIdeal.main_v29) = v1 c
          ∧ r.2.mem ((c.tc : Thread Cert.ProjectRefIdeal.nD Cert.ProjectRefIdeal.τ).loc Cert.ProjectRefIdeal.main_v30) = v2 c
          ∧ r.2.mem ((c.tc : Thread Cert.ProjectRefIdeal.nD Cert.ProjectRefIdeal.τ).loc Cert.ProjectRefIdeal.main_v24) = v3 c
          ∧ r.2.mem ((c.tc : Thread Cert.ProjectRefIdeal.nD Cert.ProjectRefIdeal.τ).loc Cert.ProjectRefIdeal.main_v25) = v4 c
          ∧ r.2.mem ((c.tc : Thread Cert.ProjectRefIdeal.nD Cert.ProjectRefIdeal.τ).loc Cert.ProjectRefIdeal.main_v32) = v5 c
          ∧ r.2.mem ((c.tc : Thread Cert.ProjectRefIdeal.nD Cert.ProjectRefIdeal.τ).loc Cert.ProjectRefIdeal.main_v21) = v6 c
          ∧ r.2.mem ((c.tc : Thread Cert.ProjectRefIdeal.nD Cert.ProjectRefIdeal.τ).loc Cert.ProjectRefIdeal.main_v34) = v7 c
          ∧ r.2.mem ((c.tc : Thread Cert.ProjectRefIdeal.nD Cert.ProjectRefIdeal.τ).loc Cert.ProjectRefIdeal.main_v35) = v8 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v10_0)) (v1 : (c : Dev Cert.TailIdeal.nD) → Buf (Elt Ideal) ((c.tc : Thread Cert.TailIdeal.nD Cert.TailIdeal.τ).loc Cert.TailIdeal.main_v10_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v10_0) = v0 c
          ∧ r.2.mem ((c.tc : Thread Cert.TailIdeal.nD Cert.TailIdeal.τ).loc Cert.TailIdeal.main_v10_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v67) = v0 c
          ∧ r.2.mem ((c.tc : Thread Cert.TailRefIdeal.nD Cert.TailRefIdeal.τ).loc Cert.TailRefIdeal.main_v68) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_ProjectS_ProjectSIdeal : Prop :=
  True

def algebraic_ProjectSIdeal_ProjectSRefIdeal [hProjectSIdeal : Cert.ProjectSIdeal.Facts] [hProjectSRefIdeal : Cert.ProjectSRefIdeal.Facts] : Prop :=
  ∀ (m : (ℓ : Loc Cert.ProjectSIdeal.nD Cert.ProjectSIdeal.τ Cert.ProjectSIdeal.sig) → Buf (Elt Ideal) ℓ) (g : Dev Cert.ProjectSIdeal.nD → PrngReg)
    (m' : (ℓ : Loc Cert.ProjectSRefIdeal.nD Cert.ProjectSRefIdeal.τ Cert.ProjectSRefIdeal.sig) → Buf (Elt Ideal) ℓ) (g' : Dev Cert.ProjectSRefIdeal.nD → PrngReg), Pre_ProjectSIdeal m →
    (∀ c : Dev Cert.ProjectSIdeal.nD,
      m' ((c.tc : Thread Cert.ProjectSRefIdeal.nD Cert.ProjectSRefIdeal.τ).loc Cert.ProjectSRefIdeal.main_arg0) = m ((c.tc : Thread Cert.ProjectSIdeal.nD Cert.ProjectSIdeal.τ).loc Cert.ProjectSIdeal.main_arg0)
      ∧ m' ((c.tc : Thread Cert.ProjectSRefIdeal.nD Cert.ProjectSRefIdeal.τ).loc Cert.ProjectSRefIdeal.main_arg1) = m ((c.tc : Thread Cert.ProjectSIdeal.nD Cert.ProjectSIdeal.τ).loc Cert.ProjectSIdeal.main_arg1)
      ∧ m' ((c.tc : Thread Cert.ProjectSRefIdeal.nD Cert.ProjectSRefIdeal.τ).loc Cert.ProjectSRefIdeal.main_arg2) = m ((c.tc : Thread Cert.ProjectSIdeal.nD Cert.ProjectSIdeal.τ).loc Cert.ProjectSIdeal.main_arg2)) →
    ∃ (v0 : (c : Dev Cert.ProjectSIdeal.nD) → Buf (Elt Ideal) ((c.tc : Thread Cert.ProjectSIdeal.nD Cert.ProjectSIdeal.τ).loc Cert.ProjectSIdeal.main_v13_0)) (v1 : (c : Dev Cert.ProjectSIdeal.nD) → Buf (Elt Ideal) ((c.tc : Thread Cert.ProjectSIdeal.nD Cert.ProjectSIdeal.τ).loc Cert.ProjectSIdeal.main_v13_1)) (v2 : (c : Dev Cert.ProjectSIdeal.nD) → Buf (Elt Ideal) ((c.tc : Thread Cert.ProjectSIdeal.nD Cert.ProjectSIdeal.τ).loc Cert.ProjectSIdeal.main_v13_2)) (v3 : (c : Dev Cert.ProjectSIdeal.nD) → Buf (Elt Ideal) ((c.tc : Thread Cert.ProjectSIdeal.nD Cert.ProjectSIdeal.τ).loc Cert.ProjectSIdeal.main_v13_3)) (v4 : (c : Dev Cert.ProjectSIdeal.nD) → Buf (Elt Ideal) ((c.tc : Thread Cert.ProjectSIdeal.nD Cert.ProjectSIdeal.τ).loc Cert.ProjectSIdeal.main_v13_4)) (v5 : (c : Dev Cert.ProjectSIdeal.nD) → Buf (Elt Ideal) ((c.tc : Thread Cert.ProjectSIdeal.nD Cert.ProjectSIdeal.τ).loc Cert.ProjectSIdeal.main_v13_5)) (v6 : (c : Dev Cert.ProjectSIdeal.nD) → Buf (Elt Ideal) ((c.tc : Thread Cert.ProjectSIdeal.nD Cert.ProjectSIdeal.τ).loc Cert.ProjectSIdeal.main_v13_6)) (v7 : (c : Dev Cert.ProjectSIdeal.nD) → Buf (Elt Ideal) ((c.tc : Thread Cert.ProjectSIdeal.nD Cert.ProjectSIdeal.τ).loc Cert.ProjectSIdeal.main_v13_7)) (v8 : (c : Dev Cert.ProjectSIdeal.nD) → Buf (Elt Ideal) ((c.tc : Thread Cert.ProjectSIdeal.nD Cert.ProjectSIdeal.τ).loc Cert.ProjectSIdeal.main_v13_8)),
      θ_run (Cert.ProjectSIdeal.defs (F := Ideal)) (onTc (τ := Cert.ProjectSIdeal.τ) (Cert.ProjectSIdeal.main (F := Ideal))) ⟨m, fun _ => 0, g⟩ (fun r => ∀ c : Dev Cert.ProjectSIdeal.nD,
          r.2.mem ((c.tc : Thread Cert.ProjectSIdeal.nD Cert.ProjectSIdeal.τ).loc Cert.ProjectSIdeal.main_v13_0) = v0 c
          ∧ r.2.mem ((c.tc : Thread Cert.ProjectSIdeal.nD Cert.ProjectSIdeal.τ).loc Cert.ProjectSIdeal.main_v13_1) = v1 c
          ∧ r.2.mem ((c.tc : Thread Cert.ProjectSIdeal.nD Cert.ProjectSIdeal.τ).loc Cert.ProjectSIdeal.main_v13_2) = v2 c
          ∧ r.2.mem ((c.tc : Thread Cert.ProjectSIdeal.nD Cert.ProjectSIdeal.τ).loc Cert.ProjectSIdeal.main_v13_3) = v3 c
          ∧ r.2.mem ((c.tc : Thread Cert.ProjectSIdeal.nD Cert.ProjectSIdeal.τ).loc Cert.ProjectSIdeal.main_v13_4) = v4 c
          ∧ r.2.mem ((c.tc : Thread Cert.ProjectSIdeal.nD Cert.ProjectSIdeal.τ).loc Cert.ProjectSIdeal.main_v13_5) = v5 c
          ∧ r.2.mem ((c.tc : Thread Cert.ProjectSIdeal.nD Cert.ProjectSIdeal.τ).loc Cert.ProjectSIdeal.main_v13_6) = v6 c
          ∧ r.2.mem ((c.tc : Thread Cert.ProjectSIdeal.nD Cert.ProjectSIdeal.τ).loc Cert.ProjectSIdeal.main_v13_7) = v7 c
          ∧ r.2.mem ((c.tc : Thread Cert.ProjectSIdeal.nD Cert.ProjectSIdeal.τ).loc Cert.ProjectSIdeal.main_v13_8) = v8 c
          ∧ r.2.mem ((c.tc : Thread Cert.ProjectSIdeal.nD Cert.ProjectSIdeal.τ).loc Cert.ProjectSIdeal.main_arg0) = m ((c.tc : Thread Cert.ProjectSIdeal.nD Cert.ProjectSIdeal.τ).loc Cert.ProjectSIdeal.main_arg0)
          ∧ r.2.mem ((c.tc : Thread Cert.ProjectSIdeal.nD Cert.ProjectSIdeal.τ).loc Cert.ProjectSIdeal.main_arg1) = m ((c.tc : Thread Cert.ProjectSIdeal.nD Cert.ProjectSIdeal.τ).loc Cert.ProjectSIdeal.main_arg1)
          ∧ r.2.mem ((c.tc : Thread Cert.ProjectSIdeal.nD Cert.ProjectSIdeal.τ).loc Cert.ProjectSIdeal.main_arg2) = m ((c.tc : Thread Cert.ProjectSIdeal.nD Cert.ProjectSIdeal.τ).loc Cert.ProjectSIdeal.main_arg2))
      ∧ θ_run (Cert.ProjectSRefIdeal.defs (F := Ideal)) (onTc (τ := Cert.ProjectSRefIdeal.τ) (Cert.ProjectSRefIdeal.main (F := Ideal))) ⟨m', fun _ => 0, g'⟩ (fun r => ∀ c : Dev Cert.ProjectSRefIdeal.nD,
          r.2.mem ((c.tc : Thread Cert.ProjectSRefIdeal.nD Cert.ProjectSRefIdeal.τ).loc Cert.ProjectSRefIdeal.main_v27) = v0 c
          ∧ r.2.mem ((c.tc : Thread Cert.ProjectSRefIdeal.nD Cert.ProjectSRefIdeal.τ).loc Cert.ProjectSRefIdeal.main_v29) = v1 c
          ∧ r.2.mem ((c.tc : Thread Cert.ProjectSRefIdeal.nD Cert.ProjectSRefIdeal.τ).loc Cert.ProjectSRefIdeal.main_v31) = v2 c
          ∧ r.2.mem ((c.tc : Thread Cert.ProjectSRefIdeal.nD Cert.ProjectSRefIdeal.τ).loc Cert.ProjectSRefIdeal.main_v32) = v3 c
          ∧ r.2.mem ((c.tc : Thread Cert.ProjectSRefIdeal.nD Cert.ProjectSRefIdeal.τ).loc Cert.ProjectSRefIdeal.main_v33) = v4 c
          ∧ r.2.mem ((c.tc : Thread Cert.ProjectSRefIdeal.nD Cert.ProjectSRefIdeal.τ).loc Cert.ProjectSRefIdeal.main_v36) = v5 c
          ∧ r.2.mem ((c.tc : Thread Cert.ProjectSRefIdeal.nD Cert.ProjectSRefIdeal.τ).loc Cert.ProjectSRefIdeal.main_v37) = v6 c
          ∧ r.2.mem ((c.tc : Thread Cert.ProjectSRefIdeal.nD Cert.ProjectSRefIdeal.τ).loc Cert.ProjectSRefIdeal.main_v40) = v7 c
          ∧ r.2.mem ((c.tc : Thread Cert.ProjectSRefIdeal.nD Cert.ProjectSRefIdeal.τ).loc Cert.ProjectSRefIdeal.main_v42) = v8 c
          ∧ r.2.mem ((c.tc : Thread Cert.ProjectSRefIdeal.nD Cert.ProjectSRefIdeal.τ).loc Cert.ProjectSRefIdeal.main_arg0) = m' ((c.tc : Thread Cert.ProjectSRefIdeal.nD Cert.ProjectSRefIdeal.τ).loc Cert.ProjectSRefIdeal.main_arg0)
          ∧ r.2.mem ((c.tc : Thread Cert.ProjectSRefIdeal.nD Cert.ProjectSRefIdeal.τ).loc Cert.ProjectSRefIdeal.main_arg1) = m' ((c.tc : Thread Cert.ProjectSRefIdeal.nD Cert.ProjectSRefIdeal.τ).loc Cert.ProjectSRefIdeal.main_arg1)
          ∧ r.2.mem ((c.tc : Thread Cert.ProjectSRefIdeal.nD Cert.ProjectSRefIdeal.τ).loc Cert.ProjectSRefIdeal.main_arg2) = m' ((c.tc : Thread Cert.ProjectSRefIdeal.nD Cert.ProjectSRefIdeal.τ).loc Cert.ProjectSRefIdeal.main_arg2))

def preserves_TailS_TailSIdeal : Prop :=
  True

def algebraic_TailSIdeal_TailSRefIdeal [hTailSIdeal : Cert.TailSIdeal.Facts] [hTailSRefIdeal : Cert.TailSRefIdeal.Facts] : Prop :=
  ∀ (m : (ℓ : Loc Cert.TailSIdeal.nD Cert.TailSIdeal.τ Cert.TailSIdeal.sig) → Buf (Elt Ideal) ℓ) (g : Dev Cert.TailSIdeal.nD → PrngReg)
    (m' : (ℓ : Loc Cert.TailSRefIdeal.nD Cert.TailSRefIdeal.τ Cert.TailSRefIdeal.sig) → Buf (Elt Ideal) ℓ) (g' : Dev Cert.TailSRefIdeal.nD → PrngReg), Pre_TailSIdeal m →
    (∀ c : Dev Cert.TailSIdeal.nD,
      m' ((c.tc : Thread Cert.TailSRefIdeal.nD Cert.TailSRefIdeal.τ).loc Cert.TailSRefIdeal.main_arg0) = m ((c.tc : Thread Cert.TailSIdeal.nD Cert.TailSIdeal.τ).loc Cert.TailSIdeal.main_arg0)
      ∧ m' ((c.tc : Thread Cert.TailSRefIdeal.nD Cert.TailSRefIdeal.τ).loc Cert.TailSRefIdeal.main_arg1) = m ((c.tc : Thread Cert.TailSIdeal.nD Cert.TailSIdeal.τ).loc Cert.TailSIdeal.main_arg1)
      ∧ m' ((c.tc : Thread Cert.TailSRefIdeal.nD Cert.TailSRefIdeal.τ).loc Cert.TailSRefIdeal.main_arg2) = m ((c.tc : Thread Cert.TailSIdeal.nD Cert.TailSIdeal.τ).loc Cert.TailSIdeal.main_arg2)
      ∧ m' ((c.tc : Thread Cert.TailSRefIdeal.nD Cert.TailSRefIdeal.τ).loc Cert.TailSRefIdeal.main_arg3) = m ((c.tc : Thread Cert.TailSIdeal.nD Cert.TailSIdeal.τ).loc Cert.TailSIdeal.main_arg3)
      ∧ m' ((c.tc : Thread Cert.TailSRefIdeal.nD Cert.TailSRefIdeal.τ).loc Cert.TailSRefIdeal.main_arg4) = m ((c.tc : Thread Cert.TailSIdeal.nD Cert.TailSIdeal.τ).loc Cert.TailSIdeal.main_arg4)
      ∧ m' ((c.tc : Thread Cert.TailSRefIdeal.nD Cert.TailSRefIdeal.τ).loc Cert.TailSRefIdeal.main_arg5) = m ((c.tc : Thread Cert.TailSIdeal.nD Cert.TailSIdeal.τ).loc Cert.TailSIdeal.main_arg5)
      ∧ m' ((c.tc : Thread Cert.TailSRefIdeal.nD Cert.TailSRefIdeal.τ).loc Cert.TailSRefIdeal.main_arg6) = m ((c.tc : Thread Cert.TailSIdeal.nD Cert.TailSIdeal.τ).loc Cert.TailSIdeal.main_arg6)
      ∧ m' ((c.tc : Thread Cert.TailSRefIdeal.nD Cert.TailSRefIdeal.τ).loc Cert.TailSRefIdeal.main_arg7) = m ((c.tc : Thread Cert.TailSIdeal.nD Cert.TailSIdeal.τ).loc Cert.TailSIdeal.main_arg7)
      ∧ m' ((c.tc : Thread Cert.TailSRefIdeal.nD Cert.TailSRefIdeal.τ).loc Cert.TailSRefIdeal.main_arg8) = m ((c.tc : Thread Cert.TailSIdeal.nD Cert.TailSIdeal.τ).loc Cert.TailSIdeal.main_arg8)
      ∧ m' ((c.tc : Thread Cert.TailSRefIdeal.nD Cert.TailSRefIdeal.τ).loc Cert.TailSRefIdeal.main_arg9) = m ((c.tc : Thread Cert.TailSIdeal.nD Cert.TailSIdeal.τ).loc Cert.TailSIdeal.main_arg9)) →
    ∃ (v0 : (c : Dev Cert.TailSIdeal.nD) → Buf (Elt Ideal) ((c.tc : Thread Cert.TailSIdeal.nD Cert.TailSIdeal.τ).loc Cert.TailSIdeal.main_v15_0)) (v1 : (c : Dev Cert.TailSIdeal.nD) → Buf (Elt Ideal) ((c.tc : Thread Cert.TailSIdeal.nD Cert.TailSIdeal.τ).loc Cert.TailSIdeal.main_v15_1)),
      θ_run (Cert.TailSIdeal.defs (F := Ideal)) (onTc (τ := Cert.TailSIdeal.τ) (Cert.TailSIdeal.main (F := Ideal))) ⟨m, fun _ => 0, g⟩ (fun r => ∀ c : Dev Cert.TailSIdeal.nD,
          r.2.mem ((c.tc : Thread Cert.TailSIdeal.nD Cert.TailSIdeal.τ).loc Cert.TailSIdeal.main_v15_0) = v0 c
          ∧ r.2.mem ((c.tc : Thread Cert.TailSIdeal.nD Cert.TailSIdeal.τ).loc Cert.TailSIdeal.main_v15_1) = v1 c
          ∧ r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
          ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
          ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
          ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
          ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
          ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
          ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
          ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
          ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
          ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9))
      ∧ θ_run (Cert.TailSRefIdeal.defs (F := Ideal)) (onTc (τ := Cert.TailSRefIdeal.τ) (Cert.TailSRefIdeal.main (F := Ideal))) ⟨m', fun _ => 0, g'⟩ (fun r => ∀ c : Dev Cert.TailSRefIdeal.nD,
          r.2.mem ((c.tc : Thread Cert.TailSRefIdeal.nD Cert.TailSRefIdeal.τ).loc Cert.TailSRefIdeal.main_v69) = v0 c
          ∧ r.2.mem ((c.tc : Thread Cert.TailSRefIdeal.nD Cert.TailSRefIdeal.τ).loc Cert.TailSRefIdeal.main_v70) = v1 c
          ∧ r.2.mem ((c.tc : Thread Cert.TailSRefIdeal.nD Cert.TailSRefIdeal.τ).loc Cert.TailSRefIdeal.main_arg0) = m' ((c.tc : Thread Cert.TailSRefIdeal.nD Cert.TailSRefIdeal.τ).loc Cert.TailSRefIdeal.main_arg0)
          ∧ r.2.mem ((c.tc : Thread Cert.TailSRefIdeal.nD Cert.TailSRefIdeal.τ).loc Cert.TailSRefIdeal.main_arg1) = m' ((c.tc : Thread Cert.TailSRefIdeal.nD Cert.TailSRefIdeal.τ).loc Cert.TailSRefIdeal.main_arg1)
          ∧ r.2.mem ((c.tc : Thread Cert.TailSRefIdeal.nD Cert.TailSRefIdeal.τ).loc Cert.TailSRefIdeal.main_arg2) = m' ((c.tc : Thread Cert.TailSRefIdeal.nD Cert.TailSRefIdeal.τ).loc Cert.TailSRefIdeal.main_arg2)
          ∧ r.2.mem ((c.tc : Thread Cert.TailSRefIdeal.nD Cert.TailSRefIdeal.τ).loc Cert.TailSRefIdeal.main_arg3) = m' ((c.tc : Thread Cert.TailSRefIdeal.nD Cert.TailSRefIdeal.τ).loc Cert.TailSRefIdeal.main_arg3)
          ∧ r.2.mem ((c.tc : Thread Cert.TailSRefIdeal.nD Cert.TailSRefIdeal.τ).loc Cert.TailSRefIdeal.main_arg4) = m' ((c.tc : Thread Cert.TailSRefIdeal.nD Cert.TailSRefIdeal.τ).loc Cert.TailSRefIdeal.main_arg4)
          ∧ r.2.mem ((c.tc : Thread Cert.TailSRefIdeal.nD Cert.TailSRefIdeal.τ).loc Cert.TailSRefIdeal.main_arg5) = m' ((c.tc : Thread Cert.TailSRefIdeal.nD Cert.TailSRefIdeal.τ).loc Cert.TailSRefIdeal.main_arg5)
          ∧ r.2.mem ((c.tc : Thread Cert.TailSRefIdeal.nD Cert.TailSRefIdeal.τ).loc Cert.TailSRefIdeal.main_arg6) = m' ((c.tc : Thread Cert.TailSRefIdeal.nD Cert.TailSRefIdeal.τ).loc Cert.TailSRefIdeal.main_arg6)
          ∧ r.2.mem ((c.tc : Thread Cert.TailSRefIdeal.nD Cert.TailSRefIdeal.τ).loc Cert.TailSRefIdeal.main_arg7) = m' ((c.tc : Thread Cert.TailSRefIdeal.nD Cert.TailSRefIdeal.τ).loc Cert.TailSRefIdeal.main_arg7)
          ∧ r.2.mem ((c.tc : Thread Cert.TailSRefIdeal.nD Cert.TailSRefIdeal.τ).loc Cert.TailSRefIdeal.main_arg8) = m' ((c.tc : Thread Cert.TailSRefIdeal.nD Cert.TailSRefIdeal.τ).loc Cert.TailSRefIdeal.main_arg8)
          ∧ r.2.mem ((c.tc : Thread Cert.TailSRefIdeal.nD Cert.TailSRefIdeal.τ).loc Cert.TailSRefIdeal.main_arg9) = m' ((c.tc : Thread Cert.TailSRefIdeal.nD Cert.TailSRefIdeal.τ).loc Cert.TailSRefIdeal.main_arg9))

def preserves_DeltaS_DeltaSIdeal : Prop :=
  True

def algebraic_DeltaSIdeal_DeltaSRefIdeal_pre_finite_values [hDeltaSIdeal : Cert.DeltaSIdeal.Facts] [hDeltaSRefIdeal : Cert.DeltaSRefIdeal.Facts] [hPre_finite_values : Cert.Pre_finite_values.Facts] : Prop :=
  ∀ (m : (ℓ : Loc Cert.DeltaSIdeal.nD Cert.DeltaSIdeal.τ Cert.DeltaSIdeal.sig) → Buf (Elt Ideal) ℓ) (g : Dev Cert.DeltaSIdeal.nD → PrngReg)
    (m' : (ℓ : Loc Cert.DeltaSRefIdeal.nD Cert.DeltaSRefIdeal.τ Cert.DeltaSRefIdeal.sig) → Buf (Elt Ideal) ℓ) (g' : Dev Cert.DeltaSRefIdeal.nD → PrngReg), Pre_DeltaSIdeal_finite_values m →
    (∀ c : Dev Cert.DeltaSIdeal.nD,
      m' ((c.tc : Thread Cert.DeltaSRefIdeal.nD Cert.DeltaSRefIdeal.τ).loc Cert.DeltaSRefIdeal.main_arg0) = m ((c.tc : Thread Cert.DeltaSIdeal.nD Cert.DeltaSIdeal.τ).loc Cert.DeltaSIdeal.main_arg0)
      ∧ m' ((c.tc : Thread Cert.DeltaSRefIdeal.nD Cert.DeltaSRefIdeal.τ).loc Cert.DeltaSRefIdeal.main_arg1) = m ((c.tc : Thread Cert.DeltaSIdeal.nD Cert.DeltaSIdeal.τ).loc Cert.DeltaSIdeal.main_arg1)
      ∧ m' ((c.tc : Thread Cert.DeltaSRefIdeal.nD Cert.DeltaSRefIdeal.τ).loc Cert.DeltaSRefIdeal.main_arg2) = m ((c.tc : Thread Cert.DeltaSIdeal.nD Cert.DeltaSIdeal.τ).loc Cert.DeltaSIdeal.main_arg2)
      ∧ m' ((c.tc : Thread Cert.DeltaSRefIdeal.nD Cert.DeltaSRefIdeal.τ).loc Cert.DeltaSRefIdeal.main_arg3) = m ((c.tc : Thread Cert.DeltaSIdeal.nD Cert.DeltaSIdeal.τ).loc Cert.DeltaSIdeal.main_arg3)
      ∧ m' ((c.tc : Thread Cert.DeltaSRefIdeal.nD Cert.DeltaSRefIdeal.τ).loc Cert.DeltaSRefIdeal.main_arg4) = m ((c.tc : Thread Cert.DeltaSIdeal.nD Cert.DeltaSIdeal.τ).loc Cert.DeltaSIdeal.main_arg4)
      ∧ m' ((c.tc : Thread Cert.DeltaSRefIdeal.nD Cert.DeltaSRefIdeal.τ).loc Cert.DeltaSRefIdeal.main_arg5) = m ((c.tc : Thread Cert.DeltaSIdeal.nD Cert.DeltaSIdeal.τ).loc Cert.DeltaSIdeal.main_arg5)
      ∧ m' ((c.tc : Thread Cert.DeltaSRefIdeal.nD Cert.DeltaSRefIdeal.τ).loc Cert.DeltaSRefIdeal.main_arg6) = m ((c.tc : Thread Cert.DeltaSIdeal.nD Cert.DeltaSIdeal.τ).loc Cert.DeltaSIdeal.main_arg6)
      ∧ m' ((c.tc : Thread Cert.DeltaSRefIdeal.nD Cert.DeltaSRefIdeal.τ).loc Cert.DeltaSRefIdeal.main_arg7) = m ((c.tc : Thread Cert.DeltaSIdeal.nD Cert.DeltaSIdeal.τ).loc Cert.DeltaSIdeal.main_arg7)
      ∧ m' ((c.tc : Thread Cert.DeltaSRefIdeal.nD Cert.DeltaSRefIdeal.τ).loc Cert.DeltaSRefIdeal.main_arg8) = m ((c.tc : Thread Cert.DeltaSIdeal.nD Cert.DeltaSIdeal.τ).loc Cert.DeltaSIdeal.main_arg8)) →
    ∃ (v0 : (c : Dev Cert.DeltaSIdeal.nD) → Buf (Elt Ideal) ((c.tc : Thread Cert.DeltaSIdeal.nD Cert.DeltaSIdeal.τ).loc Cert.DeltaSIdeal.main_v15_1)),
      θ_run (Cert.DeltaSIdeal.defs (F := Ideal)) (onTc (τ := Cert.DeltaSIdeal.τ) (Cert.DeltaSIdeal.main (F := Ideal))) ⟨m, fun _ => 0, g⟩ (fun r => ∀ c : Dev Cert.DeltaSIdeal.nD,
          r.2.mem ((c.tc : Thread Cert.DeltaSIdeal.nD Cert.DeltaSIdeal.τ).loc Cert.DeltaSIdeal.main_v15_1) = v0 c
          ∧ r.2.mem ((c.tc : Thread Cert.DeltaSIdeal.nD Cert.DeltaSIdeal.τ).loc Cert.DeltaSIdeal.main_arg0) = m ((c.tc : Thread Cert.DeltaSIdeal.nD Cert.DeltaSIdeal.τ).loc Cert.DeltaSIdeal.main_arg0)
          ∧ r.2.mem ((c.tc : Thread Cert.DeltaSIdeal.nD Cert.DeltaSIdeal.τ).loc Cert.DeltaSIdeal.main_arg1) = m ((c.tc : Thread Cert.DeltaSIdeal.nD Cert.DeltaSIdeal.τ).loc Cert.DeltaSIdeal.main_arg1)
          ∧ r.2.mem ((c.tc : Thread Cert.DeltaSIdeal.nD Cert.DeltaSIdeal.τ).loc Cert.DeltaSIdeal.main_arg2) = m ((c.tc : Thread Cert.DeltaSIdeal.nD Cert.DeltaSIdeal.τ).loc Cert.DeltaSIdeal.main_arg2)
          ∧ r.2.mem ((c.tc : Thread Cert.DeltaSIdeal.nD Cert.DeltaSIdeal.τ).loc Cert.DeltaSIdeal.main_arg3) = m ((c.tc : Thread Cert.DeltaSIdeal.nD Cert.DeltaSIdeal.τ).loc Cert.DeltaSIdeal.main_arg3)
          ∧ r.2.mem ((c.tc : Thread Cert.DeltaSIdeal.nD Cert.DeltaSIdeal.τ).loc Cert.DeltaSIdeal.main_arg4) = m ((c.tc : Thread Cert.DeltaSIdeal.nD Cert.DeltaSIdeal.τ).loc Cert.DeltaSIdeal.main_arg4)
          ∧ r.2.mem ((c.tc : Thread Cert.DeltaSIdeal.nD Cert.DeltaSIdeal.τ).loc Cert.DeltaSIdeal.main_arg5) = m ((c.tc : Thread Cert.DeltaSIdeal.nD Cert.DeltaSIdeal.τ).loc Cert.DeltaSIdeal.main_arg5)
          ∧ r.2.mem ((c.tc : Thread Cert.DeltaSIdeal.nD Cert.DeltaSIdeal.τ).loc Cert.DeltaSIdeal.main_arg6) = m ((c.tc : Thread Cert.DeltaSIdeal.nD Cert.DeltaSIdeal.τ).loc Cert.DeltaSIdeal.main_arg6)
          ∧ r.2.mem ((c.tc : Thread Cert.DeltaSIdeal.nD Cert.DeltaSIdeal.τ).loc Cert.DeltaSIdeal.main_arg7) = m ((c.tc : Thread Cert.DeltaSIdeal.nD Cert.DeltaSIdeal.τ).loc Cert.DeltaSIdeal.main_arg7)
          ∧ r.2.mem ((c.tc : Thread Cert.DeltaSIdeal.nD Cert.DeltaSIdeal.τ).loc Cert.DeltaSIdeal.main_arg8) = m ((c.tc : Thread Cert.DeltaSIdeal.nD Cert.DeltaSIdeal.τ).loc Cert.DeltaSIdeal.main_arg8))
      ∧ θ_run (Cert.DeltaSRefIdeal.defs (F := Ideal)) (onTc (τ := Cert.DeltaSRefIdeal.τ) (Cert.DeltaSRefIdeal.main (F := Ideal))) ⟨m', fun _ => 0, g'⟩ (fun r => ∀ c : Dev Cert.DeltaSRefIdeal.nD,
          r.2.mem ((c.tc : Thread Cert.DeltaSRefIdeal.nD Cert.DeltaSRefIdeal.τ).loc Cert.DeltaSRefIdeal.main_v155) = v0 c
          ∧ r.2.mem ((c.tc : Thread Cert.DeltaSRefIdeal.nD Cert.DeltaSRefIdeal.τ).loc Cert.DeltaSRefIdeal.main_arg0) = m' ((c.tc : Thread Cert.DeltaSRefIdeal.nD Cert.DeltaSRefIdeal.τ).loc Cert.DeltaSRefIdeal.main_arg0)
          ∧ r.2.mem ((c.tc : Thread Cert.DeltaSRefIdeal.nD Cert.DeltaSRefIdeal.τ).loc Cert.DeltaSRefIdeal.main_arg1) = m' ((c.tc : Thread Cert.DeltaSRefIdeal.nD Cert.DeltaSRefIdeal.τ).loc Cert.DeltaSRefIdeal.main_arg1)
          ∧ r.2.mem ((c.tc : Thread Cert.DeltaSRefIdeal.nD Cert.DeltaSRefIdeal.τ).loc Cert.DeltaSRefIdeal.main_arg2) = m' ((c.tc : Thread Cert.DeltaSRefIdeal.nD Cert.DeltaSRefIdeal.τ).loc Cert.DeltaSRefIdeal.main_arg2)
          ∧ r.2.mem ((c.tc : Thread Cert.DeltaSRefIdeal.nD Cert.DeltaSRefIdeal.τ).loc Cert.DeltaSRefIdeal.main_arg3) = m' ((c.tc : Thread Cert.DeltaSRefIdeal.nD Cert.DeltaSRefIdeal.τ).loc Cert.DeltaSRefIdeal.main_arg3)
          ∧ r.2.mem ((c.tc : Thread Cert.DeltaSRefIdeal.nD Cert.DeltaSRefIdeal.τ).loc Cert.DeltaSRefIdeal.main_arg4) = m' ((c.tc : Thread Cert.DeltaSRefIdeal.nD Cert.DeltaSRefIdeal.τ).loc Cert.DeltaSRefIdeal.main_arg4)
          ∧ r.2.mem ((c.tc : Thread Cert.DeltaSRefIdeal.nD Cert.DeltaSRefIdeal.τ).loc Cert.DeltaSRefIdeal.main_arg5) = m' ((c.tc : Thread Cert.DeltaSRefIdeal.nD Cert.DeltaSRefIdeal.τ).loc Cert.DeltaSRefIdeal.main_arg5)
          ∧ r.2.mem ((c.tc : Thread Cert.DeltaSRefIdeal.nD Cert.DeltaSRefIdeal.τ).loc Cert.DeltaSRefIdeal.main_arg6) = m' ((c.tc : Thread Cert.DeltaSRefIdeal.nD Cert.DeltaSRefIdeal.τ).loc Cert.DeltaSRefIdeal.main_arg6)
          ∧ r.2.mem ((c.tc : Thread Cert.DeltaSRefIdeal.nD Cert.DeltaSRefIdeal.τ).loc Cert.DeltaSRefIdeal.main_arg7) = m' ((c.tc : Thread Cert.DeltaSRefIdeal.nD Cert.DeltaSRefIdeal.τ).loc Cert.DeltaSRefIdeal.main_arg7)
          ∧ r.2.mem ((c.tc : Thread Cert.DeltaSRefIdeal.nD Cert.DeltaSRefIdeal.τ).loc Cert.DeltaSRefIdeal.main_arg8) = m' ((c.tc : Thread Cert.DeltaSRefIdeal.nD Cert.DeltaSRefIdeal.τ).loc Cert.DeltaSRefIdeal.main_arg8))

def Claim : Prop :=
  ∃ (hProject : Cert.Project.Facts) (hProjectIdeal : Cert.ProjectIdeal.Facts) (hProjectRefIdeal : Cert.ProjectRefIdeal.Facts) (hTail : Cert.Tail.Facts) (hTailIdeal : Cert.TailIdeal.Facts) (hTailRefIdeal : Cert.TailRefIdeal.Facts) (hProjectS : Cert.ProjectS.Facts) (hProjectSIdeal : Cert.ProjectSIdeal.Facts) (hProjectSRefIdeal : Cert.ProjectSRefIdeal.Facts) (hTailS : Cert.TailS.Facts) (hTailSIdeal : Cert.TailSIdeal.Facts) (hTailSRefIdeal : Cert.TailSRefIdeal.Facts) (hDeltaS : Cert.DeltaS.Facts) (hDeltaSIdeal : Cert.DeltaSIdeal.Facts) (hDeltaSRefIdeal : Cert.DeltaSRefIdeal.Facts) (hPre_finite_values : Cert.Pre_finite_values.Facts),
    quiescent_Project (hProject := hProject)
    ∧ quiescent_ProjectIdeal (hProjectIdeal := hProjectIdeal)
    ∧ quiescent_ProjectRefIdeal (hProjectRefIdeal := hProjectRefIdeal)
    ∧ quiescent_Tail (hTail := hTail)
    ∧ quiescent_TailIdeal (hTailIdeal := hTailIdeal)
    ∧ quiescent_TailRefIdeal (hTailRefIdeal := hTailRefIdeal)
    ∧ quiescent_ProjectS (hProjectS := hProjectS)
    ∧ quiescent_ProjectSIdeal (hProjectSIdeal := hProjectSIdeal)
    ∧ quiescent_ProjectSRefIdeal (hProjectSRefIdeal := hProjectSRefIdeal)
    ∧ quiescent_TailS (hTailS := hTailS)
    ∧ quiescent_TailSIdeal (hTailSIdeal := hTailSIdeal)
    ∧ quiescent_TailSRefIdeal (hTailSRefIdeal := hTailSRefIdeal)
    ∧ quiescent_DeltaS (hDeltaS := hDeltaS)
    ∧ quiescent_DeltaSIdeal (hDeltaSIdeal := hDeltaSIdeal)
    ∧ quiescent_DeltaSIdeal_pre_finite_values (hDeltaSIdeal := hDeltaSIdeal) (hPre_finite_values := hPre_finite_values)
    ∧ quiescent_DeltaSRefIdeal (hDeltaSRefIdeal := hDeltaSRefIdeal)
    ∧ quiescent_DeltaSRefIdeal_pre_finite_values (hDeltaSRefIdeal := hDeltaSRefIdeal) (hPre_finite_values := hPre_finite_values)
    ∧ preserves_Project_ProjectIdeal
    ∧ algebraic_ProjectIdeal_ProjectRefIdeal (hProjectIdeal := hProjectIdeal) (hProjectRefIdeal := hProjectRefIdeal)
    ∧ preserves_Tail_TailIdeal
    ∧ algebraic_TailIdeal_TailRefIdeal (hTailIdeal := hTailIdeal) (hTailRefIdeal := hTailRefIdeal)
    ∧ preserves_ProjectS_ProjectSIdeal
    ∧ algebraic_ProjectSIdeal_ProjectSRefIdeal (hProjectSIdeal := hProjectSIdeal) (hProjectSRefIdeal := hProjectSRefIdeal)
    ∧ preserves_TailS_TailSIdeal
    ∧ algebraic_TailSIdeal_TailSRefIdeal (hTailSIdeal := hTailSIdeal) (hTailSRefIdeal := hTailSRefIdeal)
    ∧ preserves_DeltaS_DeltaSIdeal
    ∧ algebraic_DeltaSIdeal_DeltaSRefIdeal_pre_finite_values (hDeltaSIdeal := hDeltaSIdeal) (hDeltaSRefIdeal := hDeltaSRefIdeal) (hPre_finite_values := hPre_finite_values)
-- ==== Pre_finite_values.lean ====
abbrev S32x8x1536 : Shape := ⟨3, ![32, 8, 1536]⟩
abbrev S32x8x128 : Shape := ⟨3, ![32, 8, 128]⟩
abbrev S32x8x512 : Shape := ⟨3, ![32, 8, 512]⟩
abbrev S1x32x4x128x128 : Shape := ⟨5, ![1, 32, 4, 128, 128]⟩
abbrev S1x32x3x1536 : Shape := ⟨4, ![1, 32, 3, 1536]⟩
abbrev S1x4x1536 : Shape := ⟨3, ![1, 4, 1536]⟩
abbrev S1x4 : Shape := ⟨2, ![1, 4]⟩
abbrev S1x128 : Shape := ⟨2, ![1, 128]⟩
abbrev S_ : Shape := ⟨0, ![]⟩
abbrev S1x32x3x512 : Shape := ⟨4, ![1, 32, 3, 512]⟩
abbrev S1x4x512 : Shape := ⟨3, ![1, 4, 512]⟩

class Facts : Prop where
  slices_S32x8x1536_S32x8x512_0_0_1024 : S32x8x1536.Slices ![0, 0, 1024] S32x8x512
  bcast_S_S32x8x512 : S_.BroadcastsInDim S32x8x512 (![] : Fin 0 → Fin S32x8x512.rank)
  slices_S1x32x3x1536_S1x32x3x512_0_0_0_1024 : S1x32x3x1536.Slices ![0, 0, 0, 1024] S1x32x3x512
  bcast_S_S1x32x3x512 : S_.BroadcastsInDim S1x32x3x512 (![] : Fin 0 → Fin S1x32x3x512.rank)
  slices_S1x4x1536_S1x4x512_0_0_1024 : S1x4x1536.Slices ![0, 0, 1024] S1x4x512
  bcast_S_S1x4x512 : S_.BroadcastsInDim S1x4x512 (![] : Fin 0 → Fin S1x4x512.rank)

variable [Facts]

def fn {F : FTy → Type} [FloatOps F] (main_arg0 : FVec F S32x8x1536 .f32) (main_arg1 : FVec F S32x8x128 .f32) (main_arg2 : FVec F S32x8x512 .bf16) (main_arg3 : FVec F S1x32x4x128x128 .f32) (main_arg4 : FVec F S1x32x3x1536 .f32) (main_arg5 : FVec F S1x4x1536 .f32) (main_arg6 : FVec F S1x4 .f32) (main_arg7 : FVec F S1x4 .f32) (main_arg8 : FVec F S1x128 .f32) : IVec S32x8x512 1 × IVec S1x32x3x512 1 × IVec S1x4x512 1 :=
  let main_v0 : FVec F S32x8x512 .f32 := (extractStridedSlice S32x8x512 ![0, 0, 1024] · slices_S32x8x1536_S32x8x512_0_0_1024) main_arg0
  let main_v1 : FVec F S32x8x512 .f32 := Host.absf main_v0
  let main_cst : FVec F S_ .f32 := constant S_ .f32 0x7F800000#32
  let main_v2 : FVec F S32x8x512 .f32 := broadcastInDim S32x8x512 ![] bcast_S_S32x8x512 main_cst
  let main_v3 : IVec S32x8x512 1 := cmpf .olt main_v1 main_v2
  let main_v4 : FVec F S1x32x3x512 .f32 := (extractStridedSlice S1x32x3x512 ![0, 0, 0, 1024] · slices_S1x32x3x1536_S1x32x3x512_0_0_0_1024) main_arg4
  let main_v5 : FVec F S1x32x3x512 .f32 := Host.absf main_v4
  let main_cst_0 : FVec F S_ .f32 := constant S_ .f32 0x7F800000#32
  let main_v6 : FVec F S1x32x3x512 .f32 := broadcastInDim S1x32x3x512 ![] bcast_S_S1x32x3x512 main_cst_0
  let main_v7 : IVec S1x32x3x512 1 := cmpf .olt main_v5 main_v6
  let main_v8 : FVec F S1x4x512 .f32 := (extractStridedSlice S1x4x512 ![0, 0, 1024] · slices_S1x4x1536_S1x4x512_0_0_1024) main_arg5
  let main_v9 : FVec F S1x4x512 .f32 := Host.absf main_v8
  let main_cst_1 : FVec F S_ .f32 := constant S_ .f32 0x7F800000#32
  let main_v10 : FVec F S1x4x512 .f32 := broadcastInDim S1x4x512 ![] bcast_S_S1x4x512 main_cst_1
  let main_v11 : IVec S1x4x512 1 := cmpf .olt main_v9 main_v10
  (main_v3, main_v7, main_v11)
-- ==== Project.lean ====
abbrev S8x4096x1024 : Shape := ⟨3, ![8, 4096, 1024]⟩
abbrev S2x1024 : Shape := ⟨2, ![2, 1024]⟩
abbrev S1x1024x4104 : Shape := ⟨3, ![1, 1024, 4104]⟩
abbrev S1x1024x4096 : Shape := ⟨3, ![1, 1024, 4096]⟩
abbrev S1024x4096 : Shape := ⟨2, ![1024, 4096]⟩
abbrev S1x1024x1024 : Shape := ⟨3, ![1, 1024, 1024]⟩
abbrev S1024x1024 : Shape := ⟨2, ![1024, 1024]⟩
abbrev S1x1024x8 : Shape := ⟨3, ![1, 1024, 8]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S8x4096x512 : Shape := ⟨3, ![8, 4096, 512]⟩
abbrev S8x512x4096 : Shape := ⟨3, ![8, 512, 4096]⟩
abbrev S8x4096x1536 : Shape := ⟨3, ![8, 4096, 1536]⟩
abbrev S8x4096x128 : Shape := ⟨3, ![8, 4096, 128]⟩
abbrev S1x512x1024 : Shape := ⟨3, ![1, 512, 1024]⟩
abbrev S1x512x512 : Shape := ⟨3, ![1, 512, 512]⟩
abbrev S1x512x1536 : Shape := ⟨3, ![1, 512, 1536]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x1536 : Shape := ⟨2, ![1024, 1536]⟩
abbrev S512x1536 : Shape := ⟨2, ![512, 1536]⟩
abbrev S512x128 : Shape := ⟨2, ![512, 128]⟩

abbrev nBuf : Space → Nat
  | .hbm => 26
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x4104, .f32⟩
  | .hbm, ⟨3, _⟩ => ⟨S1x1024x4096, .f32⟩
  | .hbm, ⟨4, _⟩ => ⟨S1024x4096, .f32⟩
  | .hbm, ⟨5, _⟩ => ⟨S1024x4096, .bf16⟩
  | .hbm, ⟨6, _⟩ => ⟨S1x1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x8, .f32⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1x1024, .f32⟩
  | .hbm, ⟨17, _⟩ => ⟨S8x4096x512, .bf16⟩
  | .hbm, ⟨18, _⟩ => ⟨S8x512x4096, .bf16⟩
  | .hbm, ⟨19, _⟩ => ⟨S8x512x4096, .bf16⟩
  | .hbm, ⟨20, _⟩ => ⟨S8x512x4096, .f32⟩
  | .hbm, ⟨21, _⟩ => ⟨S8x512x4096, .f32⟩
  | .hbm, ⟨22, _⟩ => ⟨S8x4096x512, .bf16⟩
  | .hbm, ⟨23, _⟩ => ⟨S8x4096x1536, .f32⟩
  | .hbm, ⟨24, _⟩ => ⟨S8x4096x512, .bf16⟩
  | .hbm, ⟨25, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x1024, .bf16⟩
  | .local _ .vmem, ⟨5, _⟩ => ⟨S1024x128, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .bf16⟩
  | .local _ .vmem, ⟨17, _⟩ => ⟨S1x512x512, .bf16⟩
  | .local _ .vmem, ⟨18, _⟩ => ⟨S1x512x1536, .f32⟩
  | .local _ .vmem, ⟨19, _⟩ => ⟨S1x512x1536, .f32⟩
  | .local _ .vmem, ⟨20, _⟩ => ⟨S1x512x512, .bf16⟩
  | .local _ .vmem, ⟨21, _⟩ => ⟨S1x512x512, .bf16⟩
  | .local _ .vmem, ⟨22, _⟩ => ⟨S1x512x128, .f32⟩
  | .local _ .vmem, ⟨23, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev main_v12_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjectRefIdeal.lean ====
abbrev S8x4096x1024 : Shape := ⟨3, ![8, 4096, 1024]⟩
abbrev S2x1024 : Shape := ⟨2, ![2, 1024]⟩
abbrev S1x1024x4104 : Shape := ⟨3, ![1, 1024, 4104]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4104 : Shape := ⟨2, ![1024, 4104]⟩
abbrev S8x4096x4104 : Shape := ⟨3, ![8, 4096, 4104]⟩
abbrev S8x4096x512 : Shape := ⟨3, ![8, 4096, 512]⟩
abbrev S8x4096x1536 : Shape := ⟨3, ![8, 4096, 1536]⟩
abbrev S8x4096x8 : Shape := ⟨3, ![8, 4096, 8]⟩
abbrev S8x512x4096 : Shape := ⟨3, ![8, 512, 4096]⟩
abbrev S8x4096x128 : Shape := ⟨3, ![8, 4096, 128]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x4104, .f32⟩
  | .hbm, ⟨3, _⟩ => ⟨S1x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1024x4104, .f32⟩
  | .hbm, ⟨22, _⟩ => ⟨S8x4096x4104, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S8x4096x1536, .f32⟩
  | .hbm, ⟨28, _⟩ => ⟨S8x4096x512, .f32⟩
  | .hbm, ⟨29, _⟩ => ⟨S8x4096x8, .f32⟩
  | .hbm, ⟨30, _⟩ => ⟨S8x512x4096, .f32⟩
  | .hbm, ⟨31, _⟩ => ⟨S8x512x4096, .f32⟩
  | .hbm, ⟨32, _⟩ => ⟨S_, .f32⟩
  | .hbm, ⟨33, _⟩ => ⟨S8x4096x512, .f32⟩
  | .hbm, ⟨34, _⟩ => ⟨S8x4096x512, .f32⟩
  | .hbm, ⟨35, _⟩ => ⟨S8x4096x512, .bf16⟩
  | .hbm, ⟨36, _⟩ => ⟨S8x512x4096, .bf16⟩
  | .hbm, ⟨37, _⟩ => ⟨S8x512x4096, .bf16⟩
  | .hbm, ⟨38, _⟩ => ⟨S8x4096x512, .f32⟩
  | .hbm, ⟨39, _⟩ => ⟨S8x4096x512, .f32⟩
  | .hbm, ⟨40, _⟩ => ⟨S_, .f32⟩
  | .hbm, ⟨41, _⟩ => ⟨S8x4096x512, .f32⟩
  | .hbm, ⟨42, _⟩ => ⟨S8x4096x512, .f32⟩
  | .hbm, ⟨43, _⟩ => ⟨S_, .f32⟩
  | .hbm, ⟨44, _⟩ => ⟨S8x4096x512, .f32⟩
  | .hbm, ⟨45, _⟩ => ⟨S8x4096x512, .f32⟩
  | .hbm, ⟨46, _⟩ => ⟨S8x4096x512, .f32⟩
  | .hbm, ⟨47, _⟩ => ⟨S8x4096x512, .bf16⟩
  | .hbm, ⟨48, _⟩ => ⟨S8x4096x512, .f32⟩
  | .hbm, ⟨49, _⟩ => ⟨S8x4096x512, .f32⟩
  | .hbm, ⟨50, _⟩ => ⟨S_, .f32⟩
  | .hbm, ⟨51, _⟩ => ⟨S8x4096x512, .f32⟩
  | .hbm, ⟨52, _⟩ => ⟨S8x4096x512, .f32⟩
  | .hbm, ⟨53, _⟩ => ⟨S_, .f32⟩
  | .hbm, ⟨54, _⟩ => ⟨S8x4096x512, .f32⟩
  | .hbm, ⟨55, _⟩ => ⟨S8x4096x512, .f32⟩
  | .hbm, ⟨56, _⟩ => ⟨S8x4096x512, .f32⟩
  | .hbm, ⟨57, _⟩ => ⟨S8x4096x512, .bf16⟩
  | .hbm, ⟨58, _⟩ => ⟨S_, .i32⟩
  | .hbm, ⟨59, _⟩ => ⟨S_, .f32⟩
  | .hbm, ⟨60, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v31 : Ref sig .tc := ⟨.hbm, 46, rfl⟩
abbrev main_v32 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v33 : Ref sig .tc := ⟨.hbm, 56, rfl⟩
abbrev main_v34 : Ref sig .tc := ⟨.hbm, 57, rfl⟩
abbrev main_c : Ref sig .tc := ⟨.hbm, 58, rfl⟩
abbrev main_call2_v0 : Ref sig .tc := ⟨.hbm, 59, rfl⟩
abbrev main_v35 : Ref sig .tc := ⟨.hbm, 60, rfl⟩

abbrev nD : Nat := 1
abbrev τ : Topo := Topo.v7x

variable {F : FTy → Type} [FloatOps F]
-- ==== Tail.lean ====
abbrev S8x4096x1024 : Shape := ⟨3, ![8, 4096, 1024]⟩
abbrev S8x4096x512 : Shape := ⟨3, ![8, 4096, 512]⟩
abbrev S2x1024 : Shape := ⟨2, ![2, 1024]⟩
abbrev S1x1024x1024 : Shape := ⟨3, ![1, 1024, 1024]⟩
abbrev S1x1024x4096 : Shape := ⟨3, ![1, 1024, 4096]⟩
abbrev S1x3x1024 : Shape := ⟨3, ![1, 3, 1024]⟩
abbrev S1024 : Shape := ⟨1, ![1024]⟩
abbrev S_ : Shape := ⟨0, ![]⟩
abbrev S8x8x1024 : Shape := ⟨3, ![8, 8, 1024]⟩
abbrev S1024x1024 : Shape := ⟨2, ![1024, 1024]⟩
abbrev S1x1024 : Shape := ⟨2, ![1, 1024]⟩
abbrev S1024x4096 : Shape := ⟨2, ![1024, 4096]⟩
abbrev S3x1024 : Shape := ⟨2, ![3, 1024]⟩
abbrev S1x512x1024 : Shape := ⟨3, ![1, 512, 1024]⟩
abbrev S1x512x512 : Shape := ⟨3, ![1, 512, 512]⟩
abbrev S1x8x1024 : Shape := ⟨3, ![1, 8, 1024]⟩
abbrev S8x1024 : Shape := ⟨2, ![8, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S520x1024 : Shape := ⟨2, ![520, 1024]⟩

abbrev nBuf : Space → Nat
  | .hbm => 22
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x1024, .f32⟩
  | .hbm, ⟨4, _⟩ => ⟨S1x1024x1024, .f32⟩
  | .hbm, ⟨5, _⟩ => ⟨S1x1024x4096, .f32⟩
  | .hbm, ⟨6, _⟩ => ⟨S1x3x1024, .f32⟩
  | .hbm, ⟨7, _⟩ => ⟨S1x1024x1024, .f32⟩
  | .hbm, ⟨8, _⟩ => ⟨S1024, .f32⟩
  | .hbm, ⟨9, _⟩ => ⟨S_, .f32⟩
  | .hbm, ⟨10, _⟩ => ⟨S8x8x1024, .f32⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1024x4096, .f32⟩
  | .hbm, ⟨15, _⟩ => ⟨S1024x4096, .bf16⟩
  | .hbm, ⟨16, _⟩ => ⟨S3x1024, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S8x4096x1024, .f32⟩
  | .hbm, ⟨21, _⟩ => ⟨S8x8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x8x1024, .f32⟩
  | .local _ .vmem, ⟨7, _⟩ => ⟨S1x8x1024, .f32⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S3x1024, .f32⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x8x1024, .f32⟩
  | .local _ .vmem, ⟨17, _⟩ => ⟨S1x8x1024, .f32⟩
  | .local _ .vmem, ⟨18, _⟩ => ⟨S8x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== TailRefIdeal.lean ====
abbrev S8x4096x1024 : Shape := ⟨3, ![8, 4096, 1024]⟩
abbrev S8x4096x512 : Shape := ⟨3, ![8, 4096, 512]⟩
abbrev S2x1024 : Shape := ⟨2, ![2, 1024]⟩
abbrev S1x1024x1024 : Shape := ⟨3, ![1, 1024, 1024]⟩
abbrev S1x1024x4096 : Shape := ⟨3, ![1, 1024, 4096]⟩
abbrev S1x3x1024 : Shape := ⟨3, ![1, 3, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4096 : Shape := ⟨2, ![1024, 4096]⟩
abbrev S8x4096x4096 : Shape := ⟨3, ![8, 4096, 4096]⟩
abbrev S8x4098x1024 : Shape := ⟨3, ![8, 4098, 1024]⟩
abbrev S3x1024 : Shape := ⟨2, ![3, 1024]⟩
abbrev S8x8x1024 : Shape := ⟨3, ![8, 8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x1024, .f32⟩
  | .hbm, ⟨4, _⟩ => ⟨S1x1024x1024, .f32⟩
  | .hbm, ⟨5, _⟩ => ⟨S1x1024x4096, .f32⟩
  | .hbm, ⟨6, _⟩ => ⟨S1x3x1024, .f32⟩
  | .hbm, ⟨7, _⟩ => ⟨S1x1024x1024, .f32⟩
  | .hbm, ⟨8, _⟩ => ⟨S1024, .f32⟩
  | .hbm, ⟨9, _⟩ => ⟨S8x4096x1024, .bf16⟩
  | .hbm, ⟨10, _⟩ => ⟨S8x4096x1024, .f32⟩
  | .hbm, ⟨11, _⟩ => ⟨S1024x1024, .f32⟩
  | .hbm, ⟨12, _⟩ => ⟨S8x4096x1024, .f32⟩
  | .hbm, ⟨13, _⟩ => ⟨S8x4096x1024, .f32⟩
  | .hbm, ⟨14, _⟩ => ⟨S1x1024, .f32⟩
  | .hbm, ⟨15, _⟩ => ⟨S1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S1024x4096, .f32⟩
  | .hbm, ⟨33, _⟩ => ⟨S8x4096x4096, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .i32⟩
  | .hbm, ⟨40, _⟩ => ⟨S_, .f32⟩
  | .hbm, ⟨41, _⟩ => ⟨S8x4098x1024, .f32⟩
  | .hbm, ⟨42, _⟩ => ⟨S3x1024, .f32⟩
  | .hbm, ⟨43, _⟩ => ⟨S8x4096x1024, .f32⟩
  | .hbm, ⟨44, _⟩ => ⟨S1x1024, .f32⟩
  | .hbm, ⟨45, _⟩ => ⟨S1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S1x1024, .f32⟩
  | .hbm, ⟨51, _⟩ => ⟨S1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S1x1024, .f32⟩
  | .hbm, ⟨58, _⟩ => ⟨S1024, .f32⟩
  | .hbm, ⟨59, _⟩ => ⟨S1x1x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S1024x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S8x4096x1, .f32⟩
  | .hbm, ⟨88, _⟩ => ⟨S8x4096x1024, .f32⟩
  | .hbm, ⟨89, _⟩ => ⟨S8x4096x1024, .f32⟩
  | .hbm, ⟨90, _⟩ => ⟨S1x1x1024, .f32⟩
  | .hbm, ⟨91, _⟩ => ⟨S8x4096x1024, .f32⟩
  | .hbm, ⟨92, _⟩ => ⟨S8x4096x1024, .f32⟩
  | .hbm, ⟨93, _⟩ => ⟨S8x8x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_2 : Ref sig .tc := ⟨.hbm, 78, rfl⟩
abbrev main_v56 : Ref sig .tc := ⟨.hbm, 79, rfl⟩
abbrev main_v57 : Ref sig .tc := ⟨.hbm, 80, rfl⟩
abbrev main_cst_3 : Ref sig .tc := ⟨.hbm, 81, rfl⟩
abbrev main_v58 : Ref sig .tc := ⟨.hbm, 82, rfl⟩
abbrev main_v59 : Ref sig .tc := ⟨.hbm, 83, rfl⟩
abbrev main_cst_4 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== ProjectS.lean ====
abbrev S32x8x1024 : Shape := ⟨3, ![32, 8, 1024]⟩
abbrev S2x1024 : Shape := ⟨2, ![2, 1024]⟩
abbrev S1x1024x4104 : Shape := ⟨3, ![1, 1024, 4104]⟩
abbrev S1x1024x4096 : Shape := ⟨3, ![1, 1024, 4096]⟩
abbrev S1024x4096 : Shape := ⟨2, ![1024, 4096]⟩
abbrev S1x1024x1024 : Shape := ⟨3, ![1, 1024, 1024]⟩
abbrev S1024x1024 : Shape := ⟨2, ![1024, 1024]⟩
abbrev S1x1024x8 : Shape := ⟨3, ![1, 1024, 8]⟩
abbrev S1024x8 : Shape := ⟨2, ![1024, 8]⟩
abbrev S_ : Shape := ⟨0, ![]⟩
abbrev S1024x128 : Shape := ⟨2, ![1024, 128]⟩
abbrev S1x256x1024 : Shape := ⟨3, ![1, 256, 1024]⟩
abbrev S1x1024 : Shape := ⟨2, ![1, 1024]⟩
abbrev S1x256x512 : Shape := ⟨3, ![1, 256, 512]⟩
abbrev S1x256x1536 : Shape := ⟨3, ![1, 256, 1536]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x1536 : Shape := ⟨2, ![1024, 1536]⟩
abbrev S256x1536 : Shape := ⟨2, ![256, 1536]⟩
abbrev S256x128 : Shape := ⟨2, ![256, 128]⟩

abbrev nBuf : Space → Nat
  | .hbm => 27
  | .vmem => 14
  | .smem => 0
  | _ => 0

abbrev bufTy : (tb : Table) → Fin (tcTables nBuf tb) → BufTy
  | .hbm, ⟨0, _⟩ => ⟨S32x8x1024, .f32⟩
  | .hbm, ⟨1, _⟩ => ⟨S2x1024, .f32⟩
  | .hbm, ⟨2, _⟩ => ⟨S1x1024x4104, .f32⟩
  | .hbm, ⟨3, _⟩ => ⟨S1x1024x4096, .f32⟩
  | .hbm, ⟨4, _⟩ => ⟨S1024x4096, .f32⟩
  | .hbm, ⟨5, _⟩ => ⟨S1024x4096, .bf16⟩
  | .hbm, ⟨6, _⟩ => ⟨S1x1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x8, .f32⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1x256x1024, .f32⟩
  | .hbm, ⟨17, _⟩ => ⟨S1x1024, .f32⟩
  | .hbm, ⟨18, _⟩ => ⟨S1x256x512, .bf16⟩
  | .hbm, ⟨19, _⟩ => ⟨S1x256x512, .bf16⟩
  | .hbm, ⟨20, _⟩ => ⟨S1x256x512, .bf16⟩
  | .hbm, ⟨21, _⟩ => ⟨S1x256x512, .f32⟩
  | .hbm, ⟨22, _⟩ => ⟨S1x256x512, .f32⟩
  | .hbm, ⟨23, _⟩ => ⟨S1x256x512, .bf16⟩
  | .hbm, ⟨24, _⟩ => ⟨S1x256x1536, .f32⟩
  | .hbm, ⟨25, _⟩ => ⟨S1x256x512, .bf16⟩
  | .hbm, ⟨26, _⟩ => ⟨S1x256x128, .f32⟩
  | .local _ .vmem, ⟨0, _⟩ => ⟨S1x256x1024, .f32⟩
  | .local _ .vmem, ⟨1, _⟩ => ⟨S1x1024, .f32⟩
  | .local _ .vmem, ⟨2, _⟩ => ⟨S1024x4096, .bf16⟩
  | .local _ .vmem, ⟨3, _⟩ => ⟨S1024x1024, .bf16⟩
  | .local _ .vmem, ⟨4, _⟩ => ⟨S1024x128, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .bf16⟩
  | .local _ .vmem, ⟨11, _⟩ => ⟨S1x256x1536, .f32⟩
  | .local _ .vmem, ⟨12, _⟩ => ⟨S1x256x512, .bf16⟩
  | .local _ .vmem, ⟨13, _⟩ => ⟨S1x256x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev main_v13_6 : Ref sig .tc := ⟨.hbm, 24, rfl⟩
abbrev main_v13_7 : Ref sig .tc := ⟨.hbm, 25, rfl⟩
abbrev main_v13_8 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x256x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]
-- ==== ProjectSRefIdeal.lean ====
abbrev S32x8x1024 : Shape := ⟨3, ![32, 8, 1024]⟩
abbrev S2x1024 : Shape := ⟨2, ![2, 1024]⟩
abbrev S1x1024x4104 : Shape := ⟨3, ![1, 1024, 4104]⟩
abbrev S1x1024 : Shape := ⟨2, ![1, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S1024x4104 : Shape := ⟨2, ![1024, 4104]⟩
abbrev S32x8x4104 : Shape := ⟨3, ![32, 8, 4104]⟩
abbrev S32x8x512 : Shape := ⟨3, ![32, 8, 512]⟩
abbrev S32x8x1536 : Shape := ⟨3, ![32, 8, 1536]⟩
abbrev S32x8x8 : Shape := ⟨3, ![32, 8, 8]⟩
abbrev S1x256x512 : Shape := ⟨3, ![1, 256, 512]⟩
abbrev S1x256x1536 : Shape := ⟨3, ![1, 256, 1536]⟩
abbrev S32x8x128 : Shape := ⟨3, ![32, 8, 128]⟩
abbrev S1x256x128 : Shape := ⟨3, ![1, 256, 128]⟩

abbrev nBuf : Space → Nat
  | .hbm => 68
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S2x1024, .f32⟩
  | .hbm, ⟨2, _⟩ => ⟨S1x1024x4104, .f32⟩
  | .hbm, ⟨3, _⟩ => ⟨S1x1024, .f32⟩
  | .hbm, ⟨4, _⟩ => ⟨S1024, .f32⟩
  | .hbm, ⟨5, _⟩ => ⟨S32x8x1024, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x1024, .f32⟩
  | .hbm, ⟨17, _⟩ => ⟨S32x8x1024, .f32⟩
  | .hbm, ⟨18, _⟩ => ⟨S1x1x1024, .f32⟩
  | .hbm, ⟨19, _⟩ => ⟨S32x8x1024, .f32⟩
  | .hbm, ⟨20, _⟩ => ⟨S32x8x1024, .f32⟩
  | .hbm, ⟨21, _⟩ => ⟨S1024x4104, .f32⟩
  | .hbm, ⟨22, _⟩ => ⟨S32x8x4104, .f32⟩
  | .hbm, ⟨23, _⟩ => ⟨S32x8x512, .f32⟩
  | .hbm, ⟨24, _⟩ => ⟨S32x8x512, .f32⟩
  | .hbm, ⟨25, _⟩ => ⟨S32x8x512, .f32⟩
  | .hbm, ⟨26, _⟩ => ⟨S32x8x512, .f32⟩
  | .hbm, ⟨27, _⟩ => ⟨S32x8x1536, .f32⟩
  | .hbm, ⟨28, _⟩ => ⟨S32x8x512, .f32⟩
  | .hbm, ⟨29, _⟩ => ⟨S32x8x8, .f32⟩
  | .hbm, ⟨30, _⟩ => ⟨S_, .f32⟩
  | .hbm, ⟨31, _⟩ => ⟨S32x8x512, .f32⟩
  | .hbm, ⟨32, _⟩ => ⟨S32x8x512, .f32⟩
  | .hbm, ⟨33, _⟩ => ⟨S1x256x512, .f32⟩
  | .hbm, ⟨34, _⟩ => ⟨S1x256x512, .bf16⟩
  | .hbm, ⟨35, _⟩ => ⟨S1x256x512, .f32⟩
  | .hbm, ⟨36, _⟩ => ⟨S1x256x512, .bf16⟩
  | .hbm, ⟨37, _⟩ => ⟨S1x256x512, .f32⟩
  | .hbm, ⟨38, _⟩ => ⟨S1x256x512, .bf16⟩
  | .hbm, ⟨39, _⟩ => ⟨S1x256x512, .f32⟩
  | .hbm, ⟨40, _⟩ => ⟨S1x256x512, .f32⟩
  | .hbm, ⟨41, _⟩ => ⟨S32x8x512, .f32⟩
  | .hbm, ⟨42, _⟩ => ⟨S32x8x512, .f32⟩
  | .hbm, ⟨43, _⟩ => ⟨S_, .f32⟩
  | .hbm, ⟨44, _⟩ => ⟨S32x8x512, .f32⟩
  | .hbm, ⟨45, _⟩ => ⟨S32x8x512, .f32⟩
  | .hbm, ⟨46, _⟩ => ⟨S_, .f32⟩
  | .hbm, ⟨47, _⟩ => ⟨S32x8x512, .f32⟩
  | .hbm, ⟨48, _⟩ => ⟨S32x8x512, .f32⟩
  | .hbm, ⟨49, _⟩ => ⟨S32x8x512, .f32⟩
  | .hbm, ⟨50, _⟩ => ⟨S1x256x512, .f32⟩
  | .hbm, ⟨51, _⟩ => ⟨S1x256x512, .bf16⟩
  | .hbm, ⟨52, _⟩ => ⟨S1x256x1536, .f32⟩
  | .hbm, ⟨53, _⟩ => ⟨S32x8x512, .f32⟩
  | .hbm, ⟨54, _⟩ => ⟨S32x8x512, .f32⟩
  | .hbm, ⟨55, _⟩ => ⟨S_, .f32⟩
  | .hbm, ⟨56, _⟩ => ⟨S32x8x512, .f32⟩
  | .hbm, ⟨57, _⟩ => ⟨S32x8x512, .f32⟩
  | .hbm, ⟨58, _⟩ => ⟨S_, .f32⟩
  | .hbm, ⟨59, _⟩ => ⟨S32x8x512, .f32⟩
  | .hbm, ⟨60, _⟩ => ⟨S32x8x512, .f32⟩
  | .hbm, ⟨61, _⟩ => ⟨S32x8x512, .f32⟩
  | .hbm, ⟨62, _⟩ => ⟨S1x256x512, .f32⟩
  | .hbm, ⟨63, _⟩ => ⟨S1x256x512, .bf16⟩
  | .hbm, ⟨64, _⟩ => ⟨S_, .i32⟩
  | .hbm, ⟨65, _⟩ => ⟨S_, .f32⟩
  | .hbm, ⟨66, _⟩ => ⟨S32x8x128, .f32⟩
  | .hbm, ⟨67, _⟩ => ⟨S1x256x128, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c : Ref sig .tc := ⟨.hbm, 64, rfl⟩
abbrev main_call2_v0 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== TailS.lean ====
abbrev S32x8x1024 : Shape := ⟨3, ![32, 8, 1024]⟩
abbrev S32x8x512 : Shape := ⟨3, ![32, 8, 512]⟩
abbrev S1x32x2x1024 : Shape := ⟨4, ![1, 32, 2, 1024]⟩
abbrev S2x1024 : Shape := ⟨2, ![2, 1024]⟩
abbrev S1x1024x1024 : Shape := ⟨3, ![1, 1024, 1024]⟩
abbrev S1x1024x4096 : Shape := ⟨3, ![1, 1024, 4096]⟩
abbrev S1x3x1024 : Shape := ⟨3, ![1, 3, 1024]⟩
abbrev S1024 : Shape := ⟨1, ![1024]⟩
abbrev S32x2x1024 : Shape := ⟨3, ![32, 2, 1024]⟩
abbrev S_ : Shape := ⟨0, ![]⟩
abbrev S1x256x1024 : Shape := ⟨3, ![1, 256, 1024]⟩
abbrev S1x256x512 : Shape := ⟨3, ![1, 256, 512]⟩
abbrev S1024x1024 : Shape := ⟨2, ![1024, 1024]⟩
abbrev S1x1024 : Shape := ⟨2, ![1, 1024]⟩
abbrev S1024x4096 : Shape := ⟨2, ![1024, 4096]⟩
abbrev S3x1024 : Shape := ⟨2, ![3, 1024]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩

abbrev nBuf : Space → Nat
  | .hbm => 29
  | .vmem => 13
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .bf16⟩
  | .hbm, ⟨2, _⟩ => ⟨S32x8x512, .bf16⟩
  | .hbm, ⟨3, _⟩ => ⟨S1x32x2x1024, .f32⟩
  | .hbm, ⟨4, _⟩ => ⟨S2x1024, .f32⟩
  | .hbm, ⟨5, _⟩ => ⟨S1x1024x1024, .f32⟩
  | .hbm, ⟨6, _⟩ => ⟨S1x1024x4096, .f32⟩
  | .hbm, ⟨7, _⟩ => ⟨S1x3x1024, .f32⟩
  | .hbm, ⟨8, _⟩ => ⟨S1x1024x1024, .f32⟩
  | .hbm, ⟨9, _⟩ => ⟨S1024, .f32⟩
  | .hbm, ⟨10, _⟩ => ⟨S32x2x1024, .f32⟩
  | .hbm, ⟨11, _⟩ => ⟨S_, .i32⟩
  | .hbm, ⟨12, _⟩ => ⟨S_, .f32⟩
  | .hbm, ⟨13, _⟩ => ⟨S32x8x1024, .f32⟩
  | .hbm, ⟨14, _⟩ => ⟨S1x256x1024, .f32⟩
  | .hbm, ⟨15, _⟩ => ⟨S1x256x1024, .f32⟩
  | .hbm, ⟨16, _⟩ => ⟨S1x256x512, .bf16⟩
  | .hbm, ⟨17, _⟩ => ⟨S1x256x512, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1024x4096, .f32⟩
  | .hbm, ⟨22, _⟩ => ⟨S1024x4096, .bf16⟩
  | .hbm, ⟨23, _⟩ => ⟨S3x1024, .f32⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S1x256x1024, .f32⟩
  | .hbm, ⟨28, _⟩ => ⟨S1x256x1024, .f32⟩
  | .local _ .vmem, ⟨0, _⟩ => ⟨S1x256x1024, .f32⟩
  | .local _ .vmem, ⟨1, _⟩ => ⟨S1x256x512, .bf16⟩
  | .local _ .vmem, ⟨2, _⟩ => ⟨S1x256x512, .bf16⟩
  | .local _ .vmem, ⟨3, _⟩ => ⟨S1x256x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S3x1024, .f32⟩
  | .local _ .vmem, ⟨8, _⟩ => ⟨S1024x1024, .bf16⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== TailSRefIdeal.lean ====
abbrev S32x8x1024 : Shape := ⟨3, ![32, 8, 1024]⟩
abbrev S32x8x512 : Shape := ⟨3, ![32, 8, 512]⟩
abbrev S1x32x2x1024 : Shape := ⟨4, ![1, 32, 2, 1024]⟩
abbrev S2x1024 : Shape := ⟨2, ![2, 1024]⟩
abbrev S1x1024x1024 : Shape := ⟨3, ![1, 1024, 1024]⟩
abbrev S1x1024x4096 : Shape := ⟨3, ![1, 1024, 4096]⟩
abbrev S1x3x1024 : Shape := ⟨3, ![1, 3, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S1024x4096 : Shape := ⟨2, ![1024, 4096]⟩
abbrev S32x8x4096 : Shape := ⟨3, ![32, 8, 4096]⟩
abbrev S32x2x1024 : Shape := ⟨3, ![32, 2, 1024]⟩
abbrev S32x10x1024 : Shape := ⟨3, ![32, 10, 1024]⟩
abbrev S3x1024 : Shape := ⟨2, ![3, 1024]⟩
abbrev S1x256x1024 : Shape := ⟨3, ![1, 256, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .bf16⟩
  | .hbm, ⟨2, _⟩ => ⟨S32x8x512, .bf16⟩
  | .hbm, ⟨3, _⟩ => ⟨S1x32x2x1024, .f32⟩
  | .hbm, ⟨4, _⟩ => ⟨S2x1024, .f32⟩
  | .hbm, ⟨5, _⟩ => ⟨S1x1024x1024, .f32⟩
  | .hbm, ⟨6, _⟩ => ⟨S1x1024x4096, .f32⟩
  | .hbm, ⟨7, _⟩ => ⟨S1x3x1024, .f32⟩
  | .hbm, ⟨8, _⟩ => ⟨S1x1024x1024, .f32⟩
  | .hbm, ⟨9, _⟩ => ⟨S1024, .f32⟩
  | .hbm, ⟨10, _⟩ => ⟨S32x8x1024, .bf16⟩
  | .hbm, ⟨11, _⟩ => ⟨S32x8x1024, .f32⟩
  | .hbm, ⟨12, _⟩ => ⟨S1024x1024, .f32⟩
  | .hbm, ⟨13, _⟩ => ⟨S32x8x1024, .f32⟩
  | .hbm, ⟨14, _⟩ => ⟨S32x8x1024, .f32⟩
  | .hbm, ⟨15, _⟩ => ⟨S1x1024, .f32⟩
  | .hbm, ⟨16, _⟩ => ⟨S1024, .f32⟩
  | .hbm, ⟨17, _⟩ => ⟨S32x8x1024, .f32⟩
  | .hbm, ⟨18, _⟩ => ⟨S_, .f32⟩
  | .hbm, ⟨19, _⟩ => ⟨S32x8, .f32⟩
  | .hbm, ⟨20, _⟩ => ⟨S32x8x1, .f32⟩
  | .hbm, ⟨21, _⟩ => ⟨S_, .f32⟩
  | .hbm, ⟨22, _⟩ => ⟨S32x8x1, .f32⟩
  | .hbm, ⟨23, _⟩ => ⟨S32x8x1, .f32⟩
  | .hbm, ⟨24, _⟩ => ⟨S_, .f32⟩
  | .hbm, ⟨25, _⟩ => ⟨S32x8x1, .f32⟩
  | .hbm, ⟨26, _⟩ => ⟨S32x8x1, .f32⟩
  | .hbm, ⟨27, _⟩ => ⟨S32x8x1, .f32⟩
  | .hbm, ⟨28, _⟩ => ⟨S32x8x1024, .f32⟩
  | .hbm, ⟨29, _⟩ => ⟨S32x8x1024, .f32⟩
  | .hbm, ⟨30, _⟩ => ⟨S1x1x1024, .f32⟩
  | .hbm, ⟨31, _⟩ => ⟨S32x8x1024, .f32⟩
  | .hbm, ⟨32, _⟩ => ⟨S32x8x1024, .f32⟩
  | .hbm, ⟨33, _⟩ => ⟨S1024x4096, .f32⟩
  | .hbm, ⟨34, _⟩ => ⟨S32x8x4096, .f32⟩
  | .hbm, ⟨35, _⟩ => ⟨S32x8x1024, .f32⟩
  | .hbm, ⟨36, _⟩ => ⟨S32x8x1024, .f32⟩
  | .hbm, ⟨37, _⟩ => ⟨S32x8x1024, .f32⟩
  | .hbm, ⟨38, _⟩ => ⟨S32x8x1024, .f32⟩
  | .hbm, ⟨39, _⟩ => ⟨S32x8x1024, .f32⟩
  | .hbm, ⟨40, _⟩ => ⟨S32x2x1024, .f32⟩
  | .hbm, ⟨41, _⟩ => ⟨S32x10x1024, .f32⟩
  | .hbm, ⟨42, _⟩ => ⟨S3x1024, .f32⟩
  | .hbm, ⟨43, _⟩ => ⟨S32x8x1024, .f32⟩
  | .hbm, ⟨44, _⟩ => ⟨S1x1024, .f32⟩
  | .hbm, ⟨45, _⟩ => ⟨S1024, .f32⟩
  | .hbm, ⟨46, _⟩ => ⟨S1x1x1024, .f32⟩
  | .hbm, ⟨47, _⟩ => ⟨S32x8x1024, .f32⟩
  | .hbm, ⟨48, _⟩ => ⟨S32x8x1024, .f32⟩
  | .hbm, ⟨49, _⟩ => ⟨S32x8x1024, .f32⟩
  | .hbm, ⟨50, _⟩ => ⟨S1x1024, .f32⟩
  | .hbm, ⟨51, _⟩ => ⟨S1024, .f32⟩
  | .hbm, ⟨52, _⟩ => ⟨S1x1x1024, .f32⟩
  | .hbm, ⟨53, _⟩ => ⟨S32x8x1024, .f32⟩
  | .hbm, ⟨54, _⟩ => ⟨S32x8x1024, .f32⟩
  | .hbm, ⟨55, _⟩ => ⟨S32x8x1024, .f32⟩
  | .hbm, ⟨56, _⟩ => ⟨S32x8x1024, .f32⟩
  | .hbm, ⟨57, _⟩ => ⟨S1x1024, .f32⟩
  | .hbm, ⟨58, _⟩ => ⟨S1024, .f32⟩
  | .hbm, ⟨59, _⟩ => ⟨S1x1x1024, .f32⟩
  | .hbm, ⟨60, _⟩ => ⟨S32x8x1024, .f32⟩
  | .hbm, ⟨61, _⟩ => ⟨S32x8x1024, .f32⟩
  | .hbm, ⟨62, _⟩ => ⟨S32x8x1024, .f32⟩
  | .hbm, ⟨63, _⟩ => ⟨S32x8x1024, .f32⟩
  | .hbm, ⟨64, _⟩ => ⟨S32x8x1024, .f32⟩
  | .hbm, ⟨65, _⟩ => ⟨S32x8x1024, .f32⟩
  | .hbm, ⟨66, _⟩ => ⟨S_, .f32⟩
  | .hbm, ⟨67, _⟩ => ⟨S32x8x1024, .f32⟩
  | .hbm, ⟨68, _⟩ => ⟨S32x8x1024, .f32⟩
  | .hbm, ⟨69, _⟩ => ⟨S_, .f32⟩
  | .hbm, ⟨70, _⟩ => ⟨S32x8x1024, .f32⟩
  | .hbm, ⟨71, _⟩ => ⟨S32x8x1024, .f32⟩
  | .hbm, ⟨72, _⟩ => ⟨S32x8x1024, .f32⟩
  | .hbm, ⟨73, _⟩ => ⟨S32x8x1024, .f32⟩
  | .hbm, ⟨74, _⟩ => ⟨S1024x1024, .f32⟩
  | .hbm, ⟨75, _⟩ => ⟨S32x8x1024, .f32⟩
  | .hbm, ⟨76, _⟩ => ⟨S32x8x1024, .f32⟩
  | .hbm, ⟨77, _⟩ => ⟨S32x8x1024, .f32⟩
  | .hbm, ⟨78, _⟩ => ⟨S_, .f32⟩
  | .hbm, ⟨79, _⟩ => ⟨S32x8, .f32⟩
  | .hbm, ⟨80, _⟩ => ⟨S32x8x1, .f32⟩
  | .hbm, ⟨81, _⟩ => ⟨S_, .f32⟩
  | .hbm, ⟨82, _⟩ => ⟨S32x8x1, .f32⟩
  | .hbm, ⟨83, _⟩ => ⟨S32x8x1, .f32⟩
  | .hbm, ⟨84, _⟩ => ⟨S_, .f32⟩
  | .hbm, ⟨85, _⟩ => ⟨S32x8x1, .f32⟩
  | .hbm, ⟨86, _⟩ => ⟨S32x8x1, .f32⟩
  | .hbm, ⟨87, _⟩ => ⟨S32x8x1, .f32⟩
  | .hbm, ⟨88, _⟩ => ⟨S32x8x1024, .f32⟩
  | .hbm, ⟨89, _⟩ => ⟨S32x8x1024, .f32⟩
  | .hbm, ⟨90, _⟩ => ⟨S1x1x1024, .f32⟩
  | .hbm, ⟨91, _⟩ => ⟨S32x8x1024, .f32⟩
  | .hbm, ⟨92, _⟩ => ⟨S32x8x1024, .f32⟩
  | .hbm, ⟨93, _⟩ => ⟨S1x256x1024, .f32⟩
  | .hbm, ⟨94, _⟩ => ⟨S1x256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_2 : Ref sig .tc := ⟨.hbm, 78, rfl⟩
abbrev main_v57 : Ref sig .tc := ⟨.hbm, 79, rfl⟩
abbrev main_v58 : Ref sig .tc := ⟨.hbm, 80, rfl⟩
abbrev main_cst_3 : Ref sig .tc := ⟨.hbm, 81, rfl⟩
abbrev main_v59 : Ref sig .tc := ⟨.hbm, 82, rfl⟩
abbrev main_v60 : Ref sig .tc := ⟨.hbm, 83, rfl⟩
abbrev main_cst_4 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== DeltaS.lean ====
abbrev S32x8x1536 : Shape := ⟨3, ![32, 8, 1536]⟩
abbrev S32x8x128 : Shape := ⟨3, ![32, 8, 128]⟩
abbrev S32x8x512 : Shape := ⟨3, ![32, 8, 512]⟩
abbrev S1x32x4x128x128 : Shape := ⟨5, ![1, 32, 4, 128, 128]⟩
abbrev S1x32x3x1536 : Shape := ⟨4, ![1, 32, 3, 1536]⟩
abbrev S1x4x1536 : Shape := ⟨3, ![1, 4, 1536]⟩
abbrev S1x4 : Shape := ⟨2, ![1, 4]⟩
abbrev S1x128 : Shape := ⟨2, ![1, 128]⟩
abbrev S_ : Shape := ⟨0, ![]⟩
abbrev S8x128 : Shape := ⟨2, ![8, 128]⟩
abbrev S4 : Shape := ⟨1, ![4]⟩
abbrev S1 : Shape := ⟨1, ![1]⟩
abbrev S2 : Shape := ⟨1, ![2]⟩
abbrev S32x3x1536 : Shape := ⟨3, ![32, 3, 1536]⟩
abbrev S32x4x128x128 : Shape := ⟨4, ![32, 4, 128, 128]⟩
abbrev S4x1536 : Shape := ⟨2, ![4, 1536]⟩
abbrev S2x8x1536 : Shape := ⟨3, ![2, 8, 1536]⟩
abbrev S2x8x128 : Shape := ⟨3, ![2, 8, 128]⟩
abbrev S2x8x512 : Shape := ⟨3, ![2, 8, 512]⟩
abbrev S2x4x128x128 : Shape := ⟨4, ![2, 4, 128, 128]⟩
abbrev S8x8 : Shape := ⟨2, ![8, 8]⟩
abbrev S16x8 : Shape := ⟨2, ![16, 8]⟩
abbrev S1x8x128 : Shape := ⟨3, ![1, 8, 128]⟩
abbrev S16x128 : Shape := ⟨2, ![16, 128]⟩
abbrev S128x128 : Shape := ⟨2, ![128, 128]⟩
abbrev S128x8 : Shape := ⟨2, ![128, 8]⟩
abbrev S4x128 : Shape := ⟨2, ![4, 128]⟩
abbrev S8 : Shape := ⟨1, ![8]⟩
abbrev S8x1 : Shape := ⟨2, ![8, 1]⟩
abbrev S1x8 : Shape := ⟨2, ![1, 8]⟩
abbrev S8x256 : Shape := ⟨2, ![8, 256]⟩
abbrev S1x1x128x128 : Shape := ⟨4, ![1, 1, 128, 128]⟩
abbrev S1x1 : Shape := ⟨2, ![1, 1]⟩

abbrev nBuf : Space → Nat
  | .hbm => 33
  | .vmem => 19
  | .smem => 0
  | _ => 0

abbrev bufTy : (tb : Table) → Fin (tcTables nBuf tb) → BufTy
  | .hbm, ⟨0, _⟩ => ⟨S32x8x1536, .f32⟩
  | .hbm, ⟨1, _⟩ => ⟨S32x8x128, .f32⟩
  | .hbm, ⟨2, _⟩ => ⟨S32x8x512, .bf16⟩
  | .hbm, ⟨3, _⟩ => ⟨S1x32x4x128x128, .f32⟩
  | .hbm, ⟨4, _⟩ => ⟨S1x32x3x1536, .f32⟩
  | .hbm, ⟨5, _⟩ => ⟨S1x4x1536, .f32⟩
  | .hbm, ⟨6, _⟩ => ⟨S1x4, .f32⟩
  | .hbm, ⟨7, _⟩ => ⟨S1x4, .f32⟩
  | .hbm, ⟨8, _⟩ => ⟨S1x128, .f32⟩
  | .hbm, ⟨9, _⟩ => ⟨S_, .f32⟩
  | .hbm, ⟨10, _⟩ => ⟨S8x128, .f32⟩
  | .hbm, ⟨11, _⟩ => ⟨S4, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S8x128, .f32⟩
  | .hbm, ⟨18, _⟩ => ⟨S4, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S8x128, .f32⟩
  | .hbm, ⟨25, _⟩ => ⟨S32x3x1536, .f32⟩
  | .hbm, ⟨26, _⟩ => ⟨S_, .i32⟩
  | .hbm, ⟨27, _⟩ => ⟨S_, .f32⟩
  | .hbm, ⟨28, _⟩ => ⟨S32x8x1536, .f32⟩
  | .hbm, ⟨29, _⟩ => ⟨S32x4x128x128, .f32⟩
  | .hbm, ⟨30, _⟩ => ⟨S4x1536, .f32⟩
  | .hbm, ⟨31, _⟩ => ⟨S32x8x512, .bf16⟩
  | .hbm, ⟨32, _⟩ => ⟨S32x4x128x128, .f32⟩
  | .local _ .vmem, ⟨0, _⟩ => ⟨S2x8x1536, .f32⟩
  | .local _ .vmem, ⟨1, _⟩ => ⟨S2x8x1536, .f32⟩
  | .local _ .vmem, ⟨2, _⟩ => ⟨S2x8x128, .f32⟩
  | .local _ .vmem, ⟨3, _⟩ => ⟨S2x8x128, .f32⟩
  | .local _ .vmem, ⟨4, _⟩ => ⟨S2x8x512, .bf16⟩
  | .local _ .vmem, ⟨5, _⟩ => ⟨S2x8x512, .bf16⟩
  | .local _ .vmem, ⟨6, _⟩ => ⟨S2x8x1536, .f32⟩
  | .local _ .vmem, ⟨7, _⟩ => ⟨S2x8x1536, .f32⟩
  | .local _ .vmem, ⟨8, _⟩ => ⟨S2x4x128x128, .f32⟩
  | .local _ .vmem, ⟨9, _⟩ => ⟨S2x4x128x128, .f32⟩
  | .local _ .vmem, ⟨10, _⟩ => ⟨S4x1536, .f32⟩
  | .local _ .vmem, ⟨11, _⟩ => ⟨S8x128, .f32⟩
  | .local _ .vmem, ⟨12, _⟩ => ⟨S1x128, .f32⟩
  | .local _ .vmem, ⟨13, _⟩ => ⟨S2x8x512, .bf16⟩
  | .local _ .vmem, ⟨14, _⟩ => ⟨S2x8x512, .bf16⟩
  | .local _ .vmem, ⟨15, _⟩ => ⟨S2x4x128x128, .f32⟩
  | .local _ .vmem, ⟨16, _⟩ => ⟨S2x4x128x128, .f32⟩
  | .local _ .vmem, ⟨17, _⟩ => ⟨S2x4x128x128, .f32⟩
  | .local _ .vmem, ⟨18, _⟩ => ⟨S2x8x1536, .f32⟩
  | _, _ => ⟨S32x8x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_657 : BitVec 32 := 0#32
  let v2148 : BitVec 1 := Scalar.cmpi .eq arg1 c0_i32_657
  let v2149 : BitVec 32 := Scalar.extui v2148
  let c0_i32_658 : BitVec 32 := 0#32
  let v2150 : BitVec 1 := Scalar.cmpi .ne v2149 c0_i32_658
  v2150

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x8x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DeltaSRefIdeal.lean ====
abbrev S32x8x1536 : Shape := ⟨3, ![32, 8, 1536]⟩
abbrev S32x8x128 : Shape := ⟨3, ![32, 8, 128]⟩
abbrev S32x8x512 : Shape := ⟨3, ![32, 8, 512]⟩
abbrev S1x32x4x128x128 : Shape := ⟨5, ![1, 32, 4, 128, 128]⟩
abbrev S1x32x3x1536 : Shape := ⟨4, ![1, 32, 3, 1536]⟩
abbrev S1x4x1536 : Shape := ⟨3, ![1, 4, 1536]⟩
abbrev S1x4 : Shape := ⟨2, ![1, 4]⟩
abbrev S1x128 : Shape := ⟨2, ![1, 128]⟩
abbrev S32x3x1536 : Shape := ⟨3, ![32, 3, 1536]⟩
abbrev S32x11x1536 : Shape := ⟨3, ![32, 11, 1536]⟩
abbrev S4x1536 : Shape := ⟨2, ![4, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S32x8x4x128 : Shape := ⟨4, ![32, 8, 4, 128]⟩
abbrev S32x4x8x128 : Shape := ⟨4, ![32, 4, 8, 128]⟩
abbrev S32x4x8 : Shape := ⟨3, ![32, 4, 8]⟩
abbrev S32x4x8x1 : Shape := ⟨4, ![32, 4, 8, 1]⟩
abbrev S32x8x4 : Shape := ⟨3, ![32, 8, 4]⟩
abbrev S4 : Shape := ⟨1, ![4]⟩
abbrev S1x1x4 : Shape := ⟨3, ![1, 1, 4]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S32x4x1x8 : Shape := ⟨4, ![32, 4, 1, 8]⟩
abbrev S32x4x8x8 : Shape := ⟨4, ![32, 4, 8, 8]⟩
abbrev S32x4x8x256 : Shape := ⟨4, ![32, 4, 8, 256]⟩
abbrev S32x4x1x256 : Shape := ⟨4, ![32, 4, 1, 256]⟩
abbrev S32x4x1x1 : Shape := ⟨4, ![32, 4, 1, 1]⟩
abbrev S32x4x1x2 : Shape := ⟨4, ![32, 4, 1, 2]⟩
abbrev S32x4x2x256 : Shape := ⟨4, ![32, 4, 2, 256]⟩
abbrev S32x4x1x3 : Shape := ⟨4, ![32, 4, 1, 3]⟩
abbrev S32x4x3x256 : Shape := ⟨4, ![32, 4, 3, 256]⟩
abbrev S32x4x1x4 : Shape := ⟨4, ![32, 4, 1, 4]⟩
abbrev S32x4x4x256 : Shape := ⟨4, ![32, 4, 4, 256]⟩
abbrev S32x4x1x5 : Shape := ⟨4, ![32, 4, 1, 5]⟩
abbrev S32x4x5x256 : Shape := ⟨4, ![32, 4, 5, 256]⟩
abbrev S32x4x1x6 : Shape := ⟨4, ![32, 4, 1, 6]⟩
abbrev S32x4x6x256 : Shape := ⟨4, ![32, 4, 6, 256]⟩
abbrev S32x4x1x7 : Shape := ⟨4, ![32, 4, 1, 7]⟩
abbrev S32x4x7x256 : Shape := ⟨4, ![32, 4, 7, 256]⟩
abbrev S32x4x128x128 : Shape := ⟨4, ![32, 4, 128, 128]⟩
abbrev S32x4x1 : Shape := ⟨3, ![32, 4, 1]⟩

abbrev nBuf : Space → Nat
  | .hbm => 189
  | .vmem => 0
  | .smem => 0
  | _ => 0

abbrev hbmTy0_0 (i : Nat) : BufTy := match i % 128 with
  | 0 => ⟨S32x8x1536, .f32⟩
  | 1 => ⟨S32x8x128, .f32⟩
  | 2 => ⟨S32x8x512, .bf16⟩
  | 3 => ⟨S1x32x4x128x128, .f32⟩
  | 4 => ⟨S1x32x3x1536, .f32⟩
  | 5 => ⟨S1x4x1536, .f32⟩
  | 6 => ⟨S1x4, .f32⟩
  | 7 => ⟨S1x4, .f32⟩
  | 8 => ⟨S1x128, .f32⟩
  | 9 => ⟨S32x3x1536, .f32⟩
  | 10 => ⟨S32x11x1536, .f32⟩
  | 11 => ⟨S4x1536, .f32⟩
  | 12 => ⟨S32x8x1536, .f32⟩
  | 13 => ⟨S1x1536, .f32⟩
  | 14 => ⟨S1536, .f32⟩
  | 15 => ⟨S1x1x1536, .f32⟩
  | 16 => ⟨S32x8x1536, .f32⟩
  | 17 => ⟨S32x8x1536, .f32⟩
  | 18 => ⟨S32x8x1536, .f32⟩
  | 19 => ⟨S1x1536, .f32⟩
  | 20 => ⟨S1536, .f32⟩
  | 21 => ⟨S1x1x1536, .f32⟩
  | 22 => ⟨S32x8x1536, .f32⟩
  | 23 => ⟨S32x8x1536, .f32⟩
  | 24 => ⟨S32x8x1536, .f32⟩
  | 25 => ⟨S32x8x1536, .f32⟩
  | 26 => ⟨S1x1536, .f32⟩
  | 27 => ⟨S1536, .f32⟩
  | 28 => ⟨S1x1x1536, .f32⟩
  | 29 => ⟨S32x8x1536, .f32⟩
  | 30 => ⟨S32x8x1536, .f32⟩
  | 31 => ⟨S32x8x1536, .f32⟩
  | 32 => ⟨S32x8x1536, .f32⟩
  | 33 => ⟨S1x1536, .f32⟩
  | 34 => ⟨S1536, .f32⟩
  | 35 => ⟨S1x1x1536, .f32⟩
  | 36 => ⟨S32x8x1536, .f32⟩
  | 37 => ⟨S32x8x1536, .f32⟩
  | 38 => ⟨S32x8x1536, .f32⟩
  | 39 => ⟨S32x8x1536, .f32⟩
  | 40 => ⟨S32x8x1536, .f32⟩
  | 41 => ⟨S_, .f32⟩
  | 42 => ⟨S32x8x1536, .f32⟩
  | 43 => ⟨S32x8x1536, .f32⟩
  | 44 => ⟨S_, .f32⟩
  | 45 => ⟨S32x8x1536, .f32⟩
  | 46 => ⟨S32x8x1536, .f32⟩
  | 47 => ⟨S32x8x1536, .f32⟩
  | 48 => ⟨S32x8x512, .f32⟩
  | 49 => ⟨S32x8x4x128, .f32⟩
  | 50 => ⟨S32x4x8x128, .f32⟩
  | 51 => ⟨S32x8x512, .f32⟩
  | 52 => ⟨S32x8x4x128, .f32⟩
  | 53 => ⟨S32x4x8x128, .f32⟩
  | 54 => ⟨S32x4x8x128, .f32⟩
  | 55 => ⟨S_, .f32⟩
  | 56 => ⟨S32x4x8, .f32⟩
  | 57 => ⟨S32x4x8x1, .f32⟩
  | 58 => ⟨S_, .f32⟩
  | 59 => ⟨S32x4x8x1, .f32⟩
  | 60 => ⟨S32x4x8x1, .f32⟩
  | 61 => ⟨S32x4x8x1, .f32⟩
  | 62 => ⟨S32x4x8x128, .f32⟩
  | 63 => ⟨S32x4x8x128, .f32⟩
  | 64 => ⟨S32x8x4, .f32⟩
  | 65 => ⟨S32x8x4, .f32⟩
  | 66 => ⟨S32x8x4, .f32⟩
  | 67 => ⟨S_, .f32⟩
  | 68 => ⟨S32x8x4, .f32⟩
  | 69 => ⟨S32x8x4, .f32⟩
  | 70 => ⟨S_, .f32⟩
  | 71 => ⟨S32x8x4, .f32⟩
  | 72 => ⟨S32x8x4, .f32⟩
  | 73 => ⟨S32x4x8, .f32⟩
  | 74 => ⟨S32x4x8x1, .f32⟩
  | 75 => ⟨S32x8x4, .f32⟩
  | 76 => ⟨S4, .f32⟩
  | 77 => ⟨S1x1x4, .f32⟩
  | 78 => ⟨S32x8x4, .f32⟩
  | 79 => ⟨S32x8x4, .f32⟩
  | 80 => ⟨S4, .f32⟩
  | 81 => ⟨S4, .f32⟩
  | 82 => ⟨S4, .f32⟩
  | 83 => ⟨S_, .f32⟩
  | 84 => ⟨S32x8x4, .f32⟩
  | 85 => ⟨S32x8x4, .f32⟩
  | 86 => ⟨S32x8x4, .f32⟩
  | 87 => ⟨S32x8x4, .f32⟩
  | 88 => ⟨S32x8x4, .f32⟩
  | 89 => ⟨S_, .f32⟩
  | 90 => ⟨S32x8x4, .f32⟩
  | 91 => ⟨S32x8x4, .f32⟩
  | 92 => ⟨S32x8x4, .f32⟩
  | 93 => ⟨S32x8x4, .f32⟩
  | 94 => ⟨S1x1x4, .f32⟩
  | 95 => ⟨S32x8x4, .f32⟩
  | 96 => ⟨S32x8x4, .f32⟩
  | 97 => ⟨S32x4x8, .f32⟩
  | 98 => ⟨S_, .f32⟩
  | 99 => ⟨S_, .f32⟩
  | 100 => ⟨S32x4x8, .f32⟩
  | 101 => ⟨S8, .i32⟩
  | 102 => ⟨S8x1, .i32⟩
  | 103 => ⟨S8, .i32⟩
  | 104 => ⟨S1x8, .i32⟩
  | 105 => ⟨S8x8, .i32⟩
  | 106 => ⟨S8x8, .i32⟩
  | 107 => ⟨S8x8, .i1⟩
  | 108 => ⟨S32x4x8x1, .f32⟩
  | 109 => ⟨S32x4x1x8, .f32⟩
  | 110 => ⟨S32x4x8x8, .f32⟩
  | 111 => ⟨S32x4x8x8, .f32⟩
  | 112 => ⟨S32x4x8x8, .f32⟩
  | 113 => ⟨S_, .f32⟩
  | 114 => ⟨S_, .f32⟩
  | 115 => ⟨S32x4x8x8, .i1⟩
  | 116 => ⟨S32x4x8x8, .f32⟩
  | 117 => ⟨S32x4x8x8, .f32⟩
  | 118 => ⟨S32x4x8x8, .f32⟩
  | 119 => ⟨S32x4x8x128, .f32⟩
  | 120 => ⟨S32x4x8x128, .f32⟩
  | 121 => ⟨S32x4x8x8, .f32⟩
  | 122 => ⟨S32x4x8x8, .f32⟩
  | 123 => ⟨S_, .f32⟩
  | 124 => ⟨S_, .f32⟩
  | 125 => ⟨S32x4x8x8, .i1⟩
  | 126 => ⟨S32x4x8x8, .f32⟩
  | 127 => ⟨S32x4x8x8, .f32⟩
  | _ => ⟨S32x8x1536, .f32⟩

abbrev hbmTy0_1 (i : Nat) : BufTy := match i % 128 with
  | 0 => ⟨S32x4x8x128, .f32⟩
  | 1 => ⟨S32x4x8x128, .f32⟩
  | 2 => ⟨S32x4x8, .f32⟩
  | 3 => ⟨S32x4x8x1, .f32⟩
  | 4 => ⟨S32x4x8x128, .f32⟩
  | 5 => ⟨S32x4x8x128, .f32⟩
  | 6 => ⟨S32x4x8x256, .f32⟩
  | 7 => ⟨S32x4x1x256, .f32⟩
  | 8 => ⟨S32x4x1x256, .f32⟩
  | 9 => ⟨S32x4x1x1, .f32⟩
  | 10 => ⟨S32x4x1x256, .f32⟩
  | 11 => ⟨S32x4x1x256, .f32⟩
  | 12 => ⟨S32x4x1x256, .f32⟩
  | 13 => ⟨S32x4x1x2, .f32⟩
  | 14 => ⟨S32x4x2x256, .f32⟩
  | 15 => ⟨S32x4x1x256, .f32⟩
  | 16 => ⟨S32x4x1x256, .f32⟩
  | 17 => ⟨S32x4x1x256, .f32⟩
  | 18 => ⟨S32x4x1x3, .f32⟩
  | 19 => ⟨S32x4x3x256, .f32⟩
  | 20 => ⟨S32x4x1x256, .f32⟩
  | 21 => ⟨S32x4x1x256, .f32⟩
  | 22 => ⟨S32x4x1x256, .f32⟩
  | 23 => ⟨S32x4x1x4, .f32⟩
  | 24 => ⟨S32x4x4x256, .f32⟩
  | 25 => ⟨S32x4x1x256, .f32⟩
  | 26 => ⟨S32x4x1x256, .f32⟩
  | 27 => ⟨S32x4x1x256, .f32⟩
  | 28 => ⟨S32x4x1x5, .f32⟩
  | 29 => ⟨S32x4x5x256, .f32⟩
  | 30 => ⟨S32x4x1x256, .f32⟩
  | 31 => ⟨S32x4x1x256, .f32⟩
  | 32 => ⟨S32x4x1x256, .f32⟩
  | 33 => ⟨S32x4x1x6, .f32⟩
  | 34 => ⟨S32x4x6x256, .f32⟩
  | 35 => ⟨S32x4x1x256, .f32⟩
  | 36 => ⟨S32x4x1x256, .f32⟩
  | 37 => ⟨S32x4x1x256, .f32⟩
  | 38 => ⟨S32x4x1x7, .f32⟩
  | 39 => ⟨S32x4x7x256, .f32⟩
  | 40 => ⟨S32x4x1x256, .f32⟩
  | 41 => ⟨S32x4x1x256, .f32⟩
  | 42 => ⟨S32x4x8x256, .f32⟩
  | 43 => ⟨S32x4x128x128, .f32⟩
  | 44 => ⟨S32x4x8x128, .f32⟩
  | 45 => ⟨S32x4x8x128, .f32⟩
  | 46 => ⟨S32x4x8x128, .f32⟩
  | 47 => ⟨S32x4x8x128, .f32⟩
  | 48 => ⟨S32x4x1, .f32⟩
  | 49 => ⟨S32x4x1, .f32⟩
  | 50 => ⟨S32x4x1x1, .f32⟩
  | 51 => ⟨S32x4x128x128, .f32⟩
  | 52 => ⟨S32x4x128x128, .f32⟩
  | 53 => ⟨S32x4x8, .f32⟩
  | 54 => ⟨S32x4x8, .f32⟩
  | 55 => ⟨S32x4x8, .f32⟩
  | 56 => ⟨S32x4x8x1, .f32⟩
  | 57 => ⟨S32x4x8x128, .f32⟩
  | 58 => ⟨S32x4x8x128, .f32⟩
  | 59 => ⟨S32x4x128x128, .f32⟩
  | 60 => ⟨S32x4x128x128, .f32⟩
  | _ => ⟨S32x8x1536, .f32⟩

abbrev hbmTy (i : Nat) : BufTy := match i / 128 with
  | 0 => hbmTy0_0 i
  | 1 => hbmTy0_1 i
  | _ => ⟨S32x8x1536, .f32⟩

abbrev bufTy : (tb : Table) → Fin (tcTables nBuf tb) → BufTy
  | .hbm, ⟨i, _⟩ => hbmTy i
  | _, _ => ⟨S32x8x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst : Ref sig .tc := ⟨.hbm, 55, rfl⟩
abbrev main_v38 : Ref sig .tc := ⟨.hbm, 56, rfl⟩
abbrev main_v39 : Ref sig .tc := ⟨.hbm, 57, rfl⟩
abbrev main_cst_0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_1 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_3 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_4 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_call0_cst : Ref sig .tc := ⟨.hbm, 98, rfl⟩
abbrev main_call1_call0_v0 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_5 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_6 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩

abbrev nD : Nat := 1
abbrev τ : Topo := Topo.v7x

variable {F : FTy → Type} [FloatOps F]
-- ==== Proof.ProjEntry.lean ====
module

public import proofs.«01_k».proof.Proof.Gen.ProjectIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.ProjectIdeal.Hand

open Cert.ProjectIdeal Cert.ProjectIdeal.Gen

variable (m : (ℓ : Loc nD τ sig) → Buf (Elt Ideal) ℓ)

/-- The projection's weight as the host hands it on: the columns before the gating ones, a plain matrix. -/
theorem V_v2 (c : Dev nD) (x : Fin 1024) (y : Fin 4096) :
    V m c main_v2 (ix2 x y) = m ((c : Thread nD τ).loc main_arg2) (ix3 0 x ⟨y.val, by omega⟩) := by
  simp only [V, hostOps0, hostOps0_1, hostOps0_2, List.flatten_cons, List.flatten_nil, List.append_nil, List.cons_append, List.nil_append]
  after_results
  pointwise []

/-- The key and value columns of the weight, transposed by the host. -/
theorem V_v6 (c : Dev nD) (x : Fin 1024) (y : Fin 1024) :
    V m c main_v6 (ix2 x y) = m ((c : Thread nD τ).loc main_arg2) (ix3 0 y ⟨512 + x.val, by omega⟩) := by
  simp only [V, hostOps0, hostOps0_1, hostOps0_2, List.flatten_cons, List.flatten_nil, List.append_nil, List.cons_append, List.nil_append]
  after_results
  pointwise []

/-- The gating columns of the weight, padded with zero columns by the host. -/
theorem V_v10 (c : Dev nD) (x : Fin 1024) (y : Fin 128) :
    V m c main_v10 (ix2 x y) = if h : y.val < 8 then m ((c : Thread nD τ).loc main_arg2) (ix3 0 x ⟨4096 + y.val, by omega⟩) else (0 : EReal) := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise []
  have h0 : (FloatOps.sitofp (F := Ideal) FTy.f32 (0#32 : BitVec 32) : EReal) = (0 : EReal) := by
    show (((0#32 : BitVec 32).toInt : ℝ) : EReal) = 0
    simp
  rw [h0]

/-- The first norm's weights, as the host hands them on. -/
theorem V_v11 (c : Dev nD) (x : Fin 1024) :
    V m c main_v11 (ix2 0 x) = m ((c : Thread nD τ).loc main_arg1) (ix2 0 x) := by
  simp only [V, hostOps0, hostOps0_1, hostOps0_2, List.flatten_cons, List.flatten_nil, List.append_nil, List.cons_append, List.nil_append]
  after_results
  pointwise []

/-- Every window's block index at every grid point, in closed form (decided). -/
theorem idx_in : ∀ t : Fin cfg0.N, win0_0.index t = ![t.val / 8, t.val % 8, 0]
    ∧ win0_1.index t = ![0, 0]
    ∧ win0_2.index t = ![0, 0]
    ∧ win0_3.index t = ![0, 0]
    ∧ win0_4.index t = ![0, 0] :=
  (by decide +kernel : ∀ t : Fin grid0.N, _)

/-- The block of the layer's input at a grid point. -/
theorem iblk_0 (c : Dev nD) (t : Fin cfg0.N) (a : Fin 1) (r : Fin 512) (x : Fin 1024) :
    iblk m c 0 t (ix3 a r x) = m ((c : Thread nD τ).loc main_arg0) (ix3 ⟨t.val / 8, by have h : t.val < 64 := t.isLt; omega⟩ ⟨512 * (t.val % 8) + r.val, by omega⟩ x) := by
  blk_ext [iblk, V, idx_in t]

/-- The block of the norm's weights. -/
theorem iblk_1 (c : Dev nD) (t : Fin cfg0.N) (a : Fin 1) (x : Fin 1024) :
    iblk m c 1 t (ix2 a x) = m ((c : Thread nD τ).loc main_arg1) (ix2 0 x) := by
  refine Eq.trans ?_ (V_v11 m c x)
  blk_ext [iblk, idx_in t]

/-- The block of the plain weight. -/
theorem iblk_2 (c : Dev nD) (t : Fin cfg0.N) (x : Fin 1024) (y : Fin 4096) :
    iblk m c 2 t (ix2 x y) = m ((c : Thread nD τ).loc main_arg2) (ix3 0 x ⟨y.val, by omega⟩) := by
  refine Eq.trans ?_ (V_v2 m c x y)
  blk_ext [iblk, idx_in t]

/-- The block of the transposed weight. -/
theorem iblk_3 (c : Dev nD) (t : Fin cfg0.N) (x : Fin 1024) (y : Fin 1024) :
    iblk m c 3 t (ix2 x y) = m ((c : Thread nD τ).loc main_arg2) (ix3 0 y ⟨512 + x.val, by omega⟩) := by
  refine Eq.trans ?_ (V_v6 m c x y)
  blk_ext [iblk, idx_in t]

/-- The block of the padded gating weight. -/
theorem iblk_4 (c : Dev nD) (t : Fin cfg0.N) (x : Fin 1024) (y : Fin 128) :
    iblk m c 4 t (ix2 x y) = if h : y.val < 8 then m ((c : Thread nD τ).loc main_arg2) (ix3 0 x ⟨4096 + y.val, by omega⟩) else (0 : EReal) := by
  refine Eq.trans ?_ (V_v10 m c x y)
  blk_ext [iblk, idx_in t]

end Cert.ProjectIdeal.Hand

end
end
-- ==== Proof.ProjVal.lean ====
module

public import proofs.«01_k».proof.Proof.ProjEntry
public import proofs.«01_k».proof.Proof.Gen.ProjectRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ProjectRefIdeal.Hand

open Cert.ProjectRefIdeal Cert.ProjectRefIdeal.Gen

/-- The reference's result `v28` as one term of its arguments. -/
abbrev REF_v28 (a0 : FVec Ideal Cert.ProjectRefIdeal.S8x4096x1024 .f32) (a1 : FVec Ideal Cert.ProjectRefIdeal.S2x1024 .f32) (a2 : FVec Ideal Cert.ProjectRefIdeal.S1x1024x4104 .f32) : FVec Ideal Cert.ProjectRefIdeal.S8x4096x512 .bf16 :=
  truncf .bf16 (mulf (extractStridedSlice S8x4096x512 ![0, 0, 0] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x512_0_0_0) (broadcastInDim S8x4096x512 ![] bcast_S_S8x4096x512 (constant S_ .f32 0x3E38AA3B#32))) bitsLt_bf16_f32

/-- The reference's result `v29` as one term of its arguments. -/
abbrev REF_v29 (a0 : FVec Ideal Cert.ProjectRefIdeal.S8x4096x1024 .f32) (a1 : FVec Ideal Cert.ProjectRefIdeal.S2x1024 .f32) (a2 : FVec Ideal Cert.ProjectRefIdeal.S1x1024x4104 .f32) : FVec Ideal Cert.ProjectRefIdeal.S8x512x4096 .bf16 :=
  truncf .bf16 (transpose S8x512x4096 [0, 2, 1] (extractStridedSlice S8x4096x512 ![0, 0, 512] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x512_0_0_512) transposes_S8x4096x512_S8x512x4096_0_2_1) bitsLt_bf16_f32

/-- The reference's result `v30` as one term of its arguments. -/
abbrev REF_v30 (a0 : FVec Ideal Cert.ProjectRefIdeal.S8x4096x1024 .f32) (a1 : FVec Ideal Cert.ProjectRefIdeal.S2x1024 .f32) (a2 : FVec Ideal Cert.ProjectRefIdeal.S1x1024x4104 .f32) : FVec Ideal Cert.ProjectRefIdeal.S8x512x4096 .bf16 :=
  truncf .bf16 (transpose S8x512x4096 [0, 2, 1] (extractStridedSlice S8x4096x512 ![0, 0, 1024] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x512_0_0_1024) transposes_S8x4096x512_S8x512x4096_0_2_1) bitsLt_bf16_f32

/-- The reference's result `v24` as one term of its arguments. -/
abbrev REF_v24 (a0 : FVec Ideal Cert.ProjectRefIdeal.S8x4096x1024 .f32) (a1 : FVec Ideal Cert.ProjectRefIdeal.S2x1024 .f32) (a2 : FVec Ideal Cert.ProjectRefIdeal.S1x1024x4104 .f32) : FVec Ideal Cert.ProjectRefIdeal.S8x512x4096 .f32 :=
  transpose S8x512x4096 [0, 2, 1] (extractStridedSlice S8x4096x512 ![0, 0, 512] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x512_0_0_512) transposes_S8x4096x512_S8x512x4096_0_2_1

/-- The reference's result `v25` as one term of its arguments. -/
abbrev REF_v25 (a0 : FVec Ideal Cert.ProjectRefIdeal.S8x4096x1024 .f32) (a1 : FVec Ideal Cert.ProjectRefIdeal.S2x1024 .f32) (a2 : FVec Ideal Cert.ProjectRefIdeal.S1x1024x4104 .f32) : FVec Ideal Cert.ProjectRefIdeal.S8x512x4096 .f32 :=
  transpose S8x512x4096 [0, 2, 1] (extractStridedSlice S8x4096x512 ![0, 0, 1024] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x512_0_0_1024) transposes_S8x4096x512_S8x512x4096_0_2_1

/-- The reference's result `v32` as one term of its arguments. -/
abbrev REF_v32 (a0 : FVec Ideal Cert.ProjectRefIdeal.S8x4096x1024 .f32) (a1 : FVec Ideal Cert.ProjectRefIdeal.S2x1024 .f32) (a2 : FVec Ideal Cert.ProjectRefIdeal.S1x1024x4104 .f32) : FVec Ideal Cert.ProjectRefIdeal.S8x4096x512 .bf16 :=
  truncf .bf16 (mulf (extractStridedSlice S8x4096x512 ![0, 0, 1536] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x512_0_0_1536) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 1536] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x512_0_0_1536)))))) bitsLt_bf16_f32

/-- The reference's result `v21` as one term of its arguments. -/
abbrev REF_v21 (a0 : FVec Ideal Cert.ProjectRefIdeal.S8x4096x1024 .f32) (a1 : FVec Ideal Cert.ProjectRefIdeal.S2x1024 .f32) (a2 : FVec Ideal Cert.ProjectRefIdeal.S1x1024x4104 .f32) : FVec Ideal Cert.ProjectRefIdeal.S8x4096x1536 .f32 :=
  extractStridedSlice S8x4096x1536 ![0, 0, 2048] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x1536_0_0_2048

/-- The reference's result `v34` as one term of its arguments. -/
abbrev REF_v34 (a0 : FVec Ideal Cert.ProjectRefIdeal.S8x4096x1024 .f32) (a1 : FVec Ideal Cert.ProjectRefIdeal.S2x1024 .f32) (a2 : FVec Ideal Cert.ProjectRefIdeal.S1x1024x4104 .f32) : FVec Ideal Cert.ProjectRefIdeal.S8x4096x512 .bf16 :=
  truncf .bf16 (mulf (extractStridedSlice S8x4096x512 ![0, 0, 3584] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x512_0_0_3584) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 3584] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x512_0_0_3584)))))) bitsLt_bf16_f32

/-- The reference's result `v35` as one term of its arguments. -/
abbrev REF_v35 (a0 : FVec Ideal Cert.ProjectRefIdeal.S8x4096x1024 .f32) (a1 : FVec Ideal Cert.ProjectRefIdeal.S2x1024 .f32) (a2 : FVec Ideal Cert.ProjectRefIdeal.S1x1024x4104 .f32) : FVec Ideal Cert.ProjectRefIdeal.S8x4096x128 .f32 :=
  pad S8x4096x128 ![0, 0, 0] ![0, 0, 120] ![0, 0, 0] (extractStridedSlice S8x4096x8 ![0, 0, 4096] (Host.dotGeneral dot_S8x4096x1024_S1024x4104_S8x4096x4104_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S8x4096x4104_S8x4096x8_0_0_4096) (sitofp .f32 (constantI S_ 32 0#32)) pads_S8x4096x8_S8x4096x128_000_000_01200 h_S_

end Cert.ProjectRefIdeal.Hand

namespace Cert.ProjectIdeal.Hand

open Cert.ProjectIdeal Cert.ProjectIdeal.Gen
open Cert.ProjectRefIdeal.Hand

variable (m : (ℓ : Loc nD τ sig) → Buf (Elt Ideal) ℓ)

/-- Every window's block index at every grid point, in the grid's coordinates (decided). -/
theorem idx : ∀ t : Fin cfg0.N, win0_0.index t = ![(grid0.coords t 0).val, (grid0.coords t 1).val, 0]
    ∧ win0_1.index t = ![0, 0]
    ∧ win0_2.index t = ![0, 0]
    ∧ win0_3.index t = ![0, 0]
    ∧ win0_4.index t = ![0, 0]
    ∧ win0_5.index t = ![(grid0.coords t 0).val, (grid0.coords t 1).val, 0]
    ∧ win0_6.index t = ![(grid0.coords t 0).val, 0, (grid0.coords t 1).val]
    ∧ win0_7.index t = ![(grid0.coords t 0).val, 0, (grid0.coords t 1).val]
    ∧ win0_8.index t = ![(grid0.coords t 0).val, 0, (grid0.coords t 1).val]
    ∧ win0_9.index t = ![(grid0.coords t 0).val, 0, (grid0.coords t 1).val]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0] :=
  (by decide +kernel : ∀ t : Fin grid0.N, _)

/-- The same in the point's number. -/
theorem idx_val : ∀ t : Fin cfg0.N, win0_0.index t = ![t.val / 8, t.val % 8, 0]
    ∧ win0_1.index t = ![0, 0]
    ∧ win0_2.index t = ![0, 0]
    ∧ win0_3.index t = ![0, 0]
    ∧ win0_4.index t = ![0, 0]
    ∧ win0_5.index t = ![t.val / 8, t.val % 8, 0]
    ∧ win0_6.index t = ![t.val / 8, 0, t.val % 8]
    ∧ win0_7.index t = ![t.val / 8, 0, t.val % 8]
    ∧ win0_8.index t = ![t.val / 8, 0, t.val % 8]
    ∧ win0_9.index t = ![t.val / 8, 0, t.val % 8]
    ∧ win0_10.index t = ![t.val / 8, t.val % 8, 0]
    ∧ win0_11.index t = ![t.val / 8, t.val % 8, 0]
    ∧ win0_12.index t = ![t.val / 8, t.val % 8, 0]
    ∧ win0_13.index t = ![t.val / 8, t.val % 8, 0] :=
  (by decide +kernel : ∀ t : Fin grid0.N, _)

set_option maxHeartbeats 4000000 in
/-- What the body stores at an index of a point's block is the reference at the array index it sits at. -/
theorem point_5 (c : Dev nD) (t : Fin cfg0.N) (y) :
    k0_pay5 (iblk m c 0 t) (iblk m c 1 t) (View.ld (iblk m c 2 t) r0_2) y
      = REF_v28 (m ((c : Thread nD τ).loc main_arg0)) (m ((c : Thread nD τ).loc main_arg1)) (m ((c : Thread nD τ).loc
        main_arg2)) (((cfg0.win 5).blk t).view.emb y) := by
  pointwise [k0_pay5, REF_v28, k0_pay4, iblk_0 m c t, iblk_1 m c t, iblk_2 m c t, iblk_3 m c t, iblk_4 m c t]
  blk_point [idx_val t]

set_option maxHeartbeats 4000000 in
/-- The result array after the run is the reference's. -/
theorem final_5 (c : Dev nD) : (dats m 0 c).arrAt 5 (cfgs 0).N = REF_v28 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

set_option maxHeartbeats 4000000 in
/-- What the body stores at an index of a point's block is the reference at the array index it sits at. -/
theorem point_6 (c : Dev nD) (t : Fin cfg0.N) (y) :
    k0_pay9 (k0_pay15 (iblk m c 0 t) (iblk m c 1 t) (iblk m c 2 t) (iblk m c 3 t) (iblk m c 4 t)) y
      = REF_v29 (m ((c : Thread nD τ).loc main_arg0)) (m ((c : Thread nD τ).loc main_arg1)) (m ((c : Thread nD τ).loc
        main_arg2)) (((cfg0.win 6).blk t).view.emb y) := by
  pointwise [k0_pay9, k0_pay15, k0_pay6, REF_v29, k0_pay4, iblk_0 m c t, iblk_1 m c t, iblk_2 m c t, iblk_3 m c t, iblk_4 m c t]
  refine Finset.sum_congr rfl fun x _ => ?_
  rw [mul_comm]
  blk_point [idx_val t]

set_option maxHeartbeats 4000000 in
/-- The result array after the run is the reference's. -/
theorem final_6 (c : Dev nD) : (dats m 0 c).arrAt 6 (cfgs 0).N = REF_v29 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_6 m c t y

set_option maxHeartbeats 4000000 in
/-- What the body stores at an index of a point's block is the reference at the array index it sits at. -/
theorem point_7 (c : Dev nD) (t : Fin cfg0.N) (y) :
    k0_pay11 (k0_pay16 (iblk m c 0 t) (iblk m c 1 t) (iblk m c 2 t) (iblk m c 3 t) (iblk m c 4 t)) y
      = REF_v30 (m ((c : Thread nD τ).loc main_arg0)) (m ((c : Thread nD τ).loc main_arg1)) (m ((c : Thread nD τ).loc
        main_arg2)) (((cfg0.win 7).blk t).view.emb y) := by
  pointwise [k0_pay11, k0_pay16, k0_pay7, REF_v30, k0_pay4, iblk_0 m c t, iblk_1 m c t, iblk_2 m c t, iblk_3 m c t, iblk_4 m c t]
  refine Finset.sum_congr rfl fun x _ => ?_
  rw [mul_comm]
  blk_point [idx_val t]

set_option maxHeartbeats 4000000 in
/-- The result array after the run is the reference's. -/
theorem final_7 (c : Dev nD) : (dats m 0 c).arrAt 7 (cfgs 0).N = REF_v30 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  exact point_7 m c t y

set_option maxHeartbeats 4000000 in
/-- What the body stores at an index of a point's block is the reference at the array index it sits at. -/
theorem point_8 (c : Dev nD) (t : Fin cfg0.N) (y) :
    k0_pay8 (k0_pay15 (iblk m c 0 t) (iblk m c 1 t) (iblk m c 2 t) (iblk m c 3 t) (iblk m c 4 t)) y
      = REF_v24 (m ((c : Thread nD τ).loc main_arg0)) (m ((c : Thread nD τ).loc main_arg1)) (m ((c : Thread nD τ).loc
        main_arg2)) (((cfg0.win 8).blk t).view.emb y) := by
  pointwise [k0_pay8, k0_pay15, k0_pay6, REF_v24, k0_pay4, iblk_0 m c t, iblk_1 m c t, iblk_2 m c t, iblk_3 m c t, iblk_4 m c t]
  refine Finset.sum_congr rfl fun x _ => ?_
  rw [mul_comm]
  blk_point [idx_val t]

set_option maxHeartbeats 4000000 in
/-- The result array after the run is the reference's. -/
theorem final_8 (c : Dev nD) : (dats m 0 c).arrAt 8 (cfgs 0).N = REF_v24 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp; rw [after0_8]; frame_out
  exact point_8 m c t y

set_option maxHeartbeats 4000000 in
/-- What the body stores at an index of a point's block is the reference at the array index it sits at. -/
theorem point_9 (c : Dev nD) (t : Fin cfg0.N) (y) :
    k0_pay10 (k0_pay16 (iblk m c 0 t) (iblk m c 1 t) (iblk m c 2 t) (iblk m c 3 t) (iblk m c 4 t)) y
      = REF_v25 (m ((c : Thread nD τ).loc main_arg0)) (m ((c : Thread nD τ).loc main_arg1)) (m ((c : Thread nD τ).loc
        main_arg2)) (((cfg0.win 9).blk t).view.emb y) := by
  pointwise [k0_pay10, k0_pay16, k0_pay7, REF_v25, k0_pay4, iblk_0 m c t, iblk_1 m c t, iblk_2 m c t, iblk_3 m c t, iblk_4 m c t]
  refine Finset.sum_congr rfl fun x _ => ?_
  rw [mul_comm]
  blk_point [idx_val t]

set_option maxHeartbeats 4000000 in
/-- The result array after the run is the reference's. -/
theorem final_9 (c : Dev nD) : (dats m 0 c).arrAt 9 (cfgs 0).N = REF_v25 (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp; rw [after0_9]; frame_out
  exact point_9 m c t y

set_option maxHeartbeats 4000000 in
/-- What the body stores at an index of a point's block is the reference at the array index it sits at. -/
theorem point_10 (c : Dev nD) (t : Fin cfg0.N) (y) :
    k0_pay12 (k0_pay14 (iblk m c 0 t) (iblk m c 1 t) (iblk m c 2 t) (iblk m c 3 t) (iblk m c 4 t)) (View.ld (iblk m c
      2 t) r0_6) y
      = REF_v32 (m ((c : Thread nD τ).loc main_arg0)) (m ((c : Thread nD τ).loc main_arg1)) (m ((c : Thread nD τ).loc
        main_arg2)) (((cfg0.win 10).blk t).view.emb y) := by
  pointwise [k0_pay12, k0_pay14, REF_v32, k0_pay4, iblk_0 m c t, iblk_1 m c t, iblk_2 m c t, iblk_3 m c t, iblk_4 m c t]
  simp only [zero_sub]
  blk_point [idx_val t]

set_option maxHeartbeats 4000000 in
/-- The result array after the run is the reference's. -/
theorem final_10 (c : Dev nD) : (dats m 0 c).arrAt 10 (cfgs 0).N = REF_v32 (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp; rw [after0_10]; frame_out
  exact point_10 m c t y

set_option maxHeartbeats 4000000 in
/-- What the body stores at an index of a point's block is the reference at the array index it sits at. -/
theorem point_11 (c : Dev nD) (t : Fin cfg0.N) (y) :
    k0_pay1 (k0_pay13 (k0_pay14 (iblk m c 0 t) (iblk m c 1 t) (iblk m c 2 t) (iblk m c 3 t) (iblk m c 4 t)) (View.ld
      (iblk m c 2 t) r0_7)) y
      = REF_v21 (m ((c : Thread nD τ).loc main_arg0)) (m ((c : Thread nD τ).loc main_arg1)) (m ((c : Thread nD τ).loc
        main_arg2)) (((cfg0.win 11).blk t).view.emb y) := by
  pointwise [k0_pay1, k0_pay13, k0_pay14, REF_v21, k0_pay4, iblk_0 m c t, iblk_1 m c t, iblk_2 m c t, iblk_3 m c t, iblk_4 m c t]
  blk_point [idx_val t]

set_option maxHeartbeats 4000000 in
/-- The result array after the run is the reference's. -/
theorem final_11 (c : Dev nD) : (dats m 0 c).arrAt 11 (cfgs 0).N = REF_v21 (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp; rw [after0_11]; frame_out
  exact point_11 m c t y

set_option maxHeartbeats 4000000 in
/-- What the body stores at an index of a point's block is the reference at the array index it sits at. -/
theorem point_12 (c : Dev nD) (t : Fin cfg0.N) (y) :
    k0_pay2 (k0_pay14 (iblk m c 0 t) (iblk m c 1 t) (iblk m c 2 t) (iblk m c 3 t) (iblk m c 4 t)) (View.ld (iblk m c 2
      t) r0_9) y
      = REF_v34 (m ((c : Thread nD τ).loc main_arg0)) (m ((c : Thread nD τ).loc main_arg1)) (m ((c : Thread nD τ).loc
        main_arg2)) (((cfg0.win 12).blk t).view.emb y) := by
  pointwise [k0_pay2, k0_pay14, REF_v34, k0_pay4, iblk_0 m c t, iblk_1 m c t, iblk_2 m c t, iblk_3 m c t, iblk_4 m c t]
  simp only [zero_sub]
  blk_point [idx_val t]

set_option maxHeartbeats 4000000 in
/-- The result array after the run is the reference's. -/
theorem final_12 (c : Dev nD) : (dats m 0 c).arrAt 12 (cfgs 0).N = REF_v34 (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp; rw [after0_12]; frame_out
  exact point_12 m c t y

set_option maxHeartbeats 4000000 in
/-- What the body stores at an index of a point's block is the reference at the array index it sits at. -/
theorem point_13 (c : Dev nD) (t : Fin cfg0.N) (y) :
    k0_pay3 (k0_pay14 (iblk m c 0 t) (iblk m c 1 t) (iblk m c 2 t) (iblk m c 3 t) (iblk m c 4 t)) (iblk m c 4 t) y
      = REF_v35 (m ((c : Thread nD τ).loc main_arg0)) (m ((c : Thread nD τ).loc main_arg1)) (m ((c : Thread nD τ).loc
        main_arg2)) (((cfg0.win 13).blk t).view.emb y) := by
  pointwise [k0_pay3, k0_pay14, REF_v35, k0_pay4, iblk_0 m c t, iblk_1 m c t, iblk_2 m c t, iblk_3 m c t, iblk_4 m c t]
  have e2 : ((((View.whole main_v12_8).slice ((win0 13).rect t)).emb y) 2).val = (y 2).val := by
    blk_simp [idx_val t]
  by_cases h : (y 2).val < 8
  · have h' : ((((View.whole main_v12_8).slice ((win0 13).rect t)).emb y) 2).val < 8 := by rw [e2]; exact h
    simp only [dif_pos h, dif_pos h']
    blk_point [idx_val t]
  · have h' : ¬ ((((View.whole main_v12_8).slice ((win0 13).rect t)).emb y) 2).val < 8 := by rw [e2]; exact h
    have h0 : (FloatOps.sitofp (F := Ideal) FTy.f32 (0#32 : BitVec 32) : EReal) = (0 : EReal) := by
      show (((0#32 : BitVec 32).toInt : ℝ) : EReal) = 0
      simp
    simp only [dif_neg h, dif_neg h', mul_zero, Finset.sum_const_zero]
    exact h0.symm

set_option maxHeartbeats 4000000 in
/-- The result array after the run is the reference's. -/
theorem final_13 (c : Dev nD) : (dats m 0 c).arrAt 13 (cfgs 0).N = REF_v35 (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp; rw [after0_13]; frame_out
  exact point_13 m c t y

end Cert.ProjectIdeal.Hand

end
-- ==== Proof.TailSpec.lean ====
module

public import proofs.«01_k».proof.Proof.Gen.TailRefIdeal.Run
public import Idealize.ShloMosaic.Lib.Pipeline.ValueKit

@[expose] public section

set_option maxRecDepth 16384

noncomputable section

open Idealize.ShloMosaic Idealize.ShloMosaic.TcCoe Idealize.SL.Sem
open scoped BigOperators

namespace Cert.TailRefIdeal.Hand

open Cert.TailRefIdeal Cert.TailRefIdeal.Gen Cert.TailRefIdeal.Value

/-- The arguments of the tail call: the layer's input, the two mixers' outputs, the norm weights, the output projection,
    the short convolution's input projection, taps and output projection, and the final norm's weights. -/
structure Args where
  x : FVec Ideal S8x4096x1024 .f32
  ma : FVec Ideal S8x4096x512 .bf16
  mb : FVec Ideal S8x4096x512 .bf16
  nw : FVec Ideal S2x1024 .f32
  wo : FVec Ideal S1x1024x1024 .f32
  win : FVec Ideal S1x1024x4096 .f32
  cw : FVec Ideal S1x3x1024 .f32
  wout : FVec Ideal S1x1024x1024 .f32
  fnw : FVec Ideal S1024 .f32

/-- The arguments as the arrays of one memory. -/
def argsOf (m : (ℓ : Loc nD τ sig) → Buf (Elt Ideal) ℓ) (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩

/-- The residual stream after the output projection. -/
def t4 (A : Args) : FVec Ideal S8x4096x1024 .f32 :=
  addf A.x (Host.dotGeneral dot_S8x4096x1024_S1024x1024_S8x4096x1024_2_0_01_1_n_n none (extf .f32 (concatenate S8x4096x1024 2 [⟨S8x4096x512, A.ma⟩, ⟨S8x4096x512, A.mb⟩] concatenates_S8x4096x512_S8x4096x512_S8x4096x1024_d2) bitsLt_bf16_f32) (shapeCast _ A.wo shapeCasts_S1x1024x1024_S1024x1024))

/-- Its norm. -/
def t19 (A : Args) : FVec Ideal S8x4096x1024 .f32 :=
  mulf (mulf (t4 A) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (t4 A) (t4 A)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![1, 0] A.nw slices_S2x1024_S1x1024_1_0) shapeCasts_S1x1024_S1024)))

/-- The short convolution's input projection. -/
def t21 (A : Args) : FVec Ideal S8x4096x4096 .f32 :=
  Host.dotGeneral dot_S8x4096x1024_S1024x4096_S8x4096x4096_2_0_01_1_n_n none (t19 A) (shapeCast _ A.win shapeCasts_S1x1024x4096_S1024x4096)

/-- The gated convolution input. -/
def t26 (A : Args) : FVec Ideal S8x4096x1024 .f32 :=
  mulf (extractStridedSlice S8x4096x1024 ![0, 0, 2048] (t21 A) slices_S8x4096x4096_S8x4096x1024_0_0_2048) (extractStridedSlice S8x4096x1024 ![0, 0, 0] (t21 A) slices_S8x4096x4096_S8x4096x1024_0_0_0)

/-- The causal three-tap convolution. -/
def t48 (A : Args) : FVec Ideal S8x4096x1024 .f32 :=
  addf (addf (mulf (extractStridedSlice S8x4096x1024 ![0, 0, 0] (pad S8x4098x1024 ![0, 2, 0] ![0, 0, 0] ![0, 0, 0] (t26 A) (sitofp .f32 (constantI S_ 32 0#32)) pads_S8x4096x1024_S8x4098x1024_000_200_000 h_S_) slices_S8x4098x1024_S8x4096x1024_0_0_0) (broadcastInDim S8x4096x1024 ![0, 1, 2] bcast_S1x1x1024_S8x4096x1024_0_1_2 (broadcastInDim S1x1x1024 ![2] bcast_S1024_S1x1x1024_2 (shapeCast _ (extractStridedSlice S1x1024 ![0, 0] (shapeCast _ A.cw shapeCasts_S1x3x1024_S3x1024) slices_S3x1024_S1x1024_0_0) shapeCasts_S1x1024_S1024)))) (mulf (extractStridedSlice S8x4096x1024 ![0, 1, 0] (pad S8x4098x1024 ![0, 2, 0] ![0, 0, 0] ![0, 0, 0] (t26 A) (sitofp .f32 (constantI S_ 32 0#32)) pads_S8x4096x1024_S8x4098x1024_000_200_000 h_S_) slices_S8x4098x1024_S8x4096x1024_0_1_0) (broadcastInDim S8x4096x1024 ![0, 1, 2] bcast_S1x1x1024_S8x4096x1024_0_1_2 (broadcastInDim S1x1x1024 ![2] bcast_S1024_S1x1x1024_2 (shapeCast _ (extractStridedSlice S1x1024 ![1, 0] (shapeCast _ A.cw shapeCasts_S1x3x1024_S3x1024) slices_S3x1024_S1x1024_1_0) shapeCasts_S1x1024_S1024))))) (mulf (extractStridedSlice S8x4096x1024 ![0, 2, 0] (pad S8x4098x1024 ![0, 2, 0] ![0, 0, 0] ![0, 0, 0] (t26 A) (sitofp .f32 (constantI S_ 32 0#32)) pads_S8x4096x1024_S8x4098x1024_000_200_000 h_S_) slices_S8x4098x1024_S8x4096x1024_0_2_0) (broadcastInDim S8x4096x1024 ![0, 1, 2] bcast_S1x1x1024_S8x4096x1024_0_1_2 (broadcastInDim S1x1x1024 ![2] bcast_S1024_S1x1x1024_2 (shapeCast _ (extractStridedSlice S1x1024 ![2, 0] (shapeCast _ A.cw shapeCasts_S1x3x1024_S3x1024) slices_S3x1024_S1x1024_2_0) shapeCasts_S1x1024_S1024))))

/-- The gated convolution output. -/
def t51 (A : Args) : FVec Ideal S8x4096x1024 .f32 :=
  mulf (mulf (extractStridedSlice S8x4096x1024 ![0, 0, 1024] (t21 A) slices_S8x4096x4096_S8x4096x1024_0_0_1024) (t48 A)) (mulf (extractStridedSlice S8x4096x1024 ![0, 0, 3072] (t21 A) slices_S8x4096x4096_S8x4096x1024_0_0_3072) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 3072] (t21 A) slices_S8x4096x4096_S8x4096x1024_0_0_3072))))))

/-- The residual stream after the convolution layer. -/
def t54 (A : Args) : FVec Ideal S8x4096x1024 .f32 :=
  addf (t4 A) (Host.dotGeneral dot_S8x4096x1024_S1024x1024_S8x4096x1024_2_0_01_1_n_n none (t51 A) (shapeCast _ A.wout shapeCasts_S1x1024x1024_S1024x1024))

/-- The layer's result. -/
def t67 (A : Args) : FVec Ideal S8x4096x1024 .f32 :=
  mulf (mulf (t54 A) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (t54 A) (t54 A)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 A.fnw))

/-- The convolution's carried rows. -/
def t68 (A : Args) : FVec Ideal S8x8x1024 .f32 :=
  extractStridedSlice S8x8x1024 ![0, 4088, 0] (t26 A) slices_S8x4096x1024_S8x8x1024_0_4088_0

/-- The first result in stages. -/
theorem res67_eq (m : (ℓ : Loc nD τ sig) → Buf (Elt Ideal) ℓ) (c : Dev nD) : res_main_v67 m c = t67 (argsOf m c) := rfl

/-- The second result in stages. -/
theorem res68_eq (m : (ℓ : Loc nD τ sig) → Buf (Elt Ideal) ℓ) (c : Dev nD) : res_main_v68 m c = t68 (argsOf m c) := rfl

variable (A : Args)

/-- The residual stream after the output projection, at one row and column. -/
def H1 (b : Fin 8) (r : Fin 4096) (x : Fin 1024) : EReal :=
  A.x (ix3 b r x) + ((∑ k : Fin 512, A.ma (ix3 b r k) * A.wo (ix3 0 ⟨k.val, by omega⟩ x))
    + ∑ k : Fin 512, A.mb (ix3 b r k) * A.wo (ix3 0 ⟨512 + k.val, by omega⟩ x))

/-- The norm of a row of `f`, at a column. -/
def nrm (f : Fin 1024 → EReal) (x : Fin 1024) : EReal :=
  f x * Ideal.rsqrt (Ideal.div (∑ k, f k * f k) (Ideal.ofBits .f32 0x44800000#32) + Ideal.ofBits .f32 0x358637BD#32)

/-- The normalised stream. -/
def XN (b : Fin 8) (r : Fin 4096) (x : Fin 1024) : EReal := nrm (H1 A b r) x * A.nw (ix2 1 x)

/-- The convolution layer's input projection. -/
def PR (b : Fin 8) (r : Fin 4096) (y : Fin 4096) : EReal := ∑ k : Fin 1024, XN A b r k * A.win (ix3 0 k y)

/-- The convolution's input. -/
def CU (b : Fin 8) (r : Fin 4096) (x : Fin 1024) : EReal := PR A b r ⟨2048 + x.val, by omega⟩ * PR A b r ⟨x.val, by omega⟩

/-- The convolution's input `s` rows before, zero before the sequence's start. -/
def SH (b : Fin 8) (r : Fin 4096) (s : ℕ) (x : Fin 1024) : EReal :=
  if h : s ≤ r.val then CU A b ⟨r.val - s, by omega⟩ x else 0

/-- The causal convolution. -/
def YC (b : Fin 8) (r : Fin 4096) (x : Fin 1024) : EReal :=
  CU A b r x * A.cw (ix3 0 2 x) + SH A b r 1 x * A.cw (ix3 0 1 x) + SH A b r 2 x * A.cw (ix3 0 0 x)

/-- The gated convolution output. -/
def GM (b : Fin 8) (r : Fin 4096) (x : Fin 1024) : EReal :=
  PR A b r ⟨1024 + x.val, by omega⟩ * YC A b r x
    * (PR A b r ⟨3072 + x.val, by omega⟩ * Ideal.div 1 (1 + Ideal.exp (-PR A b r ⟨3072 + x.val, by omega⟩)))

/-- The residual stream after the convolution layer. -/
def H2 (b : Fin 8) (r : Fin 4096) (x : Fin 1024) : EReal :=
  H1 A b r x + ∑ k : Fin 1024, GM A b r k * A.wout (ix3 0 k x)

/-- The result. -/
def YY (b : Fin 8) (r : Fin 4096) (x : Fin 1024) : EReal := nrm (H2 A b r) x * A.fnw (ix1 x)

/-- The reference's array number 4, at an index. -/
theorem t4_at (b : Fin 8) (r : Fin 4096) (x : Fin 1024) : t4 A (ix3 b r x) = H1 A b r x := by
  unfold H1
  pointwise [t4]

/-- The reference's array number 19, at an index. -/
theorem t19_at (b : Fin 8) (r : Fin 4096) (x : Fin 1024) : t19 A (ix3 b r x) = XN A b r x := by
  unfold XN nrm
  pointwise [t19, t4_at A]

/-- The reference's array number 21, at an index. -/
theorem t21_at (b : Fin 8) (r : Fin 4096) (x : Fin 4096) : t21 A (ix3 b r x) = PR A b r x := by
  unfold PR
  pointwise [t21, t19_at A]

/-- The reference's array number 26, at an index. -/
theorem t26_at (b : Fin 8) (r : Fin 4096) (x : Fin 1024) : t26 A (ix3 b r x) = CU A b r x := by
  unfold CU
  pointwise [t26, t21_at A]

/-- The reference's array number 48, at an index. -/
theorem t48_at (b : Fin 8) (r : Fin 4096) (x : Fin 1024) : t48 A (ix3 b r x) = YC A b r x := by
  unfold YC SH
  pointwise [t48, t26_at A]
  have h0 : (FloatOps.sitofp (F := Ideal) FTy.f32 (0#32 : BitVec 32) : EReal) = (0 : EReal) := by
    show (((0#32 : BitVec 32).toInt : ℝ) : EReal) = 0
    simp
  rw [h0]
  have e1 : (if h : 2 ≤ 1 + r.val ∧ 1 + r.val - 2 < 4096 then CU A b ⟨1 + r.val - 2, h.2⟩ x else (0 : EReal))
      = if h : 1 ≤ r.val then CU A b ⟨r.val - 1, by omega⟩ x else 0 := by
    by_cases h : 1 ≤ r.val
    · rw [dif_pos h, dif_pos ⟨by omega, by omega⟩]
      congr 2
      omega
    · rw [dif_neg h, dif_neg (by omega)]
  have e2 : (if h : 2 ≤ r.val ∧ r.val - 2 < 4096 then CU A b ⟨r.val - 2, h.2⟩ x else (0 : EReal))
      = if h : 2 ≤ r.val then CU A b ⟨r.val - 2, by omega⟩ x else 0 := by
    by_cases h : 2 ≤ r.val
    · rw [dif_pos h, dif_pos ⟨h, by omega⟩]
    · rw [dif_neg h, dif_neg (by omega)]
  rw [e1, e2, add_comm (_ * _) (_ * _), add_comm (_ + _) (_ * _), ← add_assoc]

/-- The reference's array number 51, at an index. -/
theorem t51_at (b : Fin 8) (r : Fin 4096) (x : Fin 1024) : t51 A (ix3 b r x) = GM A b r x := by
  unfold GM
  pointwise [t51, t48_at A, t21_at A]

/-- The reference's array number 54, at an index. -/
theorem t54_at (b : Fin 8) (r : Fin 4096) (x : Fin 1024) : t54 A (ix3 b r x) = H2 A b r x := by
  unfold H2
  pointwise [t54, t51_at A, t4_at A]

/-- The reference's array number 67, at an index. -/
theorem t67_at (b : Fin 8) (r : Fin 4096) (x : Fin 1024) : t67 A (ix3 b r x) = YY A b r x := by
  unfold YY nrm
  pointwise [t67, t54_at A]

/-- The reference's array number 68, at an index. -/
theorem t68_at (b : Fin 8) (r : Fin 8) (x : Fin 1024) : t68 A (ix3 b r x) = CU A b ⟨4088 + r.val, by omega⟩ x := by
  have h : t68 A = extractStridedSlice S8x8x1024 ![0, 4088, 0] (t26 A) slices_S8x4096x1024_S8x8x1024_0_4088_0 := rfl
  rw [h]
  pointwise [t26_at A]

end Cert.TailRefIdeal.Hand

end
end
-- ==== Proof.TailPay.lean ====
module

public import proofs.«01_k».proof.Proof.TailSpec
public import proofs.«01_k».proof.Proof.Gen.TailIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.TailIdeal.Hand

open Cert.TailIdeal Cert.TailIdeal.Gen
open Cert.TailRefIdeal.Hand

/-! ## What each group of operations of the body computes, entry by entry -/

variable (A : Args) (b : Fin 8) (R : Fin 512 → Fin 4096)

/-- The body's value `k0_pay2` at an index, from what its operands are at theirs. -/
theorem pay2_at (v : Vec Ideal S1x8x1024 .f32) (r : Fin 8) (x : Fin 1024) : k0_pay2 v (ix2 r x) = v (ix3 0 r x) := by
  pointwise [k0_pay2]

/-- The body's value `k0_pay3` at an index, from what its operands are at theirs. -/
theorem pay3_at {v3 : Vec Ideal S1x512x1024 .f32} {v5 v10 : Vec Ideal S1x512x512 .bf16} {v7 v12 : Vec Ideal S512x1024 .bf16}
    (h3 : ∀ r x, v3 (ix3 0 r x) = A.x (ix3 b (R r) x)) (h5 : ∀ r k, v5 (ix3 0 r k) = A.ma (ix3 b (R r) k))
    (h7 : ∀ (k : Fin 512) x, v7 (ix2 k x) = A.wo (ix3 0 ⟨k.val, by omega⟩ x))
    (h10 : ∀ r k, v10 (ix3 0 r k) = A.mb (ix3 b (R r) k))
    (h12 : ∀ (k : Fin 512) x, v12 (ix2 k x) = A.wo (ix3 0 ⟨512 + k.val, by omega⟩ x)) (r : Fin 512) (x : Fin 1024) :
    k0_pay3 v3 v5 v7 v10 v12 (ix2 r x) = H1 A b (R r) x := by
  unfold H1
  pointwise [k0_pay3, h3, h5, h7, h10, h12]

/-- The body's value `k0_pay4` at an index, from what its operands are at theirs. -/
theorem pay4_at {v3 : Vec Ideal S1x512x1024 .f32} {v5 v10 : Vec Ideal S1x512x512 .bf16} {v7 v12 : Vec Ideal S512x1024 .bf16}
    {v17 : Vec Ideal S1x1024 .f32}
    (h : ∀ r x, k0_pay3 v3 v5 v7 v10 v12 (ix2 r x) = H1 A b (R r) x)
    (h17 : ∀ x, v17 (ix2 0 x) = A.nw (ix2 1 x)) (r : Fin 512) (x : Fin 1024) :
    k0_pay4 v3 v5 v7 v10 v12 v17 (ix2 r x) = XN A b (R r) x := by
  unfold XN nrm
  pointwise [k0_pay4, h, h17]

/-- The body's value `k0_pay5` at an index, from what its operands are at theirs. -/
theorem pay5_at {v31 : FVec Ideal S512x1024 .bf16} {v32 v35 : Vec Ideal S1024x1024 .bf16}
    (h31 : ∀ r x, v31 (ix2 r x) = XN A b (R r) x)
    (h32 : ∀ (k x : Fin 1024), v32 (ix2 k x) = A.win (ix3 0 k ⟨2048 + x.val, by omega⟩))
    (h35 : ∀ (k x : Fin 1024), v35 (ix2 k x) = A.win (ix3 0 k ⟨x.val, by omega⟩)) (r : Fin 512) (x : Fin 1024) :
    k0_pay5 v31 v32 v35 (ix2 r x) = CU A b (R r) x := by
  unfold CU PR
  pointwise [k0_pay5, h31, h32, h35]

/-- The body's value `k0_pay6` at an index, from what its operands are at theirs. -/
theorem pay6_at {v31 : FVec Ideal S512x1024 .bf16} {v32 v35 : Vec Ideal S1024x1024 .bf16}
    (h : ∀ r x, k0_pay5 v31 v32 v35 (ix2 r x) = CU A b (R r) x) (r : Fin 8) (x : Fin 1024) :
    k0_pay6 v31 v32 v35 (ix2 r x) = CU A b (R ⟨504 + r.val, by omega⟩) x := by
  pointwise [k0_pay6, h]

/-- The body's value `k0_pay7` at an index, from what its operands are at theirs. -/
theorem pay7_at {v31 : FVec Ideal S512x1024 .bf16} {v32 v35 : Vec Ideal S1024x1024 .bf16}
    (h : ∀ r x, k0_pay5 v31 v32 v35 (ix2 r x) = CU A b (R r) x) (a : Fin 1) (r : Fin 8) (x : Fin 1024) :
    k0_pay7 v31 v32 v35 (ix3 a r x) = CU A b (R ⟨504 + r.val, by omega⟩) x := by
  pointwise [k0_pay7, h]

/-- Looking back from a later row by as many rows more is the same. -/
theorem SH_shift {r r' : Fin 4096} {d : ℕ} (h : r.val + d = r'.val) (s : ℕ) (x : Fin 1024) :
    SH A b r s x = SH A b r' (s + d) x := by
  unfold SH
  by_cases hs : s ≤ r.val
  · rw [dif_pos hs, dif_pos (by omega)]
    exact congrArg (fun q => CU A b q x) (Fin.ext (by show r.val - s = r'.val - (s + d); omega))
  · rw [dif_neg hs, dif_neg (by omega)]

/-- The body's value `k0_pay8` at an index, from what its operands are at theirs. -/
theorem pay8_at {v31 : FVec Ideal S512x1024 .bf16} {v32 v35 v66 : Vec Ideal S1024x1024 .bf16} {v39 : Vec Ideal S3x1024 .f32}
    {v41 : Vec Ideal S8x1024 .f32}
    (hR : ∀ r, (R r).val = (R 0).val + r.val)
    (h31 : ∀ r x, v31 (ix2 r x) = XN A b (R r) x)
    (h : ∀ r x, k0_pay5 v31 v32 v35 (ix2 r x) = CU A b (R r) x)
    (h39 : ∀ k x, v39 (ix2 k x) = A.cw (ix3 0 k x))
    (h41 : ∀ (k : Fin 8) x, v41 (ix2 k x) = SH A b (R 0) (8 - k.val) x)
    (h66 : ∀ (k x : Fin 1024), v66 (ix2 k x) = A.win (ix3 0 k ⟨1024 + x.val, by omega⟩)) (r : Fin 512) (x : Fin 1024) :
    k0_pay8 v31 v32 v35 v39 v41 v66 (ix2 r x) = PR A b (R r) ⟨1024 + x.val, by omega⟩ * YC A b (R r) x := by
  unfold YC PR
  pointwise [k0_pay8, h, h31, h39, h41, h66]
  have hR0 : (R 0).val + r.val = (R r).val := (hR r).symm
  refine congrArg₂ (· * ·) rfl (congrArg₂ (· + ·) (congrArg₂ (· + ·) rfl (congrArg₂ (· * ·) ?_ rfl)) (congrArg₂ (· * ·) ?_ rfl))
  · by_cases hr : 1 ≤ r.val
    · rw [dif_neg (by omega)]
      unfold SH
      rw [dif_pos (by omega)]
      refine congrArg (fun q => CU A b q x) (Fin.ext ?_)
      rw [hR]
      show _ + ((8 + r.val + 520 - 1) % 520 - 8) = (R r).val - 1
      omega
    · rw [dif_pos (by omega), SH_shift A b (hR0)]
      exact congrArg (fun q => SH A b (R r) q x) (by omega)
  · by_cases hr : 2 ≤ r.val
    · rw [dif_neg (by omega)]
      unfold SH
      rw [dif_pos (by omega)]
      refine congrArg (fun q => CU A b q x) (Fin.ext ?_)
      rw [hR]
      show _ + ((8 + r.val + 520 - 2) % 520 - 8) = (R r).val - 2
      omega
    · rw [dif_pos (by omega), SH_shift A b (hR0)]
      exact congrArg (fun q => SH A b (R r) q x) (by omega)

/-- The body's value `k0_pay1` at an index, from what its operands are at theirs. -/
theorem pay1_at {v16 v69 : FVec Ideal S512x1024 .f32} {v31 : FVec Ideal S512x1024 .bf16} {v70 v83 : Vec Ideal S1024x1024 .bf16}
    {v87 : Vec Ideal S1x1024 .f32}
    (h16 : ∀ r x, v16 (ix2 r x) = H1 A b (R r) x)
    (h31 : ∀ r x, v31 (ix2 r x) = XN A b (R r) x)
    (h69 : ∀ (r : Fin 512) (x : Fin 1024), v69 (ix2 r x) = PR A b (R r) ⟨1024 + x.val, by omega⟩ * YC A b (R r) x)
    (h70 : ∀ (k x : Fin 1024), v70 (ix2 k x) = A.win (ix3 0 k ⟨3072 + x.val, by omega⟩))
    (h83 : ∀ (k x : Fin 1024), v83 (ix2 k x) = A.wout (ix3 0 k x))
    (h87 : ∀ x, v87 (ix2 0 x) = A.fnw (ix1 x)) (a : Fin 1) (r : Fin 512) (x : Fin 1024) :
    k0_pay1 v16 v31 v69 v70 v83 v87 (ix3 a r x) = YY A b (R r) x := by
  unfold YY nrm H2 GM
  pointwise [k0_pay1, h16, h31, h69, h70, h83, h87]
  simp only [zero_sub, PR]

end Cert.TailIdeal.Hand

end
end
-- ==== Proof.TailVal.lean ====
module

public import proofs.«01_k».proof.Proof.TailPay
public import proofs.«01_k».proof.Proof.Gen.TailIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.TailIdeal.Hand

open Cert.TailIdeal Cert.TailIdeal.Gen
open Cert.TailRefIdeal.Hand

open Idealize.ShloMosaic.Pipeline (Dat)

variable (m : (ℓ : Loc nD τ sig) → Buf (Elt Ideal) ℓ)

/-- The call's arguments in a memory. -/
def args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩

/-- Every window's block index at every grid point, in closed form (decided). -/
theorem idx_val : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![t.val / 8, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 8, t.val % 8, 0]
    ∧ win0_11.index t = ![t.val / 8, 0, 0] :=
  (by decide +kernel : ∀ t : Fin grid0.N, _)

/-- The second result's block is written back at a sequence's last point only. -/
theorem flush_11 : ∀ t : Fin cfg0.N, (cfg0.win 11).flush t = true → t.val % 8 = 7 :=
  (by decide +kernel : ∀ t : Fin grid0.N, (cfg0.win 11).flush t = true → t.val % 8 = 7)

/-- The sequence a grid point works on. -/
def sq (n : ℕ) (h : n < cfg0.N) : Fin 8 := ⟨n / 8, by have h : n < 64 := h; omega⟩

/-- The sequence row that a block's row is. -/
def row (n : ℕ) (r : Fin 512) : Fin 4096 := ⟨512 * (n % 8) + r.val, by omega⟩

/-- The host's array `v0` at an index, as an argument's element (or a constant). -/
theorem V_v0 (c : Dev nD) (b : Fin 8) (k : Fin 8) (x : Fin 1024) : V m c main_v0 (ix3 b k x) = (0 : EReal) := by
  simp only [V, hostOps0, List.flatten_cons, List.flatten_nil, List.append_nil, List.cons_append, List.nil_append]
  after_results
  pointwise [args]

/-- The host's array `v2` at an index, as an argument's element (or a constant). -/
theorem V_v2 (c : Dev nD) (k x : Fin 1024) : V m c main_v2 (ix2 k x) = (args m c).wo (ix3 0 k x) := by
  simp only [V, hostOps0, List.flatten_cons, List.flatten_nil, List.append_nil, List.cons_append, List.nil_append]
  after_results
  pointwise [args]

/-- The host's array `v3` at an index, as an argument's element (or a constant). -/
theorem V_v3 (c : Dev nD) (x : Fin 1024) : V m c main_v3 (ix2 0 x) = (args m c).nw (ix2 1 x) := by
  simp only [V, hostOps0, List.flatten_cons, List.flatten_nil, List.append_nil, List.cons_append, List.nil_append]
  after_results
  pointwise [args]

/-- The host's array `v5` at an index, as an argument's element (or a constant). -/
theorem V_v5 (c : Dev nD) (k : Fin 1024) (x : Fin 4096) : V m c main_v5 (ix2 k x) = (args m c).win (ix3 0 k x) := by
  simp only [V, hostOps0, List.flatten_cons, List.flatten_nil, List.append_nil, List.cons_append, List.nil_append]
  after_results
  pointwise [args]

/-- The host's array `v6` at an index, as an argument's element (or a constant). -/
theorem V_v6 (c : Dev nD) (k : Fin 3) (x : Fin 1024) : V m c main_v6 (ix2 k x) = (args m c).cw (ix3 0 k x) := by
  simp only [V, hostOps0, List.flatten_cons, List.flatten_nil, List.append_nil, List.cons_append, List.nil_append]
  after_results
  pointwise [args]

/-- The host's array `v8` at an index, as an argument's element (or a constant). -/
theorem V_v8 (c : Dev nD) (k x : Fin 1024) : V m c main_v8 (ix2 k x) = (args m c).wout (ix3 0 k x) := by
  simp only [V, hostOps0, List.flatten_cons, List.flatten_nil, List.append_nil, List.cons_append, List.nil_append]
  after_results
  pointwise [args]

/-- The host's array `v9` at an index, as an argument's element (or a constant). -/
theorem V_v9 (c : Dev nD) (x : Fin 1024) : V m c main_v9 (ix2 0 x) = (args m c).fnw (ix1 x) := by
  simp only [V, hostOps0, List.flatten_cons, List.flatten_nil, List.append_nil, List.cons_append, List.nil_append]
  after_results
  pointwise [args]

/-- The block that window 0 brings to a grid point, at an index. -/
theorem iblk_0 (c : Dev nD) (t : Fin cfg0.N) (a : Fin 1) (r : Fin 512) (x : Fin 1024) :
    iblk m c 0 t (ix3 a r x) = (args m c).x (ix3 (sq t.val t.isLt) (row t.val r) x) := by
  blk_ext [iblk, V, idx_val t, args, sq, row]

/-- The block that window 1 brings to a grid point, at an index. -/
theorem iblk_1 (c : Dev nD) (t : Fin cfg0.N) (a : Fin 1) (r : Fin 512) (x : Fin 512) :
    iblk m c 1 t (ix3 a r x) = (args m c).ma (ix3 (sq t.val t.isLt) (row t.val r) x) := by
  blk_ext [iblk, V, idx_val t, args, sq, row]

/-- The block that window 2 brings to a grid point, at an index. -/
theorem iblk_2 (c : Dev nD) (t : Fin cfg0.N) (a : Fin 1) (r : Fin 512) (x : Fin 512) :
    iblk m c 2 t (ix3 a r x) = (args m c).mb (ix3 (sq t.val t.isLt) (row t.val r) x) := by
  blk_ext [iblk, V, idx_val t, args, sq, row]

/-- The block that window 3 brings to a grid point, at an index. -/
theorem iblk_3 (c : Dev nD) (t : Fin cfg0.N) (a : Fin 1) (k : Fin 8) (x : Fin 1024) : iblk m c 3 t (ix3 a k x) = (0 : EReal) := by
  refine Eq.trans ?_ (V_v0 m c (sq t.val t.isLt) k x)
  blk_ext [iblk, idx_val t, sq]

/-- The block that window 4 brings to a grid point, at an index. -/
theorem iblk_4 (c : Dev nD) (t : Fin cfg0.N) (k x : Fin 1024) : iblk m c 4 t (ix2 k x) = (args m c).wo (ix3 0 k x) := by
  refine Eq.trans ?_ (V_v2 m c k x)
  blk_ext [iblk, idx_val t]

/-- The block that window 5 brings to a grid point, at an index. -/
theorem iblk_5 (c : Dev nD) (t : Fin cfg0.N) (x : Fin 1024) : iblk m c 5 t (ix2 0 x) = (args m c).nw (ix2 1 x) := by
  refine Eq.trans ?_ (V_v3 m c x)
  blk_ext [iblk, idx_val t]

/-- The block that window 6 brings to a grid point, at an index. -/
theorem iblk_6 (c : Dev nD) (t : Fin cfg0.N) (k : Fin 1024) (x : Fin 4096) : iblk m c 6 t (ix2 k x) = (args m c).win (ix3 0 k x) := by
  refine Eq.trans ?_ (V_v5 m c k x)
  blk_ext [iblk, idx_val t]

/-- The block that window 7 brings to a grid point, at an index. -/
theorem iblk_7 (c : Dev nD) (t : Fin cfg0.N) (k : Fin 3) (x : Fin 1024) : iblk m c 7 t (ix2 k x) = (args m c).cw (ix3 0 k x) := by
  refine Eq.trans ?_ (V_v6 m c k x)
  blk_ext [iblk, idx_val t]

/-- The block that window 8 brings to a grid point, at an index. -/
theorem iblk_8 (c : Dev nD) (t : Fin cfg0.N) (k x : Fin 1024) : iblk m c 8 t (ix2 k x) = (args m c).wout (ix3 0 k x) := by
  refine Eq.trans ?_ (V_v8 m c k x)
  blk_ext [iblk, idx_val t]

/-- The block that window 9 brings to a grid point, at an index. -/
theorem iblk_9 (c : Dev nD) (t : Fin cfg0.N) (x : Fin 1024) : iblk m c 9 t (ix2 0 x) = (args m c).fnw (ix1 x) := by
  refine Eq.trans ?_ (V_v9 m c x)
  blk_ext [iblk, idx_val t]

/-- The residual stream of a block. -/
theorem h1_at (c : Dev nD) (t : Fin cfg0.N) (r : Fin 512) (x : Fin 1024) :
    (k0_pay3 (iblk m c 0 t) (iblk m c 1 t)
        (View.ld (iblk m c 4 t) (Rect.unit ![0, 0] ![512, 1024] inb_S1024x1024_S512x1024_0_0)) (iblk m c 2 t)
        (View.ld (iblk m c 4 t) (Rect.unit ![512, 0] ![512, 1024] inb_S1024x1024_S512x1024_512_0))) (ix2 r x) = H1 (args m c) (sq t.val t.isLt) (row t.val r) x :=
  pay3_at (args m c) (sq t.val t.isLt) (row t.val) (iblk_0 m c t 0) (iblk_1 m c t 0)
    (fun k x => by pointwise [iblk_4 m c t]) (iblk_2 m c t 0) (fun k x => by pointwise [iblk_4 m c t]) r x

/-- Its norm. -/
theorem xn_at (c : Dev nD) (t : Fin cfg0.N) (r : Fin 512) (x : Fin 1024) :
    (k0_pay4 (iblk m c 0 t) (iblk m c 1 t)
        (View.ld (iblk m c 4 t) (Rect.unit ![0, 0] ![512, 1024] inb_S1024x1024_S512x1024_0_0)) (iblk m c 2 t)
        (View.ld (iblk m c 4 t) (Rect.unit ![512, 0] ![512, 1024] inb_S1024x1024_S512x1024_512_0)) (iblk m c 5 t)) (ix2 r x) = XN (args m c) (sq t.val t.isLt) (row t.val r) x :=
  pay4_at (args m c) (sq t.val t.isLt) (row t.val) (h1_at m c t) (iblk_5 m c t) r x

/-- The convolution's input over a block. -/
theorem cu_at (c : Dev nD) (t : Fin cfg0.N) (r : Fin 512) (x : Fin 1024) :
    (k0_pay5 (k0_pay4 (iblk m c 0 t) (iblk m c 1 t)
        (View.ld (iblk m c 4 t) (Rect.unit ![0, 0] ![512, 1024] inb_S1024x1024_S512x1024_0_0)) (iblk m c 2 t)
        (View.ld (iblk m c 4 t) (Rect.unit ![512, 0] ![512, 1024] inb_S1024x1024_S512x1024_512_0)) (iblk m c 5 t))
        (View.ld (iblk m c 6 t) (Rect.unit ![0, 2048] ![1024, 1024] inb_S1024x4096_S1024x1024_0_2048))
        (View.ld (iblk m c 6 t) (Rect.unit ![0, 0] ![1024, 1024] inb_S1024x4096_S1024x1024_0_0))) (ix2 r x) = CU (args m c) (sq t.val t.isLt) (row t.val r) x :=
  pay5_at (args m c) (sq t.val t.isLt) (row t.val) (xn_at m c t)
    (fun k x => by pointwise [iblk_6 m c t]) (fun k x => by pointwise [iblk_6 m c t]) r x

/-- What a point leaves in the carried rows: the last eight rows of its block of the convolution's input. -/
theorem carry_at (c : Dev nD) (t : Fin cfg0.N) (k : Fin 8) (x : Fin 1024) :
    (outsAt0 m c t.val t.isLt).2.2 (ix2 k x) = CU (args m c) (sq t.val t.isLt) (row t.val ⟨504 + k.val, by omega⟩) x := by
  by_cases h : t.val % 8 = 0
  · rw [outsAt0_A m c t h]
    dsimp only
    frame_out
    exact pay6_at (args m c) (sq t.val t.isLt) (row t.val) (cu_at m c t) k x
  · rw [outsAt0_B m c t h]
    dsimp only
    frame_out
    exact pay6_at (args m c) (sq t.val t.isLt) (row t.val) (cu_at m c t) k x

/-- The result of a block, whatever the carried rows `v` are, as long as they are the rows before it. -/
theorem y_at (c : Dev nD) (t : Fin cfg0.N) (v : Vec Ideal S8x1024 .f32)
    (hv : ∀ (k : Fin 8) x, v (ix2 k x) = SH (args m c) (sq t.val t.isLt) (row t.val 0) (8 - k.val) x) (y : S1x512x1024.Idx) :
    k0_pay1 (k0_pay3 (iblk m c 0 t) (iblk m c 1 t)
        (View.ld (iblk m c 4 t) (Rect.unit ![0, 0] ![512, 1024] inb_S1024x1024_S512x1024_0_0)) (iblk m c 2 t)
        (View.ld (iblk m c 4 t) (Rect.unit ![512, 0] ![512, 1024] inb_S1024x1024_S512x1024_512_0))) (k0_pay4 (iblk m c 0 t) (iblk m c 1 t)
        (View.ld (iblk m c 4 t) (Rect.unit ![0, 0] ![512, 1024] inb_S1024x1024_S512x1024_0_0)) (iblk m c 2 t)
        (View.ld (iblk m c 4 t) (Rect.unit ![512, 0] ![512, 1024] inb_S1024x1024_S512x1024_512_0)) (iblk m c 5 t)) (k0_pay8 (k0_pay4 (iblk m c 0 t) (iblk m c 1 t)
        (View.ld (iblk m c 4 t) (Rect.unit ![0, 0] ![512, 1024] inb_S1024x1024_S512x1024_0_0)) (iblk m c 2 t)
        (View.ld (iblk m c 4 t) (Rect.unit ![512, 0] ![512, 1024] inb_S1024x1024_S512x1024_512_0)) (iblk m c 5 t))
        (View.ld (iblk m c 6 t) (Rect.unit ![0, 2048] ![1024, 1024] inb_S1024x4096_S1024x1024_0_2048))
        (View.ld (iblk m c 6 t) (Rect.unit ![0, 0] ![1024, 1024] inb_S1024x4096_S1024x1024_0_0)) (iblk m c 7 t) v
        (View.ld (iblk m c 6 t) (Rect.unit ![0, 1024] ![1024, 1024] inb_S1024x4096_S1024x1024_0_1024)))
      (View.ld (iblk m c 6 t) (Rect.unit ![0, 3072] ![1024, 1024] inb_S1024x4096_S1024x1024_0_3072)) (iblk m c 8 t)
      (iblk m c 9 t) y
      = t67 (args m c) (((cfg0.win 10).blk t).view.emb y) := by
  have e : ((cfg0.win 10).blk t).view.emb y = ix3 (sq t.val t.isLt) (row t.val (y 1)) (y 2) := by
    blk_ext [idx_val t, sq, row]
  have ey : y = ix3 (y 0) (y 1) (y 2) := by blk_ext
  rw [e]
  refine Eq.trans ?_ (t67_at (args m c) (sq t.val t.isLt) (row t.val (y 1)) (y 2)).symm
  rw [ey]
  exact pay1_at (args m c) (sq t.val t.isLt) (row t.val) (h1_at m c t) (xn_at m c t)
    (pay8_at (args m c) (sq t.val t.isLt) (row t.val) (fun r => by simp only [row]; simp) (xn_at m c t) (cu_at m c t)
      (iblk_7 m c t) hv (fun k x => by pointwise [iblk_6 m c t]))
    (fun k x => by pointwise [iblk_6 m c t]) (iblk_8 m c t) (iblk_9 m c t) (y 0) (y 1) (y 2)

/-- The carried rows a point of a sequence's start finds: zero. -/
theorem prev_A (c : Dev nD) (t : Fin cfg0.N) (h0 : t.val % 8 = 0) (k : Fin 8) (x : Fin 1024) :
    k0_pay2 (iblk m c 3 t) (ix2 k x) = SH (args m c) (sq t.val t.isLt) (row t.val 0) (8 - k.val) x := by
  rw [pay2_at, iblk_3]
  unfold SH
  rw [dif_neg]
  show ¬ 8 - k.val ≤ 512 * (t.val % 8) + 0
  omega

/-- The carried rows a later point finds: the rows before its block. -/
theorem prev_B (c : Dev nD) (t : Fin cfg0.N) (h0 : ¬ t.val % 8 = 0) (hn : t.val - 1 < cfg0.N) (k : Fin 8) (x : Fin 1024) :
    (outsAt0 m c (t.val - 1) hn).2.2 (ix2 k x)
      = SH (args m c) (sq t.val t.isLt) (row t.val 0) (8 - k.val) x := by
  refine (carry_at m c ⟨t.val - 1, hn⟩ k x).trans ?_
  unfold SH
  have h1 : 8 - k.val ≤ (row t.val 0).val := by show 8 - k.val ≤ 512 * (t.val % 8) + 0; omega
  rw [dif_pos h1]
  have es : sq (t.val - 1) hn = sq t.val t.isLt := Fin.ext (by show (t.val - 1) / 8 = t.val / 8; omega)
  have er : row (t.val - 1) ⟨504 + k.val, by omega⟩ = ⟨(row t.val 0).val - (8 - k.val), by omega⟩ :=
    Fin.ext (by show 512 * ((t.val - 1) % 8) + (504 + k.val) = 512 * (t.val % 8) + 0 - (8 - k.val); omega)
  show CU (args m c) (sq (t.val - 1) hn) (row (t.val - 1) ⟨504 + k.val, by omega⟩) x = _
  rw [es, er]

/-- The first result. -/
theorem final_10 (c : Dev nD) : (dats m 0 c).arrAt 10 (cfgs 0).N = t67 (args m c) := by
  refine (dats m 0 c).arrAt_eq_of_covers 10 _ (by decide +kernel) fun t hf y => ?_
  blk_simp; rw [after0_10]
  by_cases h : t.val % 8 = 0
  · rw [outsAt0_A m c t h]; dsimp only; frame_out
    exact y_at m c t _ (prev_A m c t h) y
  · rw [outsAt0_B m c t h]; dsimp only; frame_out
    refine y_at m c t _ ?_ y
    intro k x
    refine Eq.trans ?_ (prev_B m c t h (lt_of_le_of_lt (Nat.sub_le _ _) t.isLt) k x)
    exact congrFun (Memref.IsWhole.read_unread _ _) _

/-- The second result. -/
theorem final_11 (c : Dev nD) : (dats m 0 c).arrAt 11 (cfgs 0).N = t68 (args m c) := by
  refine (dats m 0 c).arrAt_eq_of_covers 11 _ (by decide +kernel) fun t hf y => ?_
  blk_simp; rw [after0_11]
  have h7 := flush_11 t hf
  rw [outsAt0_B m c t (by omega)]; dsimp only; frame_out
  have e : ((cfg0.win 11).blk t).view.emb y = ix3 (sq t.val t.isLt) (y 1) (y 2) := by
    blk_ext [idx_val t, sq]
  have ey : y = ix3 (y 0) (y 1) (y 2) := by blk_ext
  have er : row t.val ⟨504 + (y 1).val, by have : (y 1).val < 8 := (y 1).isLt; omega⟩ = ⟨4088 + (y 1).val, by have : (y 1).val < 8 := (y 1).isLt; omega⟩ :=
    Fin.ext (by show 512 * (t.val % 8) + (504 + (y 1).val) = 4088 + (y 1).val; omega)
  refine Eq.trans ?_ (congrArg (t68 (args m c)) e).symm
  refine Eq.trans ?_ (t68_at (args m c) (sq t.val t.isLt) (y 1) (y 2)).symm
  rw [ey]
  refine (pay7_at (args m c) (sq t.val t.isLt) (row t.val) (cu_at m c t) (y 0) (y 1) (y 2)).trans ?_
  exact congrArg (fun q => CU (args m c) (sq t.val t.isLt) q (y 2)) er

end Cert.TailIdeal.Hand

end
end
-- ==== Proof.Claims.lean ====
module

public import proofs.«01_k».proof.Defs
public import proofs.«01_k».proof.Proof.ProjVal
public import proofs.«01_k».proof.Proof.TailVal
public import proofs.«01_k».proof.Proof.Gen.Project.Frame
public import proofs.«01_k».proof.Proof.Gen.ProjectIdeal.Value
public import proofs.«01_k».proof.Proof.Gen.ProjectRefIdeal.Run
public import proofs.«01_k».proof.Proof.Gen.Tail.Frame
public import proofs.«01_k».proof.Proof.Gen.TailIdeal.Value
public import proofs.«01_k».proof.Proof.Gen.TailRefIdeal.Run
public import Idealize.ShloMosaic.Adequacy
public import Idealize.ShloMosaic.Lib.Claim

@[expose] public section

noncomputable section

namespace Cert.Proof

open Idealize.ShloMosaic Idealize.SL.Sem

/-- The projection's frame: it ends, leaves its arguments, and every semaphore reads zero. -/
theorem frame_p2 : Cert.quiescent_Project (hProject := Cert.Project.Gen.facts) := fun m ρ _ => Cert.Project.Gen.frame m ρ

/-- The same over the extended reals. -/
theorem frame_pi2 : Cert.quiescent_ProjectIdeal (hProjectIdeal := Cert.ProjectIdeal.Gen.facts) :=
  fun m ρ _ => Cert.ProjectIdeal.Gen.frame m ρ

/-- The projection's reference ends and leaves its arguments; it has no semaphore. -/
theorem frame_ri2 : Cert.quiescent_ProjectRefIdeal (hProjectRefIdeal := Cert.ProjectRefIdeal.Gen.facts) := fun m ρ _ =>
  (θ_run Cert.ProjectRefIdeal.defs _ _).mono (fun r h => ⟨fun c => (h c).2.2.2.2.2.2.2.2.2,
      Idealize.ShloMosaic.sem_eq_zero_of_no_sems (by decide) r.2⟩)
    (Cert.ProjectRefIdeal.Value.run (F := Ideal) m ρ)

/-- The tail's frame. -/
theorem frame_p3 : Cert.quiescent_Tail (hTail := Cert.Tail.Gen.facts) := fun m ρ _ => Cert.Tail.Gen.frame m ρ

/-- The same over the extended reals. -/
theorem frame_pi3 : Cert.quiescent_TailIdeal (hTailIdeal := Cert.TailIdeal.Gen.facts) :=
  fun m ρ _ => Cert.TailIdeal.Gen.frame m ρ

/-- The tail's reference ends and leaves its arguments; it has no semaphore. -/
theorem frame_ri3 : Cert.quiescent_TailRefIdeal (hTailRefIdeal := Cert.TailRefIdeal.Gen.facts) := fun m ρ _ =>
  (θ_run Cert.TailRefIdeal.defs _ _).mono (fun r h => ⟨fun c => (h c).2.2,
      Idealize.ShloMosaic.sem_eq_zero_of_no_sems (by decide) r.2⟩)
    (Cert.TailRefIdeal.Value.run (F := Ideal) m ρ)

set_option maxHeartbeats 4000000 in
/-- The projection's kernel and its reference give equal results over the extended reals. -/
theorem algebraic2 : Cert.algebraic_ProjectIdeal_ProjectRefIdeal (hProjectIdeal := Cert.ProjectIdeal.Gen.facts)
    (hProjectRefIdeal := Cert.ProjectRefIdeal.Gen.facts) := by
  pair_intro
  · run_from Cert.ProjectIdeal.Gen.run_main m g
    all_goals
      simp only [ProjectIdeal.Gen.hostOps0, ProjectIdeal.Gen.hostOps0_1, ProjectIdeal.Gen.hostOps0_2, List.flatten_cons, List.flatten_nil, List.append_nil, List.cons_append, List.nil_append]
      after_results
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.ProjectRefIdeal.Value.run m' g')
    · rw [(hagree c).1, (hagree c).2.1, (hagree c).2.2]; exact (Cert.ProjectIdeal.Hand.final_5 m c).symm
    · rw [(hagree c).1, (hagree c).2.1, (hagree c).2.2]; exact (Cert.ProjectIdeal.Hand.final_6 m c).symm
    · rw [(hagree c).1, (hagree c).2.1, (hagree c).2.2]; exact (Cert.ProjectIdeal.Hand.final_7 m c).symm
    · rw [(hagree c).1, (hagree c).2.1, (hagree c).2.2]; exact (Cert.ProjectIdeal.Hand.final_8 m c).symm
    · rw [(hagree c).1, (hagree c).2.1, (hagree c).2.2]; exact (Cert.ProjectIdeal.Hand.final_9 m c).symm
    · rw [(hagree c).1, (hagree c).2.1, (hagree c).2.2]; exact (Cert.ProjectIdeal.Hand.final_10 m c).symm
    · rw [(hagree c).1, (hagree c).2.1, (hagree c).2.2]; exact (Cert.ProjectIdeal.Hand.final_11 m c).symm
    · rw [(hagree c).1, (hagree c).2.1, (hagree c).2.2]; exact (Cert.ProjectIdeal.Hand.final_12 m c).symm
    · rw [(hagree c).1, (hagree c).2.1, (hagree c).2.2]; exact (Cert.ProjectIdeal.Hand.final_13 m c).symm

set_option maxHeartbeats 4000000 in
/-- The two programs' arguments are the same where their memories agree. -/
theorem args_eq (m : (ℓ : Loc Cert.TailIdeal.nD Cert.TailIdeal.τ Cert.TailIdeal.sig) → Buf (Elt Ideal) ℓ)
    (m' : (ℓ : Loc Cert.TailRefIdeal.nD Cert.TailRefIdeal.τ Cert.TailRefIdeal.sig) → Buf (Elt Ideal) ℓ) (c : Dev Cert.TailIdeal.nD)
    (e0 : m' (c.tc.loc TailRefIdeal.main_arg0) = m (c.tc.loc TailIdeal.main_arg0))
    (e1 : m' (c.tc.loc TailRefIdeal.main_arg1) = m (c.tc.loc TailIdeal.main_arg1))
    (e2 : m' (c.tc.loc TailRefIdeal.main_arg2) = m (c.tc.loc TailIdeal.main_arg2))
    (e3 : m' (c.tc.loc TailRefIdeal.main_arg3) = m (c.tc.loc TailIdeal.main_arg3))
    (e4 : m' (c.tc.loc TailRefIdeal.main_arg4) = m (c.tc.loc TailIdeal.main_arg4))
    (e5 : m' (c.tc.loc TailRefIdeal.main_arg5) = m (c.tc.loc TailIdeal.main_arg5))
    (e6 : m' (c.tc.loc TailRefIdeal.main_arg6) = m (c.tc.loc TailIdeal.main_arg6))
    (e7 : m' (c.tc.loc TailRefIdeal.main_arg7) = m (c.tc.loc TailIdeal.main_arg7))
    (e8 : m' (c.tc.loc TailRefIdeal.main_arg8) = m (c.tc.loc TailIdeal.main_arg8))
    : Cert.TailRefIdeal.Hand.argsOf m' c = Cert.TailIdeal.Hand.args m c := by
  unfold Cert.TailRefIdeal.Hand.argsOf Cert.TailIdeal.Hand.args
  rw [e0, e1, e2, e3, e4, e5, e6, e7, e8]

set_option maxHeartbeats 4000000 in
/-- The tail's kernel and its reference give equal results over the extended reals. -/
theorem algebraic3 : Cert.algebraic_TailIdeal_TailRefIdeal (hTailIdeal := Cert.TailIdeal.Gen.facts)
    (hTailRefIdeal := Cert.TailRefIdeal.Gen.facts) := by
  pair_intro
  · run_from Cert.TailIdeal.Gen.run_main m g
  · refine (θ_run _ _ _).mono (fun r h c => ⟨(h c).1.trans ?_, (h c).2.1.trans ?_, (h c).2.2⟩)
      (Cert.TailRefIdeal.Value.run m' g')
    · rw [Cert.TailRefIdeal.Hand.res67_eq]
      obtain ⟨e0, e1, e2, e3, e4, e5, e6, e7, e8⟩ := hagree c
      rw [args_eq m m' c e0 e1 e2 e3 e4 e5 e6 e7 e8]
      exact (Cert.TailIdeal.Hand.final_10 m c).symm
    · rw [Cert.TailRefIdeal.Hand.res68_eq]
      obtain ⟨e0, e1, e2, e3, e4, e5, e6, e7, e8⟩ := hagree c
      rw [args_eq m m' c e0 e1 e2 e3 e4 e5 e6 e7 e8]
      exact (Cert.TailIdeal.Hand.final_11 m c).symm

end Cert.Proof

end
end
-- ==== Proof.ProjSEntry.lean ====
module

public import proofs.«01_k».proof.Proof.Gen.ProjectSIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.ProjectSIdeal.Hand

open Cert.ProjectSIdeal Cert.ProjectSIdeal.Gen

variable (m : (ℓ : Loc nD τ sig) → Buf (Elt Ideal) ℓ)

/-- The projection's weight as the host hands it on: the columns before the gating ones, a plain matrix. -/
theorem V_v2 (c : Dev nD) (x : Fin 1024) (y : Fin 4096) :
    V m c main_v2 (ix2 x y) = m ((c : Thread nD τ).loc main_arg2) (ix3 0 x ⟨y.val, by omega⟩) := by
  simp only [V, hostOps0, hostOps0_1, hostOps0_2, List.flatten_cons, List.flatten_nil, List.append_nil, List.cons_append, List.nil_append]
  after_results
  pointwise []

/-- The key and value columns of the weight, transposed by the host. -/
theorem V_v6 (c : Dev nD) (x : Fin 1024) (y : Fin 1024) :
    V m c main_v6 (ix2 x y) = m ((c : Thread nD τ).loc main_arg2) (ix3 0 y ⟨512 + x.val, by omega⟩) := by
  simp only [V, hostOps0, hostOps0_1, hostOps0_2, List.flatten_cons, List.flatten_nil, List.append_nil, List.cons_append, List.nil_append]
  after_results
  pointwise []

/-- The gating columns of the weight, padded with zero columns by the host. -/
theorem V_v10 (c : Dev nD) (x : Fin 1024) (y : Fin 128) :
    V m c main_v10 (ix2 x y) = if h : y.val < 8 then m ((c : Thread nD τ).loc main_arg2) (ix3 0 x ⟨4096 + y.val, by omega⟩) else (0 : EReal) := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise []
  have h0 : (FloatOps.sitofp (F := Ideal) FTy.f32 (0#32 : BitVec 32) : EReal) = (0 : EReal) := by
    show (((0#32 : BitVec 32).toInt : ℝ) : EReal) = 0
    simp
  rw [h0]

/-- The layer's input, its sequences laid one after another by the host. -/
theorem V_v11 (c : Dev nD) (r : Fin 256) (x : Fin 1024) :
    V m c main_v11 (ix3 0 r x) = m ((c : Thread nD τ).loc main_arg0) (ix3 ⟨r.val / 8, by omega⟩ ⟨r.val % 8, by omega⟩ x) := by
  simp only [V, hostOps0, hostOps0_1, hostOps0_2, List.flatten_cons, List.flatten_nil, List.append_nil, List.cons_append, List.nil_append]
  after_results
  pointwise []

/-- The first norm's weights, as the host hands them on. -/
theorem V_v12 (c : Dev nD) (x : Fin 1024) :
    V m c main_v12 (ix2 0 x) = m ((c : Thread nD τ).loc main_arg1) (ix2 0 x) := by
  simp only [V, hostOps0, hostOps0_1, hostOps0_2, List.flatten_cons, List.flatten_nil, List.append_nil, List.cons_append, List.nil_append]
  after_results
  pointwise []

/-- Every window's block index at every grid point, in closed form (decided). -/
theorem idx_in : ∀ t : Fin cfg0.N, win0_0.index t = ![0, 0, 0]
    ∧ win0_1.index t = ![0, 0]
    ∧ win0_2.index t = ![0, 0]
    ∧ win0_3.index t = ![0, 0]
    ∧ win0_4.index t = ![0, 0] :=
  (by decide +kernel : ∀ t : Fin grid0.N, _)

/-- The block of the layer's input at a grid point. -/
theorem iblk_0 (c : Dev nD) (t : Fin cfg0.N) (a : Fin 1) (r : Fin 256) (x : Fin 1024) :
    iblk m c 0 t (ix3 a r x) = m ((c : Thread nD τ).loc main_arg0) (ix3 ⟨r.val / 8, by omega⟩ ⟨r.val % 8, by omega⟩ x) := by
  refine Eq.trans ?_ (V_v11 m c r x)
  blk_ext [iblk, idx_in t]

/-- The block of the norm's weights. -/
theorem iblk_1 (c : Dev nD) (t : Fin cfg0.N) (a : Fin 1) (x : Fin 1024) :
    iblk m c 1 t (ix2 a x) = m ((c : Thread nD τ).loc main_arg1) (ix2 0 x) := by
  refine Eq.trans ?_ (V_v12 m c x)
  blk_ext [iblk, idx_in t]

/-- The block of the plain weight. -/
theorem iblk_2 (c : Dev nD) (t : Fin cfg0.N) (x : Fin 1024) (y : Fin 4096) :
    iblk m c 2 t (ix2 x y) = m ((c : Thread nD τ).loc main_arg2) (ix3 0 x ⟨y.val, by omega⟩) := by
  refine Eq.trans ?_ (V_v2 m c x y)
  blk_ext [iblk, idx_in t]

/-- The block of the transposed weight. -/
theorem iblk_3 (c : Dev nD) (t : Fin cfg0.N) (x : Fin 1024) (y : Fin 1024) :
    iblk m c 3 t (ix2 x y) = m ((c : Thread nD τ).loc main_arg2) (ix3 0 y ⟨512 + x.val, by omega⟩) := by
  refine Eq.trans ?_ (V_v6 m c x y)
  blk_ext [iblk, idx_in t]

/-- The block of the padded gating weight. -/
theorem iblk_4 (c : Dev nD) (t : Fin cfg0.N) (x : Fin 1024) (y : Fin 128) :
    iblk m c 4 t (ix2 x y) = if h : y.val < 8 then m ((c : Thread nD τ).loc main_arg2) (ix3 0 x ⟨4096 + y.val, by omega⟩) else (0 : EReal) := by
  refine Eq.trans ?_ (V_v10 m c x y)
  blk_ext [iblk, idx_in t]

end Cert.ProjectSIdeal.Hand

end
end
-- ==== Proof.ProjSVal.lean ====
module

public import proofs.«01_k».proof.Proof.ProjSEntry
public import proofs.«01_k».proof.Proof.Gen.ProjectSRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ProjectSRefIdeal.Hand

open Cert.ProjectSRefIdeal Cert.ProjectSRefIdeal.Gen

/-- The reference's result `v27` as one term of its arguments. -/
abbrev REF_v27 (a0 : FVec Ideal Cert.ProjectSRefIdeal.S32x8x1024 .f32) (a1 : FVec Ideal Cert.ProjectSRefIdeal.S2x1024 .f32) (a2 : FVec Ideal Cert.ProjectSRefIdeal.S1x1024x4104 .f32) : FVec Ideal Cert.ProjectSRefIdeal.S1x256x512 .bf16 :=
  truncf .bf16 (shapeCast _ (mulf (extractStridedSlice S32x8x512 ![0, 0, 0] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x512_0_0_0) (broadcastInDim S32x8x512 ![] bcast_S_S32x8x512 (constant S_ .f32 0x3E38AA3B#32))) shapeCasts_S32x8x512_S1x256x512) bitsLt_bf16_f32

/-- The reference's result `v29` as one term of its arguments. -/
abbrev REF_v29 (a0 : FVec Ideal Cert.ProjectSRefIdeal.S32x8x1024 .f32) (a1 : FVec Ideal Cert.ProjectSRefIdeal.S2x1024 .f32) (a2 : FVec Ideal Cert.ProjectSRefIdeal.S1x1024x4104 .f32) : FVec Ideal Cert.ProjectSRefIdeal.S1x256x512 .bf16 :=
  truncf .bf16 (shapeCast _ (extractStridedSlice S32x8x512 ![0, 0, 512] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x512_0_0_512) shapeCasts_S32x8x512_S1x256x512) bitsLt_bf16_f32

/-- The reference's result `v31` as one term of its arguments. -/
abbrev REF_v31 (a0 : FVec Ideal Cert.ProjectSRefIdeal.S32x8x1024 .f32) (a1 : FVec Ideal Cert.ProjectSRefIdeal.S2x1024 .f32) (a2 : FVec Ideal Cert.ProjectSRefIdeal.S1x1024x4104 .f32) : FVec Ideal Cert.ProjectSRefIdeal.S1x256x512 .bf16 :=
  truncf .bf16 (shapeCast _ (extractStridedSlice S32x8x512 ![0, 0, 1024] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x512_0_0_1024) shapeCasts_S32x8x512_S1x256x512) bitsLt_bf16_f32

/-- The reference's result `v32` as one term of its arguments. -/
abbrev REF_v32 (a0 : FVec Ideal Cert.ProjectSRefIdeal.S32x8x1024 .f32) (a1 : FVec Ideal Cert.ProjectSRefIdeal.S2x1024 .f32) (a2 : FVec Ideal Cert.ProjectSRefIdeal.S1x1024x4104 .f32) : FVec Ideal Cert.ProjectSRefIdeal.S1x256x512 .f32 :=
  shapeCast _ (extractStridedSlice S32x8x512 ![0, 0, 512] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x512_0_0_512) shapeCasts_S32x8x512_S1x256x512

/-- The reference's result `v33` as one term of its arguments. -/
abbrev REF_v33 (a0 : FVec Ideal Cert.ProjectSRefIdeal.S32x8x1024 .f32) (a1 : FVec Ideal Cert.ProjectSRefIdeal.S2x1024 .f32) (a2 : FVec Ideal Cert.ProjectSRefIdeal.S1x1024x4104 .f32) : FVec Ideal Cert.ProjectSRefIdeal.S1x256x512 .f32 :=
  shapeCast _ (extractStridedSlice S32x8x512 ![0, 0, 1024] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x512_0_0_1024) shapeCasts_S32x8x512_S1x256x512

/-- The reference's result `v36` as one term of its arguments. -/
abbrev REF_v36 (a0 : FVec Ideal Cert.ProjectSRefIdeal.S32x8x1024 .f32) (a1 : FVec Ideal Cert.ProjectSRefIdeal.S2x1024 .f32) (a2 : FVec Ideal Cert.ProjectSRefIdeal.S1x1024x4104 .f32) : FVec Ideal Cert.ProjectSRefIdeal.S1x256x512 .bf16 :=
  truncf .bf16 (shapeCast _ (mulf (extractStridedSlice S32x8x512 ![0, 0, 1536] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x512_0_0_1536) (Host.divf (broadcastInDim S32x8x512 ![] bcast_S_S32x8x512 (constant S_ .f32 0x3F800000#32)) (addf (broadcastInDim S32x8x512 ![] bcast_S_S32x8x512 (constant S_ .f32 0x3F800000#32)) (Host.exp (Host.negf (extractStridedSlice S32x8x512 ![0, 0, 1536] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x512_0_0_1536)))))) shapeCasts_S32x8x512_S1x256x512) bitsLt_bf16_f32

/-- The reference's result `v37` as one term of its arguments. -/
abbrev REF_v37 (a0 : FVec Ideal Cert.ProjectSRefIdeal.S32x8x1024 .f32) (a1 : FVec Ideal Cert.ProjectSRefIdeal.S2x1024 .f32) (a2 : FVec Ideal Cert.ProjectSRefIdeal.S1x1024x4104 .f32) : FVec Ideal Cert.ProjectSRefIdeal.S1x256x1536 .f32 :=
  shapeCast _ (extractStridedSlice S32x8x1536 ![0, 0, 2048] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x1536_0_0_2048) shapeCasts_S32x8x1536_S1x256x1536

/-- The reference's result `v40` as one term of its arguments. -/
abbrev REF_v40 (a0 : FVec Ideal Cert.ProjectSRefIdeal.S32x8x1024 .f32) (a1 : FVec Ideal Cert.ProjectSRefIdeal.S2x1024 .f32) (a2 : FVec Ideal Cert.ProjectSRefIdeal.S1x1024x4104 .f32) : FVec Ideal Cert.ProjectSRefIdeal.S1x256x512 .bf16 :=
  truncf .bf16 (shapeCast _ (mulf (extractStridedSlice S32x8x512 ![0, 0, 3584] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x512_0_0_3584) (Host.divf (broadcastInDim S32x8x512 ![] bcast_S_S32x8x512 (constant S_ .f32 0x3F800000#32)) (addf (broadcastInDim S32x8x512 ![] bcast_S_S32x8x512 (constant S_ .f32 0x3F800000#32)) (Host.exp (Host.negf (extractStridedSlice S32x8x512 ![0, 0, 3584] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x512_0_0_3584)))))) shapeCasts_S32x8x512_S1x256x512) bitsLt_bf16_f32

/-- The reference's result `v42` as one term of its arguments. -/
abbrev REF_v42 (a0 : FVec Ideal Cert.ProjectSRefIdeal.S32x8x1024 .f32) (a1 : FVec Ideal Cert.ProjectSRefIdeal.S2x1024 .f32) (a2 : FVec Ideal Cert.ProjectSRefIdeal.S1x1024x4104 .f32) : FVec Ideal Cert.ProjectSRefIdeal.S1x256x128 .f32 :=
  shapeCast _ (pad S32x8x128 ![0, 0, 0] ![0, 0, 120] ![0, 0, 0] (extractStridedSlice S32x8x8 ![0, 0, 4096] (Host.dotGeneral dot_S32x8x1024_S1024x4104_S32x8x4104_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4104_S1024x4104)) slices_S32x8x4104_S32x8x8_0_0_4096) (sitofp .f32 (constantI S_ 32 0#32)) pads_S32x8x8_S32x8x128_000_000_01200 h_S_) shapeCasts_S32x8x128_S1x256x128

end Cert.ProjectSRefIdeal.Hand

namespace Cert.ProjectSIdeal.Hand

open Cert.ProjectSIdeal Cert.ProjectSIdeal.Gen
open Cert.ProjectSRefIdeal.Hand

variable (m : (ℓ : Loc nD τ sig) → Buf (Elt Ideal) ℓ)

/-- Every window's block index at the grid's point (decided). -/
theorem idx_val : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0, 0]
    ∧ win0_6.index t = ![0, 0, 0]
    ∧ win0_7.index t = ![0, 0, 0]
    ∧ win0_8.index t = ![0, 0, 0]
    ∧ win0_9.index t = ![0, 0, 0]
    ∧ win0_10.index t = ![0, 0, 0]
    ∧ win0_11.index t = ![0, 0, 0]
    ∧ win0_12.index t = ![0, 0, 0]
    ∧ win0_13.index t = ![0, 0, 0] :=
  (by decide +kernel : ∀ t : Fin grid0.N, _)

set_option maxHeartbeats 4000000 in
/-- What the body stores at an index of a point's block is the reference at the array index it sits at. -/
theorem point_5 (c : Dev nD) (t : Fin cfg0.N) (y) :
    k0_pay5 (iblk m c 0 t) (iblk m c 1 t) (View.ld (iblk m c 2 t) r0_2) y
      = REF_v27 (m ((c : Thread nD τ).loc main_arg0)) (m ((c : Thread nD τ).loc main_arg1)) (m ((c : Thread nD τ).loc
        main_arg2)) (((cfg0.win 5).blk t).view.emb y) := by
  pointwise [k0_pay5, REF_v27, k0_pay4, iblk_0 m c t, iblk_1 m c t, iblk_2 m c t, iblk_3 m c t, iblk_4 m c t]
  blk_point [idx_val t]

set_option maxHeartbeats 4000000 in
/-- The result array after the run is the reference's. -/
theorem final_5 (c : Dev nD) : (dats m 0 c).arrAt 5 (cfgs 0).N = REF_v27 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

set_option maxHeartbeats 4000000 in
/-- What the body stores at an index of a point's block is the reference at the array index it sits at. -/
theorem point_6 (c : Dev nD) (t : Fin cfg0.N) (y) :
    k0_pay9 (k0_pay15 (iblk m c 0 t) (iblk m c 1 t) (iblk m c 2 t) (iblk m c 3 t) (iblk m c 4 t)) y
      = REF_v29 (m ((c : Thread nD τ).loc main_arg0)) (m ((c : Thread nD τ).loc main_arg1)) (m ((c : Thread nD τ).loc
        main_arg2)) (((cfg0.win 6).blk t).view.emb y) := by
  pointwise [k0_pay9, k0_pay15, k0_pay6, REF_v29, k0_pay4, iblk_0 m c t, iblk_1 m c t, iblk_2 m c t, iblk_3 m c t, iblk_4 m c t]
  blk_point [idx_val t]

set_option maxHeartbeats 4000000 in
/-- The result array after the run is the reference's. -/
theorem final_6 (c : Dev nD) : (dats m 0 c).arrAt 6 (cfgs 0).N = REF_v29 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_6 m c t y

set_option maxHeartbeats 4000000 in
/-- What the body stores at an index of a point's block is the reference at the array index it sits at. -/
theorem point_7 (c : Dev nD) (t : Fin cfg0.N) (y) :
    k0_pay11 (k0_pay16 (iblk m c 0 t) (iblk m c 1 t) (iblk m c 2 t) (iblk m c 3 t) (iblk m c 4 t)) y
      = REF_v31 (m ((c : Thread nD τ).loc main_arg0)) (m ((c : Thread nD τ).loc main_arg1)) (m ((c : Thread nD τ).loc
        main_arg2)) (((cfg0.win 7).blk t).view.emb y) := by
  pointwise [k0_pay11, k0_pay16, k0_pay7, REF_v31, k0_pay4, iblk_0 m c t, iblk_1 m c t, iblk_2 m c t, iblk_3 m c t, iblk_4 m c t]
  blk_point [idx_val t]

set_option maxHeartbeats 4000000 in
/-- The result array after the run is the reference's. -/
theorem final_7 (c : Dev nD) : (dats m 0 c).arrAt 7 (cfgs 0).N = REF_v31 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  exact point_7 m c t y

set_option maxHeartbeats 4000000 in
/-- What the body stores at an index of a point's block is the reference at the array index it sits at. -/
theorem point_8 (c : Dev nD) (t : Fin cfg0.N) (y) :
    k0_pay8 (k0_pay15 (iblk m c 0 t) (iblk m c 1 t) (iblk m c 2 t) (iblk m c 3 t) (iblk m c 4 t)) y
      = REF_v32 (m ((c : Thread nD τ).loc main_arg0)) (m ((c : Thread nD τ).loc main_arg1)) (m ((c : Thread nD τ).loc
        main_arg2)) (((cfg0.win 8).blk t).view.emb y) := by
  pointwise [k0_pay8, k0_pay15, k0_pay6, REF_v32, k0_pay4, iblk_0 m c t, iblk_1 m c t, iblk_2 m c t, iblk_3 m c t, iblk_4 m c t]
  blk_point [idx_val t]

set_option maxHeartbeats 4000000 in
/-- The result array after the run is the reference's. -/
theorem final_8 (c : Dev nD) : (dats m 0 c).arrAt 8 (cfgs 0).N = REF_v32 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp; rw [after0_8]; frame_out
  exact point_8 m c t y

set_option maxHeartbeats 4000000 in
/-- What the body stores at an index of a point's block is the reference at the array index it sits at. -/
theorem point_9 (c : Dev nD) (t : Fin cfg0.N) (y) :
    k0_pay10 (k0_pay16 (iblk m c 0 t) (iblk m c 1 t) (iblk m c 2 t) (iblk m c 3 t) (iblk m c 4 t)) y
      = REF_v33 (m ((c : Thread nD τ).loc main_arg0)) (m ((c : Thread nD τ).loc main_arg1)) (m ((c : Thread nD τ).loc
        main_arg2)) (((cfg0.win 9).blk t).view.emb y) := by
  pointwise [k0_pay10, k0_pay16, k0_pay7, REF_v33, k0_pay4, iblk_0 m c t, iblk_1 m c t, iblk_2 m c t, iblk_3 m c t, iblk_4 m c t]
  blk_point [idx_val t]

set_option maxHeartbeats 4000000 in
/-- The result array after the run is the reference's. -/
theorem final_9 (c : Dev nD) : (dats m 0 c).arrAt 9 (cfgs 0).N = REF_v33 (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp; rw [after0_9]; frame_out
  exact point_9 m c t y

set_option maxHeartbeats 4000000 in
/-- What the body stores at an index of a point's block is the reference at the array index it sits at. -/
theorem point_10 (c : Dev nD) (t : Fin cfg0.N) (y) :
    k0_pay12 (k0_pay14 (iblk m c 0 t) (iblk m c 1 t) (iblk m c 2 t) (iblk m c 3 t) (iblk m c 4 t)) (View.ld (iblk m c
      2 t) r0_6) y
      = REF_v36 (m ((c : Thread nD τ).loc main_arg0)) (m ((c : Thread nD τ).loc main_arg1)) (m ((c : Thread nD τ).loc
        main_arg2)) (((cfg0.win 10).blk t).view.emb y) := by
  pointwise [k0_pay12, k0_pay14, REF_v36, k0_pay4, iblk_0 m c t, iblk_1 m c t, iblk_2 m c t, iblk_3 m c t, iblk_4 m c t]
  simp only [zero_sub]
  blk_point [idx_val t]

set_option maxHeartbeats 4000000 in
/-- The result array after the run is the reference's. -/
theorem final_10 (c : Dev nD) : (dats m 0 c).arrAt 10 (cfgs 0).N = REF_v36 (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp; rw [after0_10]; frame_out
  exact point_10 m c t y

set_option maxHeartbeats 4000000 in
/-- What the body stores at an index of a point's block is the reference at the array index it sits at. -/
theorem point_11 (c : Dev nD) (t : Fin cfg0.N) (y) :
    k0_pay1 (k0_pay13 (k0_pay14 (iblk m c 0 t) (iblk m c 1 t) (iblk m c 2 t) (iblk m c 3 t) (iblk m c 4 t)) (View.ld
      (iblk m c 2 t) r0_7)) y
      = REF_v37 (m ((c : Thread nD τ).loc main_arg0)) (m ((c : Thread nD τ).loc main_arg1)) (m ((c : Thread nD τ).loc
        main_arg2)) (((cfg0.win 11).blk t).view.emb y) := by
  pointwise [k0_pay1, k0_pay13, k0_pay14, REF_v37, k0_pay4, iblk_0 m c t, iblk_1 m c t, iblk_2 m c t, iblk_3 m c t, iblk_4 m c t]
  blk_point [idx_val t]

set_option maxHeartbeats 4000000 in
/-- The result array after the run is the reference's. -/
theorem final_11 (c : Dev nD) : (dats m 0 c).arrAt 11 (cfgs 0).N = REF_v37 (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp; rw [after0_11]; frame_out
  exact point_11 m c t y

set_option maxHeartbeats 4000000 in
/-- What the body stores at an index of a point's block is the reference at the array index it sits at. -/
theorem point_12 (c : Dev nD) (t : Fin cfg0.N) (y) :
    k0_pay2 (k0_pay14 (iblk m c 0 t) (iblk m c 1 t) (iblk m c 2 t) (iblk m c 3 t) (iblk m c 4 t)) (View.ld (iblk m c 2
      t) r0_9) y
      = REF_v40 (m ((c : Thread nD τ).loc main_arg0)) (m ((c : Thread nD τ).loc main_arg1)) (m ((c : Thread nD τ).loc
        main_arg2)) (((cfg0.win 12).blk t).view.emb y) := by
  pointwise [k0_pay2, k0_pay14, REF_v40, k0_pay4, iblk_0 m c t, iblk_1 m c t, iblk_2 m c t, iblk_3 m c t, iblk_4 m c t]
  simp only [zero_sub]
  blk_point [idx_val t]

set_option maxHeartbeats 4000000 in
/-- The result array after the run is the reference's. -/
theorem final_12 (c : Dev nD) : (dats m 0 c).arrAt 12 (cfgs 0).N = REF_v40 (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp; rw [after0_12]; frame_out
  exact point_12 m c t y

set_option maxHeartbeats 4000000 in
/-- What the body stores at an index of a point's block is the reference at the array index it sits at. -/
theorem point_13 (c : Dev nD) (t : Fin cfg0.N) (y) :
    k0_pay3 (k0_pay14 (iblk m c 0 t) (iblk m c 1 t) (iblk m c 2 t) (iblk m c 3 t) (iblk m c 4 t)) (iblk m c 4 t) y
      = REF_v42 (m ((c : Thread nD τ).loc main_arg0)) (m ((c : Thread nD τ).loc main_arg1)) (m ((c : Thread nD τ).loc
        main_arg2)) (((cfg0.win 13).blk t).view.emb y) := by
  pointwise [k0_pay3, k0_pay14, REF_v42, k0_pay4, iblk_0 m c t, iblk_1 m c t, iblk_2 m c t, iblk_3 m c t, iblk_4 m c t]
  have e1 : ((((View.whole main_v13_8).slice ((win0 13).rect t)).emb y) 1).val = (y 1).val := by
    blk_simp [idx_val t]
  have e2 : ((((View.whole main_v13_8).slice ((win0 13).rect t)).emb y) 2).val = (y 2).val := by
    blk_simp [idx_val t]
  have hy : (y 1).val < 256 := (y 1).isLt
  by_cases h : (y 2).val < 8
  · have h' : ((((View.whole main_v13_8).slice ((win0 13).rect t)).emb y) 1).val / 8 < 32
        ∧ ((((View.whole main_v13_8).slice ((win0 13).rect t)).emb y) 1).val % 8 < 8
        ∧ ((((View.whole main_v13_8).slice ((win0 13).rect t)).emb y) 2).val < 8 := by rw [e1, e2]; exact ⟨by omega, by omega, h⟩
    simp only [dif_pos h, dif_pos h']
    blk_point [idx_val t]
  · have h' : ¬ (((((View.whole main_v13_8).slice ((win0 13).rect t)).emb y) 1).val / 8 < 32
        ∧ ((((View.whole main_v13_8).slice ((win0 13).rect t)).emb y) 1).val % 8 < 8
        ∧ ((((View.whole main_v13_8).slice ((win0 13).rect t)).emb y) 2).val < 8) := by rw [e2]; exact fun hh => h hh.2.2
    have h0 : (FloatOps.sitofp (F := Ideal) FTy.f32 (0#32 : BitVec 32) : EReal) = (0 : EReal) := by
      show (((0#32 : BitVec 32).toInt : ℝ) : EReal) = 0
      simp
    simp only [dif_neg h, dif_neg h', mul_zero, Finset.sum_const_zero]
    exact h0.symm

set_option maxHeartbeats 4000000 in
/-- The result array after the run is the reference's. -/
theorem final_13 (c : Dev nD) : (dats m 0 c).arrAt 13 (cfgs 0).N = REF_v42 (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp; rw [after0_13]; frame_out
  exact point_13 m c t y

end Cert.ProjectSIdeal.Hand

end
-- ==== Proof.TailSSpec.lean ====
module

public import proofs.«01_k».proof.Proof.Gen.TailSRefIdeal.Run
public import Idealize.ShloMosaic.Lib.Pipeline.ValueKit

@[expose] public section

set_option maxRecDepth 16384

noncomputable section

open Idealize.ShloMosaic Idealize.ShloMosaic.TcCoe Idealize.SL.Sem
open scoped BigOperators

namespace Cert.TailSRefIdeal.Hand

open Cert.TailSRefIdeal Cert.TailSRefIdeal.Gen Cert.TailSRefIdeal.Value

/-- The arguments of the tail call on the sample rows: the layer's input, the two mixers' outputs, the convolution's
    carried state, the norm weights, the output projection,
    the short convolution's input projection, taps and output projection, and the final norm's weights. -/
structure Args where
  x : FVec Ideal S32x8x1024 .f32
  ma : FVec Ideal S32x8x512 .bf16
  mb : FVec Ideal S32x8x512 .bf16
  st : FVec Ideal S1x32x2x1024 .f32
  nw : FVec Ideal S2x1024 .f32
  wo : FVec Ideal S1x1024x1024 .f32
  win : FVec Ideal S1x1024x4096 .f32
  cw : FVec Ideal S1x3x1024 .f32
  wout : FVec Ideal S1x1024x1024 .f32
  fnw : FVec Ideal S1024 .f32

/-- The arguments as the arrays of one memory. -/
def argsOf (m : (ℓ : Loc nD τ sig) → Buf (Elt Ideal) ℓ) (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

/-- The residual stream after the output projection. -/
def t4 (A : Args) : FVec Ideal S32x8x1024 .f32 :=
  addf A.x (Host.dotGeneral dot_S32x8x1024_S1024x1024_S32x8x1024_2_0_01_1_n_n none (extf .f32 (concatenate S32x8x1024 2 [⟨S32x8x512, A.ma⟩, ⟨S32x8x512, A.mb⟩] concatenates_S32x8x512_S32x8x512_S32x8x1024_d2) bitsLt_bf16_f32) (shapeCast _ A.wo shapeCasts_S1x1024x1024_S1024x1024))

/-- Its norm. -/
def t19 (A : Args) : FVec Ideal S32x8x1024 .f32 :=
  mulf (mulf (t4 A) (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf (t4 A) (t4 A)) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![1, 0] A.nw slices_S2x1024_S1x1024_1_0) shapeCasts_S1x1024_S1024)))

/-- The short convolution's input projection. -/
def t21 (A : Args) : FVec Ideal S32x8x4096 .f32 :=
  Host.dotGeneral dot_S32x8x1024_S1024x4096_S32x8x4096_2_0_01_1_n_n none (t19 A) (shapeCast _ A.win shapeCasts_S1x1024x4096_S1024x4096)

/-- The gated convolution input. -/
def t26 (A : Args) : FVec Ideal S32x8x1024 .f32 :=
  mulf (extractStridedSlice S32x8x1024 ![0, 0, 2048] (t21 A) slices_S32x8x4096_S32x8x1024_0_0_2048) (extractStridedSlice S32x8x1024 ![0, 0, 0] (t21 A) slices_S32x8x4096_S32x8x1024_0_0_0)

/-- The causal three-tap convolution. -/
def t48 (A : Args) : FVec Ideal S32x8x1024 .f32 :=
  addf (addf (mulf (extractStridedSlice S32x8x1024 ![0, 0, 0] (concatenate S32x10x1024 1 [⟨S32x2x1024, (shapeCast _ A.st shapeCasts_S1x32x2x1024_S32x2x1024)⟩, ⟨S32x8x1024, (t26 A)⟩] concatenates_S32x2x1024_S32x8x1024_S32x10x1024_d1) slices_S32x10x1024_S32x8x1024_0_0_0) (broadcastInDim S32x8x1024 ![0, 1, 2] bcast_S1x1x1024_S32x8x1024_0_1_2 (broadcastInDim S1x1x1024 ![2] bcast_S1024_S1x1x1024_2 (shapeCast _ (extractStridedSlice S1x1024 ![0, 0] (shapeCast _ A.cw shapeCasts_S1x3x1024_S3x1024) slices_S3x1024_S1x1024_0_0) shapeCasts_S1x1024_S1024)))) (mulf (extractStridedSlice S32x8x1024 ![0, 1, 0] (concatenate S32x10x1024 1 [⟨S32x2x1024, (shapeCast _ A.st shapeCasts_S1x32x2x1024_S32x2x1024)⟩, ⟨S32x8x1024, (t26 A)⟩] concatenates_S32x2x1024_S32x8x1024_S32x10x1024_d1) slices_S32x10x1024_S32x8x1024_0_1_0) (broadcastInDim S32x8x1024 ![0, 1, 2] bcast_S1x1x1024_S32x8x1024_0_1_2 (broadcastInDim S1x1x1024 ![2] bcast_S1024_S1x1x1024_2 (shapeCast _ (extractStridedSlice S1x1024 ![1, 0] (shapeCast _ A.cw shapeCasts_S1x3x1024_S3x1024) slices_S3x1024_S1x1024_1_0) shapeCasts_S1x1024_S1024))))) (mulf (extractStridedSlice S32x8x1024 ![0, 2, 0] (concatenate S32x10x1024 1 [⟨S32x2x1024, (shapeCast _ A.st shapeCasts_S1x32x2x1024_S32x2x1024)⟩, ⟨S32x8x1024, (t26 A)⟩] concatenates_S32x2x1024_S32x8x1024_S32x10x1024_d1) slices_S32x10x1024_S32x8x1024_0_2_0) (broadcastInDim S32x8x1024 ![0, 1, 2] bcast_S1x1x1024_S32x8x1024_0_1_2 (broadcastInDim S1x1x1024 ![2] bcast_S1024_S1x1x1024_2 (shapeCast _ (extractStridedSlice S1x1024 ![2, 0] (shapeCast _ A.cw shapeCasts_S1x3x1024_S3x1024) slices_S3x1024_S1x1024_2_0) shapeCasts_S1x1024_S1024))))

/-- The gated convolution output. -/
def t51 (A : Args) : FVec Ideal S32x8x1024 .f32 :=
  mulf (mulf (extractStridedSlice S32x8x1024 ![0, 0, 1024] (t21 A) slices_S32x8x4096_S32x8x1024_0_0_1024) (t48 A)) (mulf (extractStridedSlice S32x8x1024 ![0, 0, 3072] (t21 A) slices_S32x8x4096_S32x8x1024_0_0_3072) (Host.divf (broadcastInDim S32x8x1024 ![] bcast_S_S32x8x1024 (constant S_ .f32 0x3F800000#32)) (addf (broadcastInDim S32x8x1024 ![] bcast_S_S32x8x1024 (constant S_ .f32 0x3F800000#32)) (Host.exp (Host.negf (extractStridedSlice S32x8x1024 ![0, 0, 3072] (t21 A) slices_S32x8x4096_S32x8x1024_0_0_3072))))))

/-- The residual stream after the convolution layer. -/
def t54 (A : Args) : FVec Ideal S32x8x1024 .f32 :=
  addf (t4 A) (Host.dotGeneral dot_S32x8x1024_S1024x1024_S32x8x1024_2_0_01_1_n_n none (t51 A) (shapeCast _ A.wout shapeCasts_S1x1024x1024_S1024x1024))

/-- The layer's result. -/
def t69 (A : Args) : FVec Ideal S1x256x1024 .f32 :=
  shapeCast _ (mulf (mulf (t54 A) (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf (t54 A) (t54 A)) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 A.fnw))) shapeCasts_S32x8x1024_S1x256x1024

/-- The convolution's carried rows. -/
def t70 (A : Args) : FVec Ideal S1x256x1024 .f32 :=
  shapeCast _ (t26 A) shapeCasts_S32x8x1024_S1x256x1024

/-- The first result in stages. -/
theorem res69_eq (m : (ℓ : Loc nD τ sig) → Buf (Elt Ideal) ℓ) (c : Dev nD) : res_main_v69 m c = t69 (argsOf m c) := rfl

/-- The second result in stages. -/
theorem res70_eq (m : (ℓ : Loc nD τ sig) → Buf (Elt Ideal) ℓ) (c : Dev nD) : res_main_v70 m c = t70 (argsOf m c) := rfl

variable (A : Args)

/-- The residual stream after the output projection, at one row and column. -/
def H1 (b : Fin 32) (r : Fin 8) (x : Fin 1024) : EReal :=
  A.x (ix3 b r x) + ((∑ k : Fin 512, A.ma (ix3 b r k) * A.wo (ix3 0 ⟨k.val, by omega⟩ x))
    + ∑ k : Fin 512, A.mb (ix3 b r k) * A.wo (ix3 0 ⟨512 + k.val, by omega⟩ x))

/-- The norm of a row of `f`, at a column. -/
def nrm (f : Fin 1024 → EReal) (x : Fin 1024) : EReal :=
  f x * Ideal.rsqrt (Ideal.div (∑ k, f k * f k) (Ideal.ofBits .f32 0x44800000#32) + Ideal.ofBits .f32 0x358637BD#32)

/-- The normalised stream. -/
def XN (b : Fin 32) (r : Fin 8) (x : Fin 1024) : EReal := nrm (H1 A b r) x * A.nw (ix2 1 x)

/-- The convolution layer's input projection. -/
def PR (b : Fin 32) (r : Fin 8) (y : Fin 4096) : EReal := ∑ k : Fin 1024, XN A b r k * A.win (ix3 0 k y)

/-- The convolution's input. -/
def CU (b : Fin 32) (r : Fin 8) (x : Fin 1024) : EReal := PR A b r ⟨2048 + x.val, by omega⟩ * PR A b r ⟨x.val, by omega⟩

/-- The convolution's input `s` rows before: the carried state before the sequence's start. -/
def SH (b : Fin 32) (r : Fin 8) (s : ℕ) (x : Fin 1024) : EReal :=
  if h : s ≤ r.val then CU A b ⟨r.val - s, by omega⟩ x else A.st (ix4 0 b ⟨2 + r.val - s, by omega⟩ x)

/-- The causal convolution. -/
def YC (b : Fin 32) (r : Fin 8) (x : Fin 1024) : EReal :=
  CU A b r x * A.cw (ix3 0 2 x) + SH A b r 1 x * A.cw (ix3 0 1 x) + SH A b r 2 x * A.cw (ix3 0 0 x)

/-- The gated convolution output. -/
def GM (b : Fin 32) (r : Fin 8) (x : Fin 1024) : EReal :=
  PR A b r ⟨1024 + x.val, by omega⟩ * YC A b r x
    * (PR A b r ⟨3072 + x.val, by omega⟩ * Ideal.div 1 (1 + Ideal.exp (-PR A b r ⟨3072 + x.val, by omega⟩)))

/-- The residual stream after the convolution layer. -/
def H2 (b : Fin 32) (r : Fin 8) (x : Fin 1024) : EReal :=
  H1 A b r x + ∑ k : Fin 1024, GM A b r k * A.wout (ix3 0 k x)

/-- The result. -/
def YY (b : Fin 32) (r : Fin 8) (x : Fin 1024) : EReal := nrm (H2 A b r) x * A.fnw (ix1 x)

theorem t4_at (b : Fin 32) (r : Fin 8) (x : Fin 1024) : t4 A (ix3 b r x) = H1 A b r x := by
  unfold H1
  pointwise [t4]

theorem t19_at (b : Fin 32) (r : Fin 8) (x : Fin 1024) : t19 A (ix3 b r x) = XN A b r x := by
  unfold XN nrm
  pointwise [t19, t4_at A]

theorem t21_at (b : Fin 32) (r : Fin 8) (x : Fin 4096) : t21 A (ix3 b r x) = PR A b r x := by
  unfold PR
  pointwise [t21, t19_at A]

theorem t26_at (b : Fin 32) (r : Fin 8) (x : Fin 1024) : t26 A (ix3 b r x) = CU A b r x := by
  unfold CU
  pointwise [t26, t21_at A]

theorem t48_at (b : Fin 32) (r : Fin 8) (x : Fin 1024) : t48 A (ix3 b r x) = YC A b r x := by
  unfold YC SH
  pointwise [t48, t26_at A]
  have e1 : (if h : 1 + r.val < 2 then A.st (ix4 0 b ⟨1 + r.val, h⟩ x) else CU A b ⟨1 + r.val - 2, by omega⟩ x)
      = if h : 1 ≤ r.val then CU A b ⟨r.val - 1, by omega⟩ x else A.st (ix4 0 b ⟨2 + r.val - 1, by omega⟩ x) := by
    by_cases h : 1 ≤ r.val
    · rw [dif_pos h, dif_neg (by omega)]
      exact congrArg (fun q => CU A b q x) (Fin.ext (by show 1 + r.val - 2 = r.val - 1; omega))
    · rw [dif_neg h, dif_pos (by omega)]
      exact congrArg (fun q => A.st (ix4 0 b q x)) (Fin.ext (by show 1 + r.val = 2 + r.val - 1; omega))
  have e2 : (if h : r.val < 2 then A.st (ix4 0 b ⟨r.val, h⟩ x) else CU A b ⟨r.val - 2, by omega⟩ x)
      = if h : 2 ≤ r.val then CU A b ⟨r.val - 2, by omega⟩ x else A.st (ix4 0 b ⟨r.val, by omega⟩ x) := by
    by_cases h : 2 ≤ r.val
    · rw [dif_pos h, dif_neg (by omega)]
    · rw [dif_neg h, dif_pos (by omega)]
  rw [e1, e2, add_comm (_ * _) (_ * _), add_comm (_ + _) (_ * _), ← add_assoc]

theorem t51_at (b : Fin 32) (r : Fin 8) (x : Fin 1024) : t51 A (ix3 b r x) = GM A b r x := by
  unfold GM
  pointwise [t51, t48_at A, t21_at A]

theorem t54_at (b : Fin 32) (r : Fin 8) (x : Fin 1024) : t54 A (ix3 b r x) = H2 A b r x := by
  unfold H2
  pointwise [t54, t51_at A, t4_at A]

/-- The sequence of a row. -/
def sqn (r : Fin 256) : Fin 32 := ⟨r.val / 8, by omega⟩

/-- The token of a row. -/
def tk (r : Fin 256) : Fin 8 := ⟨r.val % 8, by omega⟩

theorem t69_at (a : Fin 1) (r : Fin 256) (x : Fin 1024) : t69 A (ix3 a r x) = YY A (sqn r) (tk r) x := by
  unfold YY nrm
  pointwise [t69, t54_at A]
  rfl

theorem t70_at (a : Fin 1) (r : Fin 256) (x : Fin 1024) : t70 A (ix3 a r x) = CU A (sqn r) (tk r) x := by
  pointwise [t70, t26_at A]
  rfl

end Cert.TailSRefIdeal.Hand

end
end
-- ==== Proof.TailSPay.lean ====
module

public import proofs.«01_k».proof.Proof.TailSSpec
public import proofs.«01_k».proof.Proof.Gen.TailSIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.TailSIdeal.Hand

open Cert.TailSIdeal Cert.TailSIdeal.Gen
open Cert.TailSRefIdeal.Hand

/-! ## What each group of operations of the body computes, entry by entry -/

variable (A : Args)

/-- The body's value `k0_pay2` at an index, from what its operands are at theirs. -/
theorem pay2_at (v : Vec Ideal S1x256x1024 .f32) (r : Fin 256) (x : Fin 1024) : k0_pay2 v (ix2 r x) = v (ix3 0 r x) := by
  pointwise [k0_pay2]

/-- The body's value `k0_pay3` at an index, from what its operands are at theirs. -/
theorem pay3_at {v3 : Vec Ideal S1x256x1024 .f32} {v5 v10 : Vec Ideal S1x256x512 .bf16} {v7 v12 : Vec Ideal S512x1024 .bf16}
    (h3 : ∀ r x, v3 (ix3 0 r x) = A.x (ix3 (sqn r) (tk r) x)) (h5 : ∀ r k, v5 (ix3 0 r k) = A.ma (ix3 (sqn r) (tk r) k))
    (h7 : ∀ (k : Fin 512) x, v7 (ix2 k x) = A.wo (ix3 0 ⟨k.val, by omega⟩ x))
    (h10 : ∀ r k, v10 (ix3 0 r k) = A.mb (ix3 (sqn r) (tk r) k))
    (h12 : ∀ (k : Fin 512) x, v12 (ix2 k x) = A.wo (ix3 0 ⟨512 + k.val, by omega⟩ x)) (r : Fin 256) (x : Fin 1024) :
    k0_pay3 v3 v5 v7 v10 v12 (ix2 r x) = H1 A (sqn r) (tk r) x := by
  unfold H1
  pointwise [k0_pay3, h3, h5, h7, h10, h12]

/-- The body's value `k0_pay4` at an index, from what its operands are at theirs. -/
theorem pay4_at {v3 : Vec Ideal S1x256x1024 .f32} {v5 v10 : Vec Ideal S1x256x512 .bf16} {v7 v12 : Vec Ideal S512x1024 .bf16}
    {v17 : Vec Ideal S1x1024 .f32}
    (h : ∀ r x, k0_pay3 v3 v5 v7 v10 v12 (ix2 r x) = H1 A (sqn r) (tk r) x)
    (h17 : ∀ x, v17 (ix2 0 x) = A.nw (ix2 1 x)) (r : Fin 256) (x : Fin 1024) :
    k0_pay4 v3 v5 v7 v10 v12 v17 (ix2 r x) = XN A (sqn r) (tk r) x := by
  unfold XN nrm
  pointwise [k0_pay4, h, h17]

/-- The body's value `k0_pay5` at an index, from what its operands are at theirs. -/
theorem pay5_at {v31 : FVec Ideal S256x1024 .bf16} {v32 v35 : Vec Ideal S1024x1024 .bf16}
    (h31 : ∀ r x, v31 (ix2 r x) = XN A (sqn r) (tk r) x)
    (h32 : ∀ (k x : Fin 1024), v32 (ix2 k x) = A.win (ix3 0 k ⟨2048 + x.val, by omega⟩))
    (h35 : ∀ (k x : Fin 1024), v35 (ix2 k x) = A.win (ix3 0 k ⟨x.val, by omega⟩)) (r : Fin 256) (x : Fin 1024) :
    k0_pay5 v31 v32 v35 (ix2 r x) = CU A (sqn r) (tk r) x := by
  unfold CU PR
  pointwise [k0_pay5, h31, h32, h35]

/-- The body's value `k0_pay11` at an index, from what its operands are at theirs. -/
theorem pay11_at {v38 : FVec Ideal S256x1024 .f32}
    (h : ∀ r x, v38 (ix2 r x) = CU A (sqn r) (tk r) x) (a : Fin 1) (r : Fin 256) (x : Fin 1024) :
    k0_pay11 v38 (ix3 a r x) = CU A (sqn r) (tk r) x := by
  pointwise [k0_pay11, h]

/-- The body's value `k0_pay7` at an index: the row's token. -/
theorem pay7_at (r : Fin 256) (x : Fin 1024) : k0_pay7 (ix2 r x) = BitVec.ofNat 32 (r.val % 8) := by
  pointwise [k0_pay7]
  revert r
  decide +kernel

/-- The body's value `k0_pay9` at an index: whether the row's token is at least two. -/
theorem pay9_at (r : Fin 256) (x : Fin 1024) : k0_pay9 (ix2 r x) = if 2 ≤ r.val % 8 then 1#1 else 0#1 := by
  pointwise [k0_pay9, pay7_at]
  revert r
  decide +kernel

/-- The body's choice between the rotated input and the rotated state is the input so many rows before. -/
theorem sel_at (r : Fin 256) (x : Fin 1024) (s d : ℕ) (hd : d = 248 + s) (hs : 1 ≤ s) (hs2 : s ≤ 2) (cnd : BitVec 1)
    (hc : cnd = if s ≤ r.val % 8 then 1#1 else 0#1) :
    Scalar.select cnd (CU A (sqn ⟨(r.val + 256 - s) % 256, by omega⟩) (tk ⟨(r.val + 256 - s) % 256, by omega⟩) x)
      (if h : 6 ≤ (r.val + 256 - d) % 256 % 8 then
        A.st (ix4 0 (sqn ⟨(r.val + 256 - d) % 256, by omega⟩) ⟨(r.val + 256 - d) % 256 % 8 - 6, by omega⟩ x) else (0 : EReal))
      = SH A (sqn r) (tk r) s x := by
  subst hd
  rw [hc]
  unfold SH
  by_cases h : s ≤ r.val % 8
  · have h' : s ≤ (tk r).val := h
    rw [if_pos h, dif_pos h']
    have e1 : sqn ⟨(r.val + 256 - s) % 256, by omega⟩ = sqn r := Fin.ext (by show (r.val + 256 - s) % 256 / 8 = r.val / 8; omega)
    have e2 : tk ⟨(r.val + 256 - s) % 256, by omega⟩ = ⟨(tk r).val - s, by omega⟩ :=
      Fin.ext (by show (r.val + 256 - s) % 256 % 8 = r.val % 8 - s; omega)
    rw [e1, e2]
    rfl
  · have h' : ¬ s ≤ (tk r).val := h
    rw [if_neg h, dif_neg h', dif_pos (by omega)]
    have e1 : sqn ⟨(r.val + 256 - (248 + s)) % 256, by omega⟩ = sqn r :=
      Fin.ext (by show (r.val + 256 - (248 + s)) % 256 / 8 = r.val / 8; omega)
    have e2 : (⟨(r.val + 256 - (248 + s)) % 256 % 8 - 6, by omega⟩ : Fin 2) = ⟨2 + (tk r).val - s, by omega⟩ :=
      Fin.ext (by show (r.val + 256 - (248 + s)) % 256 % 8 - 6 = 2 + r.val % 8 - s; omega)
    rw [e1, e2]
    rfl

/-- Whether a row's token is at least one, as the body compares it. -/
theorem ge_one (r : Fin 256) : IntOp.cmpi CmpIPredicate.sge (BitVec.ofNat 32 (r.val % 8)) 1#32 = if 1 ≤ r.val % 8 then 1#1 else 0#1 := by
  revert r
  decide +kernel

/-- The body's value `k0_pay8` at an index, from what its operands are at theirs. -/
theorem pay8_at {v31 : FVec Ideal S256x1024 .bf16} {v32 v35 : Vec Ideal S1024x1024 .bf16} {v39 : Vec Ideal S3x1024 .f32}
    {v41 : Vec Ideal S256x1024 .f32}
    (h : ∀ r x, k0_pay5 v31 v32 v35 (ix2 r x) = CU A (sqn r) (tk r) x)
    (h39 : ∀ k x, v39 (ix2 k x) = A.cw (ix3 0 k x))
    (h41 : ∀ (k : Fin 256) x, v41 (ix2 k x) = if h : 6 ≤ k.val % 8 then A.st (ix4 0 (sqn k) ⟨k.val % 8 - 6, by omega⟩ x) else (0 : EReal))
    (r : Fin 256) (x : Fin 1024) :
    k0_pay8 v31 v32 v35 v39 v41 (ix2 r x)
      = CU A (sqn r) (tk r) x * A.cw (ix3 0 2 x) + SH A (sqn r) (tk r) 1 x * A.cw (ix3 0 1 x) := by
  pointwise [k0_pay8, k0_pay6, h, h39, h41, pay7_at]
  rw [sel_at A r x 1 249 rfl (by omega) (by omega) _ (ge_one r)]

/-- The body's value `k0_pay12` at an index, from what its operands are at theirs. -/
theorem pay12_at {v16 v70 : FVec Ideal S256x1024 .f32} {v31 : FVec Ideal S256x1024 .bf16} {v32 v35 v83 v87 v100 : Vec Ideal S1024x1024 .bf16}
    {v39 : Vec Ideal S3x1024 .f32} {v41 : Vec Ideal S256x1024 .f32}
    (h16 : ∀ r x, v16 (ix2 r x) = H1 A (sqn r) (tk r) x)
    (h31 : ∀ r x, v31 (ix2 r x) = XN A (sqn r) (tk r) x)
    (h : ∀ r x, k0_pay5 v31 v32 v35 (ix2 r x) = CU A (sqn r) (tk r) x)
    (h39 : ∀ k x, v39 (ix2 k x) = A.cw (ix3 0 k x))
    (h41 : ∀ (k : Fin 256) x, v41 (ix2 k x) = if h : 6 ≤ k.val % 8 then A.st (ix4 0 (sqn k) ⟨k.val % 8 - 6, by omega⟩ x) else (0 : EReal))
    (h70 : ∀ (r : Fin 256) (x : Fin 1024), v70 (ix2 r x)
      = CU A (sqn r) (tk r) x * A.cw (ix3 0 2 x) + SH A (sqn r) (tk r) 1 x * A.cw (ix3 0 1 x))
    (h83 : ∀ (k x : Fin 1024), v83 (ix2 k x) = A.win (ix3 0 k ⟨1024 + x.val, by omega⟩))
    (h87 : ∀ (k x : Fin 1024), v87 (ix2 k x) = A.win (ix3 0 k ⟨3072 + x.val, by omega⟩))
    (h100 : ∀ (k x : Fin 1024), v100 (ix2 k x) = A.wout (ix3 0 k x)) (r : Fin 256) (x : Fin 1024) :
    k0_pay12 v16 v31 (k0_pay6 v39) v41 v70 k0_pay9 (k0_pay10 v31 v32 v35) v83 v87 v100 (ix2 r x) = H2 A (sqn r) (tk r) x := by
  unfold H2 GM YC
  pointwise [k0_pay12, k0_pay6, k0_pay10, h16, h31, h, h39, h41, h70, h83, h87, h100, pay9_at]
  refine congrArg₂ (· + ·) rfl (Finset.sum_congr rfl fun k _ => ?_)
  rw [sel_at A r k 2 250 rfl (by omega) (by omega) _ rfl]
  simp only [zero_sub, PR]

/-- The body's value `k0_pay1` at an index, from what its operands are at theirs. -/
theorem pay1_at {v16 v70 v73 : FVec Ideal S256x1024 .f32} {v31 : FVec Ideal S256x1024 .bf16} {v40 : FVec Ideal S3x1024 .f32}
    {v41 : Vec Ideal S256x1024 .f32} {v72 : IVec S256x1024 1} {v83 v87 v100 : Vec Ideal S1024x1024 .bf16} {v104 : Vec Ideal S1x1024 .f32}
    (h : ∀ r x, k0_pay12 v16 v31 v40 v41 v70 v72 v73 v83 v87 v100 (ix2 r x) = H2 A (sqn r) (tk r) x)
    (h104 : ∀ x, v104 (ix2 0 x) = A.fnw (ix1 x)) (a : Fin 1) (r : Fin 256) (x : Fin 1024) :
    k0_pay1 (k0_pay12 v16 v31 v40 v41 v70 v72 v73 v83 v87 v100) (k0_pay13 v104) (k0_pay14 v16 v31 v40 v41 v70 v72 v73 v83 v87 v100) k0_pay15 (ix3 a r x)
      = YY A (sqn r) (tk r) x := by
  unfold YY nrm
  pointwise [k0_pay1, k0_pay13, k0_pay14, k0_pay15, h, h104]

end Cert.TailSIdeal.Hand

end
end
-- ==== Proof.TailSVal.lean ====
module

public import proofs.«01_k».proof.Proof.TailSPay
public import proofs.«01_k».proof.Proof.Gen.TailSIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.TailSIdeal.Hand

open Cert.TailSIdeal Cert.TailSIdeal.Gen
open Cert.TailSRefIdeal.Hand

open Idealize.ShloMosaic.Pipeline (Dat)

variable (m : (ℓ : Loc nD τ sig) → Buf (Elt Ideal) ℓ)

/-- The call's arguments in a memory. -/
def args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

/-- Every window's block index at the grid's point (decided). -/
theorem idx_val : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0, 0]
    ∧ win0_11.index t = ![0, 0, 0] :=
  (by decide +kernel : ∀ t : Fin grid0.N, _)

/-- The host's array `v3` at an index, as an argument's element. -/
theorem V_v3 (c : Dev nD) (r : Fin 256) (x : Fin 1024) : V m c main_v3 (ix3 0 r x) = (args m c).x (ix3 (sqn r) (tk r) x) := by
  simp only [V, hostOps0, hostOps0_1, hostOps0_2, List.flatten_cons, List.flatten_nil, List.append_nil, List.cons_append, List.nil_append]
  after_results
  pointwise [args]
  rfl

/-- The host's array `v4` at an index, as an argument's element. -/
theorem V_v4 (c : Dev nD) (r : Fin 256) (x : Fin 512) : V m c main_v4 (ix3 0 r x) = (args m c).ma (ix3 (sqn r) (tk r) x) := by
  simp only [V, hostOps0, hostOps0_1, hostOps0_2, List.flatten_cons, List.flatten_nil, List.append_nil, List.cons_append, List.nil_append]
  after_results
  pointwise [args]
  rfl

/-- The host's array `v5` at an index, as an argument's element. -/
theorem V_v5 (c : Dev nD) (r : Fin 256) (x : Fin 512) : V m c main_v5 (ix3 0 r x) = (args m c).mb (ix3 (sqn r) (tk r) x) := by
  simp only [V, hostOps0, hostOps0_1, hostOps0_2, List.flatten_cons, List.flatten_nil, List.append_nil, List.cons_append, List.nil_append]
  after_results
  pointwise [args]
  rfl

/-- The host's array `v2` at an index, as an argument's element. -/
theorem V_v2 (c : Dev nD) (r : Fin 256) (x : Fin 1024) : V m c main_v2 (ix3 0 r x) = if h : 6 ≤ r.val % 8 then (args m c).st (ix4 0 (sqn r) ⟨r.val % 8 - 6, by omega⟩ x) else (0 : EReal) := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise [args]
  have h0 : (FloatOps.sitofp (F := Ideal) FTy.f32 (0#32 : BitVec 32) : EReal) = (0 : EReal) := by
    show (((0#32 : BitVec 32).toInt : ℝ) : EReal) = 0
    simp
  rw [h0]
  by_cases h : 6 ≤ r.val % 8
  · rw [dif_pos h, dif_pos ⟨by omega, h, by omega⟩]
    rfl
  · rw [dif_neg h, dif_neg (fun hh => h hh.2.1)]

/-- The host's array `v7` at an index, as an argument's element. -/
theorem V_v7 (c : Dev nD) (k x : Fin 1024) : V m c main_v7 (ix2 k x) = (args m c).wo (ix3 0 k x) := by
  simp only [V, hostOps0, hostOps0_1, hostOps0_2, List.flatten_cons, List.flatten_nil, List.append_nil, List.cons_append, List.nil_append]
  after_results
  pointwise [args]

/-- The host's array `v8` at an index, as an argument's element. -/
theorem V_v8 (c : Dev nD) (x : Fin 1024) : V m c main_v8 (ix2 0 x) = (args m c).nw (ix2 1 x) := by
  simp only [V, hostOps0, hostOps0_1, hostOps0_2, List.flatten_cons, List.flatten_nil, List.append_nil, List.cons_append, List.nil_append]
  after_results
  pointwise [args]

/-- The host's array `v10` at an index, as an argument's element. -/
theorem V_v10 (c : Dev nD) (k : Fin 1024) (x : Fin 4096) : V m c main_v10 (ix2 k x) = (args m c).win (ix3 0 k x) := by
  simp only [V, hostOps0, hostOps0_1, hostOps0_2, List.flatten_cons, List.flatten_nil, List.append_nil, List.cons_append, List.nil_append]
  after_results
  pointwise [args]

/-- The host's array `v11` at an index, as an argument's element. -/
theorem V_v11 (c : Dev nD) (k : Fin 3) (x : Fin 1024) : V m c main_v11 (ix2 k x) = (args m c).cw (ix3 0 k x) := by
  simp only [V, hostOps0, hostOps0_1, hostOps0_2, List.flatten_cons, List.flatten_nil, List.append_nil, List.cons_append, List.nil_append]
  after_results
  pointwise [args]

/-- The host's array `v13` at an index, as an argument's element. -/
theorem V_v13 (c : Dev nD) (k x : Fin 1024) : V m c main_v13 (ix2 k x) = (args m c).wout (ix3 0 k x) := by
  simp only [V, hostOps0, hostOps0_1, hostOps0_2, List.flatten_cons, List.flatten_nil, List.append_nil, List.cons_append, List.nil_append]
  after_results
  pointwise [args]

/-- The host's array `v14` at an index, as an argument's element. -/
theorem V_v14 (c : Dev nD) (x : Fin 1024) : V m c main_v14 (ix2 0 x) = (args m c).fnw (ix1 x) := by
  simp only [V, hostOps0, hostOps0_1, hostOps0_2, List.flatten_cons, List.flatten_nil, List.append_nil, List.cons_append, List.nil_append]
  after_results
  pointwise [args]

/-- The block that window 0 brings to the grid's point, at an index. -/
theorem iblk_0 (c : Dev nD) (t : Fin cfg0.N) (a : Fin 1) (r : Fin 256) (x : Fin 1024) : iblk m c 0 t (ix3 a r x) = (args m c).x (ix3 (sqn r) (tk r) x) := by
  refine Eq.trans ?_ (V_v3 m c r x)
  blk_ext [iblk, idx_val t]

/-- The block that window 1 brings to the grid's point, at an index. -/
theorem iblk_1 (c : Dev nD) (t : Fin cfg0.N) (a : Fin 1) (r : Fin 256) (x : Fin 512) : iblk m c 1 t (ix3 a r x) = (args m c).ma (ix3 (sqn r) (tk r) x) := by
  refine Eq.trans ?_ (V_v4 m c r x)
  blk_ext [iblk, idx_val t]

/-- The block that window 2 brings to the grid's point, at an index. -/
theorem iblk_2 (c : Dev nD) (t : Fin cfg0.N) (a : Fin 1) (r : Fin 256) (x : Fin 512) : iblk m c 2 t (ix3 a r x) = (args m c).mb (ix3 (sqn r) (tk r) x) := by
  refine Eq.trans ?_ (V_v5 m c r x)
  blk_ext [iblk, idx_val t]

/-- The block that window 3 brings to the grid's point, at an index. -/
theorem iblk_3 (c : Dev nD) (t : Fin cfg0.N) (a : Fin 1) (r : Fin 256) (x : Fin 1024) : iblk m c 3 t (ix3 a r x) = if h : 6 ≤ r.val % 8 then (args m c).st (ix4 0 (sqn r) ⟨r.val % 8 - 6, by omega⟩ x) else (0 : EReal) := by
  refine Eq.trans ?_ (V_v2 m c r x)
  blk_ext [iblk, idx_val t]

/-- The block that window 4 brings to the grid's point, at an index. -/
theorem iblk_4 (c : Dev nD) (t : Fin cfg0.N) (k x : Fin 1024) : iblk m c 4 t (ix2 k x) = (args m c).wo (ix3 0 k x) := by
  refine Eq.trans ?_ (V_v7 m c k x)
  blk_ext [iblk, idx_val t]

/-- The block that window 5 brings to the grid's point, at an index. -/
theorem iblk_5 (c : Dev nD) (t : Fin cfg0.N) (x : Fin 1024) : iblk m c 5 t (ix2 0 x) = (args m c).nw (ix2 1 x) := by
  refine Eq.trans ?_ (V_v8 m c x)
  blk_ext [iblk, idx_val t]

/-- The block that window 6 brings to the grid's point, at an index. -/
theorem iblk_6 (c : Dev nD) (t : Fin cfg0.N) (k : Fin 1024) (x : Fin 4096) : iblk m c 6 t (ix2 k x) = (args m c).win (ix3 0 k x) := by
  refine Eq.trans ?_ (V_v10 m c k x)
  blk_ext [iblk, idx_val t]

/-- The block that window 7 brings to the grid's point, at an index. -/
theorem iblk_7 (c : Dev nD) (t : Fin cfg0.N) (k : Fin 3) (x : Fin 1024) : iblk m c 7 t (ix2 k x) = (args m c).cw (ix3 0 k x) := by
  refine Eq.trans ?_ (V_v11 m c k x)
  blk_ext [iblk, idx_val t]

/-- The block that window 8 brings to the grid's point, at an index. -/
theorem iblk_8 (c : Dev nD) (t : Fin cfg0.N) (k x : Fin 1024) : iblk m c 8 t (ix2 k x) = (args m c).wout (ix3 0 k x) := by
  refine Eq.trans ?_ (V_v13 m c k x)
  blk_ext [iblk, idx_val t]

/-- The block that window 9 brings to the grid's point, at an index. -/
theorem iblk_9 (c : Dev nD) (t : Fin cfg0.N) (x : Fin 1024) : iblk m c 9 t (ix2 0 x) = (args m c).fnw (ix1 x) := by
  refine Eq.trans ?_ (V_v14 m c x)
  blk_ext [iblk, idx_val t]

/-- The residual stream of the block. -/
theorem h1_at (c : Dev nD) (t : Fin cfg0.N) (r : Fin 256) (x : Fin 1024) :
    (k0_pay3 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0))) (ix2 r x) = H1 (args m c) (sqn r) (tk r) x :=
  pay3_at (args m c) (iblk_0 m c t 0) (iblk_1 m c t 0) (fun k x => by pointwise [iblk_4 m c t]) (iblk_2 m c t 0) (fun k x => by pointwise [iblk_4 m c t]) r x

/-- Its norm. -/
theorem xn_at (c : Dev nD) (t : Fin cfg0.N) (r : Fin 256) (x : Fin 1024) :
    (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (ix2 r x) = XN (args m c) (sqn r) (tk r) x :=
  pay4_at (args m c) (h1_at m c t) (iblk_5 m c t) r x

/-- The convolution's input over the block. -/
theorem cu_at (c : Dev nD) (t : Fin cfg0.N) (r : Fin 256) (x : Fin 1024) :
    (k0_pay5 (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (View.ld (iblk m c 6 t) (Rect.unit ![0, 2048] ![1024, 1024] inb_S1024x4096_S1024x1024_0_2048)) (View.ld (iblk m c 6 t) (Rect.unit ![0, 0] ![1024, 1024] inb_S1024x4096_S1024x1024_0_0))) (ix2 r x) = CU (args m c) (sqn r) (tk r) x :=
  pay5_at (args m c) (xn_at m c t) (fun k x => by pointwise [iblk_6 m c t]) (fun k x => by pointwise [iblk_6 m c t]) r x

/-- The carried state, one slot to a row. -/
theorem st_at (c : Dev nD) (t : Fin cfg0.N) (r : Fin 256) (x : Fin 1024) :
    (k0_pay2 (iblk m c 3 t)) (ix2 r x) = if h : 6 ≤ r.val % 8 then (args m c).st (ix4 0 (sqn r) ⟨r.val % 8 - 6, by omega⟩ x) else (0 : EReal) :=
  (pay2_at _ r x).trans (iblk_3 m c t 0 r x)

/-- The residual stream after the convolution layer. -/
theorem h2_at (c : Dev nD) (t : Fin cfg0.N) (r : Fin 256) (x : Fin 1024) :
    k0_pay12 (k0_pay3 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0))) (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (k0_pay6 (iblk m c 7 t)) (k0_pay2 (iblk m c 3 t)) (k0_pay8 (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (View.ld (iblk m c 6 t) (Rect.unit ![0, 2048] ![1024, 1024] inb_S1024x4096_S1024x1024_0_2048)) (View.ld (iblk m c 6 t) (Rect.unit ![0, 0] ![1024, 1024] inb_S1024x4096_S1024x1024_0_0)) (iblk m c 7 t) (k0_pay2 (iblk m c 3 t))) k0_pay9 (k0_pay10 (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (View.ld (iblk m c 6 t) (Rect.unit ![0, 2048] ![1024, 1024] inb_S1024x4096_S1024x1024_0_2048)) (View.ld (iblk m c 6 t) (Rect.unit ![0, 0] ![1024, 1024] inb_S1024x4096_S1024x1024_0_0))) (View.ld (iblk m c 6 t) (Rect.unit ![0, 1024] ![1024, 1024] inb_S1024x4096_S1024x1024_0_1024)) (View.ld (iblk m c 6 t) (Rect.unit ![0, 3072] ![1024, 1024] inb_S1024x4096_S1024x1024_0_3072)) (iblk m c 8 t) (ix2 r x) = H2 (args m c) (sqn r) (tk r) x :=
  pay12_at (args m c) (h1_at m c t) (xn_at m c t) (cu_at m c t) (iblk_7 m c t) (st_at m c t)
    (pay8_at (args m c) (cu_at m c t) (iblk_7 m c t) (st_at m c t)) (fun k x => by pointwise [iblk_6 m c t]) (fun k x => by pointwise [iblk_6 m c t]) (iblk_8 m c t) r x

/-- The first result's block. -/
theorem y_at (c : Dev nD) (t : Fin cfg0.N) (y : S1x256x1024.Idx) :
    k0_pay1 (k0_pay12 (k0_pay3 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0))) (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (k0_pay6 (iblk m c 7 t)) (k0_pay2 (iblk m c 3 t)) (k0_pay8 (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (View.ld (iblk m c 6 t) (Rect.unit ![0, 2048] ![1024, 1024] inb_S1024x4096_S1024x1024_0_2048)) (View.ld (iblk m c 6 t) (Rect.unit ![0, 0] ![1024, 1024] inb_S1024x4096_S1024x1024_0_0)) (iblk m c 7 t) (k0_pay2 (iblk m c 3 t))) k0_pay9 (k0_pay10 (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (View.ld (iblk m c 6 t) (Rect.unit ![0, 2048] ![1024, 1024] inb_S1024x4096_S1024x1024_0_2048)) (View.ld (iblk m c 6 t) (Rect.unit ![0, 0] ![1024, 1024] inb_S1024x4096_S1024x1024_0_0))) (View.ld (iblk m c 6 t) (Rect.unit ![0, 1024] ![1024, 1024] inb_S1024x4096_S1024x1024_0_1024)) (View.ld (iblk m c 6 t) (Rect.unit ![0, 3072] ![1024, 1024] inb_S1024x4096_S1024x1024_0_3072)) (iblk m c 8 t)) (k0_pay13 (iblk m c 9 t)) (k0_pay14 (k0_pay3 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0))) (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (k0_pay6 (iblk m c 7 t)) (k0_pay2 (iblk m c 3 t)) (k0_pay8 (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (View.ld (iblk m c 6 t) (Rect.unit ![0, 2048] ![1024, 1024] inb_S1024x4096_S1024x1024_0_2048)) (View.ld (iblk m c 6 t) (Rect.unit ![0, 0] ![1024, 1024] inb_S1024x4096_S1024x1024_0_0)) (iblk m c 7 t) (k0_pay2 (iblk m c 3 t))) k0_pay9 (k0_pay10 (k0_pay4 (iblk m c 0 t) (iblk m c 1 t) (View.ld (iblk m c 4 t) (Rect.unit ![0, 0] ![512, 1024] inb_S1024x1024_S512x1024_0_0)) (iblk m c 2 t) (View.ld (iblk m c 4 t) (Rect.unit ![512, 0] ![512, 1024] inb_S1024x1024_S512x1024_512_0)) (iblk m c 5 t)) (View.ld (iblk m c 6 t) (Rect.unit ![0, 2048] ![1024, 1024] inb_S1024x4096_S1024x1024_0_2048)) (View.ld (iblk m c 6 t) (Rect.unit ![0, 0] ![1024, 1024] inb_S1024x4096_S1024x1024_0_0))) (View.ld (iblk m c 6 t) (Rect.unit ![0, 1024] ![1024, 1024] inb_S1024x4096_S1024x1024_0_1024)) (View.ld (iblk m c 6 t) (Rect.unit ![0, 3072] ![1024, 1024] inb_S1024x4096_S1024x1024_0_3072)) (iblk m c 8 t)) k0_pay15 y
      = t69 (args m c) (((cfg0.win 10).blk t).view.emb y) := by
  have e : ((cfg0.win 10).blk t).view.emb y = ix3 (y 0) (y 1) (y 2) := by blk_ext [idx_val t]
  have ey : y = ix3 (y 0) (y 1) (y 2) := by blk_ext
  rw [e]
  refine Eq.trans ?_ (t69_at (args m c) (y 0) (y 1) (y 2)).symm
  rw [ey]
  exact pay1_at (args m c) (h2_at m c t) (iblk_9 m c t) (y 0) (y 1) (y 2)

/-- The first result. -/
theorem final_10 (c : Dev nD) : (dats m 0 c).arrAt 10 (cfgs 0).N = t69 (args m c) := by
  refine (dats m 0 c).arrAt_eq_of_covers 10 _ (by decide +kernel) fun t hf y => ?_
  blk_simp; rw [after0_10]
  unfold outsAt0
  dsimp only; frame_out
  exact y_at m c t y

/-- The second result. -/
theorem final_11 (c : Dev nD) : (dats m 0 c).arrAt 11 (cfgs 0).N = t70 (args m c) := by
  refine (dats m 0 c).arrAt_eq_of_covers 11 _ (by decide +kernel) fun t hf y => ?_
  blk_simp; rw [after0_11]
  unfold outsAt0
  dsimp only; frame_out
  have e : ((cfg0.win 11).blk t).view.emb y = ix3 (y 0) (y 1) (y 2) := by blk_ext [idx_val t]
  have ey : y = ix3 (y 0) (y 1) (y 2) := by blk_ext
  refine Eq.trans ?_ (congrArg (t70 (args m c)) e).symm
  refine Eq.trans ?_ (t70_at (args m c) (y 0) (y 1) (y 2)).symm
  rw [ey]
  exact pay11_at (args m c) (cu_at m c t) (y 0) (y 1) (y 2)

end Cert.TailSIdeal.Hand

end
end
-- ==== Proof.ClaimsS.lean ====
module

public import proofs.«01_k».proof.Defs
public import proofs.«01_k».proof.Proof.ProjSVal
public import proofs.«01_k».proof.Proof.TailSVal
public import proofs.«01_k».proof.Proof.Gen.ProjectS.Frame
public import proofs.«01_k».proof.Proof.Gen.ProjectSIdeal.Value
public import proofs.«01_k».proof.Proof.Gen.ProjectSRefIdeal.Run
public import proofs.«01_k».proof.Proof.Gen.TailS.Frame
public import proofs.«01_k».proof.Proof.Gen.TailSIdeal.Value
public import proofs.«01_k».proof.Proof.Gen.TailSRefIdeal.Run
public import Idealize.ShloMosaic.Adequacy
public import Idealize.ShloMosaic.Lib.Claim

@[expose] public section

noncomputable section

namespace Cert.Proof

open Idealize.ShloMosaic Idealize.SL.Sem

/-- The sample rows' projection's frame: it ends, leaves its arguments, and every semaphore reads zero. -/
theorem frame_p4 : Cert.quiescent_ProjectS (hProjectS := Cert.ProjectS.Gen.facts) := fun m ρ _ => Cert.ProjectS.Gen.frame m ρ

/-- The same over the extended reals. -/
theorem frame_pi4 : Cert.quiescent_ProjectSIdeal (hProjectSIdeal := Cert.ProjectSIdeal.Gen.facts) :=
  fun m ρ _ => Cert.ProjectSIdeal.Gen.frame m ρ

/-- The sample rows' projection's reference ends and leaves its arguments; it has no semaphore. -/
theorem frame_ri4 : Cert.quiescent_ProjectSRefIdeal (hProjectSRefIdeal := Cert.ProjectSRefIdeal.Gen.facts) := fun m ρ _ =>
  (θ_run Cert.ProjectSRefIdeal.defs _ _).mono (fun r h => ⟨fun c => (h c).2.2.2.2.2.2.2.2.2,
      Idealize.ShloMosaic.sem_eq_zero_of_no_sems (by decide) r.2⟩)
    (Cert.ProjectSRefIdeal.Value.run (F := Ideal) m ρ)

/-- The sample rows' tail's frame. -/
theorem frame_p5 : Cert.quiescent_TailS (hTailS := Cert.TailS.Gen.facts) := fun m ρ _ => Cert.TailS.Gen.frame m ρ

/-- The same over the extended reals. -/
theorem frame_pi5 : Cert.quiescent_TailSIdeal (hTailSIdeal := Cert.TailSIdeal.Gen.facts) :=
  fun m ρ _ => Cert.TailSIdeal.Gen.frame m ρ

/-- The sample rows' tail's reference ends and leaves its arguments; it has no semaphore. -/
theorem frame_ri5 : Cert.quiescent_TailSRefIdeal (hTailSRefIdeal := Cert.TailSRefIdeal.Gen.facts) := fun m ρ _ =>
  (θ_run Cert.TailSRefIdeal.defs _ _).mono (fun r h => ⟨fun c => (h c).2.2,
      Idealize.ShloMosaic.sem_eq_zero_of_no_sems (by decide) r.2⟩)
    (Cert.TailSRefIdeal.Value.run (F := Ideal) m ρ)

set_option maxHeartbeats 4000000 in
/-- The sample rows' projection's kernel and its reference give equal results over the extended reals. -/
theorem algebraic4 : Cert.algebraic_ProjectSIdeal_ProjectSRefIdeal (hProjectSIdeal := Cert.ProjectSIdeal.Gen.facts)
    (hProjectSRefIdeal := Cert.ProjectSRefIdeal.Gen.facts) := by
  pair_intro
  · run_from Cert.ProjectSIdeal.Gen.run_main m g
    all_goals
      simp only [ProjectSIdeal.Gen.hostOps0, ProjectSIdeal.Gen.hostOps0_1, ProjectSIdeal.Gen.hostOps0_2, List.flatten_cons, List.flatten_nil, List.append_nil, List.cons_append, List.nil_append]
      after_results
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.ProjectSRefIdeal.Value.run m' g')
    · rw [(hagree c).1, (hagree c).2.1, (hagree c).2.2]; exact (Cert.ProjectSIdeal.Hand.final_5 m c).symm
    · rw [(hagree c).1, (hagree c).2.1, (hagree c).2.2]; exact (Cert.ProjectSIdeal.Hand.final_6 m c).symm
    · rw [(hagree c).1, (hagree c).2.1, (hagree c).2.2]; exact (Cert.ProjectSIdeal.Hand.final_7 m c).symm
    · rw [(hagree c).1, (hagree c).2.1, (hagree c).2.2]; exact (Cert.ProjectSIdeal.Hand.final_8 m c).symm
    · rw [(hagree c).1, (hagree c).2.1, (hagree c).2.2]; exact (Cert.ProjectSIdeal.Hand.final_9 m c).symm
    · rw [(hagree c).1, (hagree c).2.1, (hagree c).2.2]; exact (Cert.ProjectSIdeal.Hand.final_10 m c).symm
    · rw [(hagree c).1, (hagree c).2.1, (hagree c).2.2]; exact (Cert.ProjectSIdeal.Hand.final_11 m c).symm
    · rw [(hagree c).1, (hagree c).2.1, (hagree c).2.2]; exact (Cert.ProjectSIdeal.Hand.final_12 m c).symm
    · rw [(hagree c).1, (hagree c).2.1, (hagree c).2.2]; exact (Cert.ProjectSIdeal.Hand.final_13 m c).symm

set_option maxHeartbeats 4000000 in
/-- The two programs' arguments are the same where their memories agree. -/
theorem args_eq5 (m : (ℓ : Loc Cert.TailSIdeal.nD Cert.TailSIdeal.τ Cert.TailSIdeal.sig) → Buf (Elt Ideal) ℓ)
    (m' : (ℓ : Loc Cert.TailSRefIdeal.nD Cert.TailSRefIdeal.τ Cert.TailSRefIdeal.sig) → Buf (Elt Ideal) ℓ) (c : Dev Cert.TailSIdeal.nD)
    (e0 : m' (c.tc.loc TailSRefIdeal.main_arg0) = m (c.tc.loc TailSIdeal.main_arg0))
    (e1 : m' (c.tc.loc TailSRefIdeal.main_arg1) = m (c.tc.loc TailSIdeal.main_arg1))
    (e2 : m' (c.tc.loc TailSRefIdeal.main_arg2) = m (c.tc.loc TailSIdeal.main_arg2))
    (e3 : m' (c.tc.loc TailSRefIdeal.main_arg3) = m (c.tc.loc TailSIdeal.main_arg3))
    (e4 : m' (c.tc.loc TailSRefIdeal.main_arg4) = m (c.tc.loc TailSIdeal.main_arg4))
    (e5 : m' (c.tc.loc TailSRefIdeal.main_arg5) = m (c.tc.loc TailSIdeal.main_arg5))
    (e6 : m' (c.tc.loc TailSRefIdeal.main_arg6) = m (c.tc.loc TailSIdeal.main_arg6))
    (e7 : m' (c.tc.loc TailSRefIdeal.main_arg7) = m (c.tc.loc TailSIdeal.main_arg7))
    (e8 : m' (c.tc.loc TailSRefIdeal.main_arg8) = m (c.tc.loc TailSIdeal.main_arg8))
    (e9 : m' (c.tc.loc TailSRefIdeal.main_arg9) = m (c.tc.loc TailSIdeal.main_arg9))
    : Cert.TailSRefIdeal.Hand.argsOf m' c = Cert.TailSIdeal.Hand.args m c := by
  unfold Cert.TailSRefIdeal.Hand.argsOf Cert.TailSIdeal.Hand.args
  rw [e0, e1, e2, e3, e4, e5, e6, e7, e8, e9]

set_option maxHeartbeats 4000000 in
/-- The sample rows' tail's kernel and its reference give equal results over the extended reals. -/
theorem algebraic5 : Cert.algebraic_TailSIdeal_TailSRefIdeal (hTailSIdeal := Cert.TailSIdeal.Gen.facts)
    (hTailSRefIdeal := Cert.TailSRefIdeal.Gen.facts) := by
  pair_intro
  · run_from Cert.TailSIdeal.Gen.run_main m g
    all_goals
      simp only [TailSIdeal.Gen.hostOps0, TailSIdeal.Gen.hostOps0_1, TailSIdeal.Gen.hostOps0_2, List.flatten_cons, List.flatten_nil, List.append_nil, List.cons_append, List.nil_append]
      after_results
  · refine (θ_run _ _ _).mono (fun r h c => ⟨(h c).1.trans ?_, (h c).2.1.trans ?_, (h c).2.2⟩)
      (Cert.TailSRefIdeal.Value.run m' g')
    · rw [Cert.TailSRefIdeal.Hand.res69_eq]
      obtain ⟨e0, e1, e2, e3, e4, e5, e6, e7, e8, e9⟩ := hagree c
      rw [args_eq5 m m' c e0 e1 e2 e3 e4 e5 e6 e7 e8 e9]
      exact (Cert.TailSIdeal.Hand.final_10 m c).symm
    · rw [Cert.TailSRefIdeal.Hand.res70_eq]
      obtain ⟨e0, e1, e2, e3, e4, e5, e6, e7, e8, e9⟩ := hagree c
      rw [args_eq5 m m' c e0 e1 e2 e3 e4 e5 e6 e7 e8 e9]
      exact (Cert.TailSIdeal.Hand.final_11 m c).symm

end Cert.Proof

end
end
-- ==== Proof.DeltaMath.lean ====
module

public import Idealize.ShloMosaic.Lib.Pipeline.ValueKit
public import Mathlib.LinearAlgebra.Matrix.Notation
public import Mathlib.Tactic.NoncommRing

@[expose] public section

noncomputable section

open Idealize.ShloMosaic
open scoped BigOperators

namespace Cert.Delta

/-! ## The chunk's triangular solve over the reals, and its reading over the extended reals -/

/-- A finite sum of reals, read as extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A matrix of the chunk's size. -/
abbrev Mat := Matrix (Fin 8) (Fin 8) ℝ

/-- Nothing on the diagonal or above it. -/
def Strict (M : Mat) : Prop := ∀ i j, i ≤ j → M i j = 0

/-- Below how many diagonals a product of strictly lower matrices lies. -/
theorem low_mul {A B : Mat} {a b : ℕ} (hA : ∀ i j : Fin 8, i.val < j.val + a → A i j = 0)
    (hB : ∀ i j : Fin 8, i.val < j.val + b → B i j = 0) (i j : Fin 8) (h : i.val < j.val + (a + b)) : (A * B) i j = 0 := by
  rw [Matrix.mul_apply]
  refine Finset.sum_eq_zero fun l _ => ?_
  by_cases hl : i.val < l.val + a
  · rw [hA i l hl, zero_mul]
  · rw [hB l j (by omega), mul_zero]

/-- The eighth power of a strictly lower matrix of eight rows is zero. -/
theorem pow_eight {M : Mat} (hM : Strict M) : (M * M * (M * M)) * (M * M * (M * M)) = 0 := by
  have h1 : ∀ i j : Fin 8, i.val < j.val + 1 → M i j = 0 := fun i j h => hM i j (Fin.le_def.mpr (by omega))
  have h2 := low_mul h1 h1
  have h4 := low_mul h2 h2
  ext i j
  exact low_mul h4 h4 i j (by omega)

/-- The product that the kernel forms for the inverse of one plus a strictly lower matrix. -/
def inv (M : Mat) : Mat :=
  ((1 - M) + (1 - M) * (M * M)) + ((1 - M) + (1 - M) * (M * M)) * (M * M * (M * M))

/-- It is a right inverse. -/
theorem mul_inv {M : Mat} (hM : Strict M) : (1 + M) * inv M = 1 := by
  have e : (1 + M) * inv M = 1 - (M * M * (M * M)) * (M * M * (M * M)) := by unfold inv; noncomm_ring
  rw [e, pow_eight hM, sub_zero]

/-- The right-hand sides: one column to each value and key channel. -/
abbrev Rhs := Matrix (Fin 8) (Fin 256) ℝ

/-- The solution. -/
def sol (M : Mat) (R : Rhs) : Rhs := inv M * R

/-- The solution solves. -/
theorem sol_eq {M : Mat} (hM : Strict M) (R : Rhs) : sol M R + M * sol M R = R := by
  have h : (1 + M) * sol M R = R := by rw [sol, ← Matrix.mul_assoc, mul_inv hM, Matrix.one_mul]
  rwa [Matrix.add_mul, Matrix.one_mul] at h

/-- Hence each row is its right-hand side less the rows before it, weighted. -/
theorem sol_row {M : Mat} (hM : Strict M) (R : Rhs) (i : Fin 8) (x : Fin 256) :
    sol M R i x = R i x - ∑ j, M i j * sol M R j x := by
  have h := congrFun (congrFun (sol_eq hM R) i) x
  rw [Matrix.add_apply, Matrix.mul_apply] at h
  linarith

/-- Forward substitution, row by row from the first, gives the solution: stated of extended reals that are the given
    reals, since the rows before are then known to be real. -/
theorem forward {M : Mat} (hM : Strict M) (R : Rhs) {m : Fin 8 → Fin 8 → EReal} {r : Fin 8 → Fin 256 → EReal}
    {u : Fin 8 → Fin 256 → EReal} (hm : ∀ i j, m i j = (M i j : EReal)) (hr : ∀ i x, r i x = (R i x : EReal))
    (hu : ∀ i x, u i x = r i x - ∑ j : Fin i.val, m i ⟨j.val, by omega⟩ * u ⟨j.val, by omega⟩ x) (i : Fin 8) (x : Fin 256) :
    u i x = (sol M R i x : EReal) := by
  obtain ⟨n, hn⟩ := i
  induction n using Nat.strong_induction_on with
  | _ n ih =>
    rw [hu ⟨n, hn⟩ x, sol_row hM R ⟨n, hn⟩ x, EReal.coe_sub, hr]
    congr 1
    have e : ∀ j : Fin n, m ⟨n, hn⟩ ⟨j.val, by omega⟩ * u ⟨j.val, by omega⟩ x
        = ((M ⟨n, hn⟩ ⟨j.val, by omega⟩ * sol M R ⟨j.val, by omega⟩ x : ℝ) : EReal) := fun j => by
      rw [hm, ih j.val j.isLt (by omega), ← EReal.coe_mul]
    rw [Finset.sum_congr rfl fun j _ => e j, ← coe_sum]
    congr 1
    symm
    let f : ℕ → ℝ := fun j => if h : j < 8 then M ⟨n, hn⟩ ⟨j, h⟩ * sol M R ⟨j, h⟩ x else 0
    have e8 : ∑ j : Fin 8, M ⟨n, hn⟩ j * sol M R j x = ∑ j ∈ Finset.range 8, f j := by
      rw [← Fin.sum_univ_eq_sum_range]
      exact Finset.sum_congr rfl fun j _ => by simp [f]
    have en : ∑ j : Fin n, M ⟨n, hn⟩ ⟨j.val, by omega⟩ * sol M R ⟨j.val, by omega⟩ x = ∑ j ∈ Finset.range n, f j := by
      rw [← Fin.sum_univ_eq_sum_range]
      exact Finset.sum_congr rfl fun j _ => by
        have : j.val < 8 := by omega
        simp [f, this]
    rw [e8, en]
    symm
    refine Finset.sum_subset (fun j hj => ?_) (fun j hj hj' => ?_)
    · rw [Finset.mem_range] at hj ⊢
      omega
    · rw [Finset.mem_range] at hj
      rw [Finset.mem_range] at hj'
      simp only [f, dif_pos hj]
      rw [hM ⟨n, hn⟩ ⟨j, hj⟩ (Fin.le_def.mpr (by show n ≤ j; omega)), zero_mul]

/-! ## Which of the extended reals the stages give -/

/-- A real. -/
def Fin' (x : EReal) : Prop := ∃ r : ℝ, x = (r : EReal)

theorem fin_iff (x : EReal) : Fin' x ↔ x ≠ ⊥ ∧ x ≠ ⊤ := by
  constructor
  · rintro ⟨r, rfl⟩
    exact ⟨EReal.coe_ne_bot r, EReal.coe_ne_top r⟩
  · rintro ⟨h, h'⟩
    exact ⟨x.toReal, (EReal.coe_toReal h' h).symm⟩

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.sum {ι : Type} (s : Finset ι) {f : ι → EReal} (h : ∀ i, Fin' (f i)) : Fin' (∑ i ∈ s, f i) := by
  choose g hg using h
  exact ⟨∑ i ∈ s, g i, by rw [coe_sum]; exact Finset.sum_congr rfl fun i _ => hg i⟩

/-- An exponential is not negative. -/
theorem exp_nonneg (x : EReal) : 0 ≤ Ideal.exp x := by
  induction x using EReal.rec with
  | bot => exact le_refl _
  | coe r => exact EReal.coe_nonneg.mpr (Real.exp_pos r).le
  | top => exact le_top

/-- The exponential of anything but the top is real. -/
theorem exp_fin {x : EReal} (h : x ≠ ⊤) : Fin' (Ideal.exp x) := by
  induction x using EReal.rec with
  | bot => exact ⟨0, rfl⟩
  | coe r => exact ⟨Real.exp r, rfl⟩
  | top => exact absurd rfl h

/-- The logistic function is real everywhere. -/
theorem sig_fin (x : EReal) : Fin' (Ideal.div 1 (1 + Ideal.exp (-x))) := by
  have key : ∀ y : EReal, 0 ≤ y → Fin' (Ideal.div 1 (1 + y)) := by
    intro y hy
    induction y using EReal.rec with
    | bot => exact absurd hy (by simp)
    | coe r =>
      have hr : (0 : ℝ) ≤ r := EReal.coe_nonneg.mp hy
      have e : (1 : EReal) + (r : EReal) = ((1 + r : ℝ) : EReal) := by rw [EReal.coe_add]; rfl
      rw [e, Ideal.div_coe (by positivity)]
      exact ⟨1 / (1 + r), by rw [one_mul]⟩
    | top =>
      have e : (1 : EReal) + ⊤ = ⊤ := EReal.add_top_of_ne_bot (by exact EReal.coe_ne_bot 1)
      rw [e]
      refine ⟨0, ?_⟩
      unfold Ideal.div
      rw [if_neg (by simp), EReal.inv_top, mul_zero]
      rfl
  exact key _ (exp_nonneg _)

/-- A square is not negative. -/
theorem sq_nonneg' (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-- A channel times the reciprocal root of the sum of squares plus a positive number is real: where some channel is
    infinite the sum is infinite, and its reciprocal root is zero. -/
theorem norm_fin {ι : Type} [Fintype ι] (f : ι → EReal) {e : EReal} {er : ℝ} (he : e = (er : EReal)) (hpos : 0 < er) (i : ι) :
    Fin' (f i * Ideal.rsqrt ((∑ k, f k * f k) + e)) := by
  have h0 : 0 ≤ ∑ k, f k * f k := Finset.sum_nonneg fun k _ => sq_nonneg' (f k)
  by_cases ht : (∑ k, f k * f k) = ⊤
  · rw [ht, he, EReal.top_add_coe]
    exact ⟨0, by show f i * 0 = _; rw [mul_zero]; rfl⟩
  · have hb : (∑ k, f k * f k) ≠ ⊥ := fun h => by rw [h] at h0; exact absurd h0 (by simp)
    obtain ⟨s, hs⟩ := (fin_iff _).mpr ⟨hb, ht⟩
    have hs0 : 0 ≤ s := by rw [hs] at h0; exact EReal.coe_nonneg.mp h0
    have hi : f i * f i ≤ (s : EReal) := by
      rw [← hs]
      exact Finset.single_le_sum (f := fun k => f k * f k) (fun k _ => sq_nonneg' (f k)) (Finset.mem_univ i)
    have hfi : Fin' (f i) := by
      rw [fin_iff]
      constructor
      · intro h
        rw [h] at hi
        exact absurd hi (by rw [EReal.bot_mul_bot]; simp)
      · intro h
        rw [h] at hi
        exact absurd hi (by rw [EReal.top_mul_top]; simp)
    refine hfi.mul ?_
    rw [hs, he, ← EReal.coe_add, Ideal.rsqrt_coe, if_neg (by linarith), if_neg (by linarith)]
    exact ⟨_, rfl⟩

/-- A sum in which the three parts of each term — the term, its difference with itself, and that difference's
    difference with itself — are summed apart, each masked by zeros and ones, is the masked sum: where a chosen term
    is the bottom both are, and elsewhere the differences are zero. -/
theorem split_sum {ι : Type} [Fintype ι] (w x : ι → EReal) (hw : ∀ j, w j = 0 ∨ w j = 1) (hx : ∀ j, w j = 1 → x j ≠ ⊤) :
    (∑ j, w j * x j) + ((∑ j, w j * (x j - x j)) + ∑ j, w j * ((x j - x j) - (x j - x j))) = ∑ j, w j * x j := by
  classical
  by_cases hb : ∃ j, w j = 1 ∧ x j = ⊥
  · obtain ⟨j, h1, h2⟩ := hb
    have e : (∑ j, w j * x j) = ⊥ := by
      rw [← Finset.add_sum_erase _ _ (Finset.mem_univ j), h1, h2, one_mul, EReal.bot_add]
    rw [e, EReal.bot_add]
  · have hz : ∀ j, w j * (x j - x j) = 0 := fun j => by
      rcases hw j with h | h
      · rw [h, zero_mul]
      · have hj : Fin' (x j) := (fin_iff _).mpr ⟨fun e => hb ⟨j, h, e⟩, hx j h⟩
        obtain ⟨r, hr⟩ := hj
        rw [hr, ← EReal.coe_sub, sub_self, EReal.coe_zero, mul_zero]
    have hz' : ∀ j, w j * ((x j - x j) - (x j - x j)) = 0 := fun j => by
      rcases hw j with h | h
      · rw [h, zero_mul]
      · have hj : Fin' (x j) := (fin_iff _).mpr ⟨fun e => hb ⟨j, h, e⟩, hx j h⟩
        obtain ⟨r, hr⟩ := hj
        rw [hr, ← EReal.coe_sub, sub_self, EReal.coe_zero, sub_zero, mul_zero]
    rw [Finset.sum_eq_zero fun j _ => hz j, Finset.sum_eq_zero fun j _ => hz' j, add_zero, add_zero]

/-- The decay's logarithm at one token is never positive. -/
theorem gate_nonpos (a x : EReal) : (-(Ideal.exp a)) * (max x 0 + Ideal.log (1 + Ideal.exp (-(max x (-x))))) ≤ 0 := by
  have hl : 0 ≤ Ideal.log (1 + Ideal.exp (-(max x (-x)))) := by
    have key : ∀ y : EReal, 0 ≤ y → 0 ≤ Ideal.log (1 + y) := by
      intro y hy
      induction y using EReal.rec with
      | bot => exact absurd hy (by simp)
      | coe r =>
        have hr : (0 : ℝ) ≤ r := EReal.coe_nonneg.mp hy
        have e : (1 : EReal) + (r : EReal) = ((1 + r : ℝ) : EReal) := by rw [EReal.coe_add]; rfl
        rw [e]
        show 0 ≤ (if (1 + r) ≤ 0 then ⊥ else (Real.log (1 + r) : EReal))
        rw [if_neg (by linarith)]
        exact EReal.coe_nonneg.mpr (Real.log_nonneg (by linarith))
      | top =>
        have e : (1 : EReal) + ⊤ = ⊤ := EReal.add_top_of_ne_bot (by exact EReal.coe_ne_bot 1)
        rw [e]
        exact le_top
    exact key _ (exp_nonneg _)
  have hs : 0 ≤ max x 0 + Ideal.log (1 + Ideal.exp (-(max x (-x)))) := add_nonneg (le_max_right _ _) hl
  rw [EReal.neg_mul]
  have h := mul_nonneg (exp_nonneg a) hs
  have h' := EReal.neg_le_neg_iff.mpr h
  rwa [neg_zero] at h'

/-- The running sum of the first tokens. -/
def run (g : Fin 8 → EReal) (t : Fin 8) : EReal := ∑ j : Fin 8, if j ≤ t then g j else 0

theorem run_nonpos {g : Fin 8 → EReal} (hg : ∀ j, g j ≤ 0) (t : Fin 8) : run g t ≤ 0 :=
  Finset.sum_nonpos fun j _ => by
    split
    · exact hg j
    · exact le_refl _

theorem run_ne_top {g : Fin 8 → EReal} (hg : ∀ j, g j ≤ 0) (t : Fin 8) : run g t ≠ ⊤ := fun h => by
  have := run_nonpos hg t
  rw [h] at this
  exact absurd this (by simp)

/-- A later running sum less an earlier one is never the top. -/
theorem run_sub_ne_top {g : Fin 8 → EReal} (hg : ∀ j, g j ≤ 0) {s t : Fin 8} (hst : s ≤ t) : run g t - run g s ≠ ⊤ := by
  have hle : run g t ≤ run g s := Finset.sum_le_sum fun j _ => by
    by_cases h : j ≤ s
    · rw [if_pos h, if_pos (le_trans h hst)]
    · rw [if_neg h]
      split
      · exact hg j
      · exact le_refl _
  by_cases hb : run g t = ⊥
  · rw [hb, sub_eq_add_neg, EReal.bot_add]
    exact bot_ne_top
  · have hs : run g s ≠ ⊥ := fun h => hb (le_bot_iff.mp (h ▸ hle))
    obtain ⟨a, ha⟩ := (fin_iff _).mpr ⟨hb, run_ne_top hg t⟩
    obtain ⟨b, hb⟩ := (fin_iff _).mpr ⟨hs, run_ne_top hg s⟩
    rw [ha, hb, ← EReal.coe_sub]
    exact EReal.coe_ne_top _

end Cert.Delta

end
end
-- ==== Proof.DeltaRef.lean ====
module

public import proofs.«01_k».proof.Proof.Gen.DeltaSRefIdeal.Run
public import proofs.«01_k».proof.Proof.DeltaMath
public import Idealize.ShloMosaic.Lib.Pipeline.ValueKit

@[expose] public section

set_option maxRecDepth 16384

noncomputable section

open Cert.DeltaSRefIdeal Cert.DeltaSRefIdeal.Gen Idealize.ShloMosaic Idealize.ShloMosaic.TcCoe Idealize.SL.Sem Idealize.ShloMosaic.StableHlo Idealize.SL.Sem
open scoped BigOperators

namespace Cert.DeltaSRefIdeal.Hand

open Cert.DeltaSRefIdeal Cert.DeltaSRefIdeal.Gen Cert.DeltaSRefIdeal.Value
open Cert.Delta

/-- The arguments of the delta rule's call on the sample rows: the projected channels, the tail channels, the gate, the
    carried matrix state, the convolution's carried state, its taps, the decay's two parameters, and the norm's weights. -/
structure Args where
  q : FVec Ideal S32x8x1536 .f32
  tl : FVec Ideal S32x8x128 .f32
  gt : FVec Ideal S32x8x512 .bf16
  st : FVec Ideal S1x32x4x128x128 .f32
  cs : FVec Ideal S1x32x3x1536 .f32
  cw : FVec Ideal S1x4x1536 .f32
  al : FVec Ideal S1x4 .f32
  db : FVec Ideal S1x4 .f32
  nw : FVec Ideal S1x128 .f32

/-- The arguments as the arrays of one memory. -/
def argsOf (m : (ℓ : Loc nD τ sig) → Buf (Elt Ideal) ℓ) (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩

variable (A : Args)

/-- The convolution's input at a row counted from the carried rows. -/
def XX (n : Fin 32) (i : Fin 11) (x : Fin 1536) : EReal :=
  if h : i.val < 3 then A.cs (ix4 0 n ⟨i.val, h⟩ x) else A.q (ix3 n ⟨i.val - 3, by omega⟩ x)

/-- The causal four-tap convolution. -/
def YC (n : Fin 32) (t : Fin 8) (x : Fin 1536) : EReal :=
  XX A n ⟨0 + t.val, by omega⟩ x * A.cw (ix3 0 0 x) + XX A n ⟨1 + t.val, by omega⟩ x * A.cw (ix3 0 1 x)
    + XX A n ⟨2 + t.val, by omega⟩ x * A.cw (ix3 0 2 x) + XX A n ⟨3 + t.val, by omega⟩ x * A.cw (ix3 0 3 x)

/-- Its gated output. -/
def SI (n : Fin 32) (t : Fin 8) (x : Fin 1536) : EReal := YC A n t x * Ideal.div 1 (1 + Ideal.exp (-YC A n t x))

/-- A head's keys. -/
def KH (n : Fin 32) (h : Fin 4) (t : Fin 8) (d : Fin 128) : EReal := SI A n t ⟨512 + (h.val * 128 + d.val), by omega⟩

/-- A head's values. -/
def VH (n : Fin 32) (h : Fin 4) (t : Fin 8) (d : Fin 128) : EReal := SI A n t ⟨1024 + (h.val * 128 + d.val), by omega⟩

/-- The keys at unit length. -/
def KN (n : Fin 32) (h : Fin 4) (t : Fin 8) (d : Fin 128) : EReal :=
  KH A n h t d * Ideal.rsqrt ((∑ e, KH A n h t e * KH A n h t e) + Ideal.ofBits .f32 0x358637BD#32)

/-- The update's weight. -/
def BE (n : Fin 32) (h : Fin 4) (t : Fin 8) : EReal := Ideal.div 1 (1 + Ideal.exp (-A.tl (ix3 n t ⟨h.val, by omega⟩)))

/-- The decay's logarithm at one token. -/
def GG (n : Fin 32) (h : Fin 4) (t : Fin 8) : EReal :=
  (-(Ideal.exp (A.al (ix2 0 h)))) * (max (A.tl (ix3 n t ⟨4 + h.val, by omega⟩) + A.db (ix2 0 h)) 0
    + Ideal.log (1 + Ideal.exp (-(max (A.tl (ix3 n t ⟨4 + h.val, by omega⟩) + A.db (ix2 0 h))
        (-(A.tl (ix3 n t ⟨4 + h.val, by omega⟩) + A.db (ix2 0 h)))))))

/-- The decay's logarithm up to a token. -/
def GC (n : Fin 32) (h : Fin 4) (t : Fin 8) : EReal := Cert.Delta.run (GG A n h) t

/-- How a later token's key meets an earlier one's, weighted and decayed. -/
def MM (n : Fin 32) (h : Fin 4) (i j : Fin 8) : EReal :=
  if j < i then (∑ d, KN A n h i d * BE A n h i * KN A n h j d) * Ideal.exp (GC A n h i - GC A n h j) else 0

/-- The right-hand sides: the weighted values, then the weighted and decayed keys. -/
def RR (n : Fin 32) (h : Fin 4) (i : Fin 8) (x : Fin 256) : EReal :=
  if hx : x.val < 128 then VH A n h i ⟨x.val, hx⟩ * BE A n h i
  else KN A n h i ⟨x.val - 128, by omega⟩ * BE A n h i * Ideal.exp (GC A n h i)

variable (m : (ℓ : Loc nD τ sig) → Buf (Elt Ideal) ℓ) (c : Dev nD)

theorem v1_at (n : Fin 32) (i : Fin 11) (x : Fin 1536) : res_main_v1 (launchContents m c) (ix3 n i x) = XX (argsOf m c) n i x := by
  unfold XX
  pointwise [res_main_v1, argsOf, launchContents]

theorem v29_at (n : Fin 32) (t : Fin 8) (x : Fin 1536) : res_main_v29 (launchContents m c) (ix3 n t x) = YC (argsOf m c) n t x := by
  unfold YC
  pointwise [res_main_v29, res_main_v2, v1_at m c, argsOf]
  done

theorem v30_at (n : Fin 32) (t : Fin 8) (x : Fin 1536) : res_main_v30 (launchContents m c) (ix3 n t x) = SI (argsOf m c) n t x := by
  unfold SI
  pointwise [res_main_v30, v29_at m c]
  done

theorem v33_at (n : Fin 32) (h : Fin 4) (t : Fin 8) (d : Fin 128) : res_main_v33 (launchContents m c) (ix4 n h t d) = KH (argsOf m c) n h t d := by
  unfold KH
  pointwise [res_main_v33, v30_at m c]
  done

theorem v44_at (n : Fin 32) (h : Fin 4) (t : Fin 8) (d : Fin 128) : res_main_v44 (launchContents m c) (ix4 n h t d) = KN (argsOf m c) n h t d := by
  unfold KN
  pointwise [res_main_v44, v33_at m c]
  done

theorem v53_at (n : Fin 32) (h : Fin 4) (t : Fin 8) : res_main_v53 (launchContents m c) (ix4 n h t 0) = BE (argsOf m c) n h t := by
  unfold BE
  pointwise [res_main_v53, argsOf]
  done

/-- A left fold of sums is the sum. -/
theorem fold_sum {k : ℕ} (f : Fin k → EReal) : ∀ r : EReal, (List.finRange k).foldl (fun r w => r + f w) r = r + ∑ w, f w := by
  intro r
  rw [Fin.sum_univ_def]
  generalize List.finRange k = l
  induction l generalizing r with
  | nil => simp
  | cons a l ih => rw [List.foldl_cons, ih, List.map_cons, List.sum_cons, add_assoc]

/-- A running sum along the last axis, as the host takes it: at each place, everything up to it. -/
theorem cumsum_at (x : FVec Ideal S32x4x8 .f32) (init : FVec Ideal S_ .f32) (h0 : init (Shape.Idx.first h_S_) = (0 : EReal))
    (n : Fin 32) (h : Fin 4) (t : Fin 8) :
    Host.reduceWindowAdd ![1, 1, 8] ![1, 1, 1] ![0, 0, 7] ![0, 0, 0] x init reduceWindows_S32x4x8_S32x4x8_w1s1p0_0_w1s1p0_0_w8s1p7_0 h_S_ (ix3 n h t)
      = ∑ j : Fin 8, if j ≤ t then x (ix3 n h j) else (0 : EReal) := by
  show Host.reduceWindow (s := S32x4x8) (t := S32x4x8) (u := S_) (fun a b : EReal => a + b) ![1, 1, 8] ![1, 1, 1] ![0, 0, 7] ![0, 0, 0] x
    (fun _ => init (Shape.Idx.first h_S_)) reduceWindows_S32x4x8_S32x4x8_w1s1p0_0_w1s1p0_0_w8s1p7_0 h_S_ (ix3 n h t) = _
  rw [h0]
  unfold Host.reduceWindow
  dsimp only
  refine (fold_sum _ _).trans ((zero_add _).trans ?_)
  have hw : ∀ w : Fin (⟨3, ![1, 1, 8]⟩ : Shape).numel, ((⟨3, ![1, 1, 8]⟩ : Shape).rowMajor.symm w 0).val = 0
      ∧ ((⟨3, ![1, 1, 8]⟩ : Shape).rowMajor.symm w 1).val = 0 ∧ ((⟨3, ![1, 1, 8]⟩ : Shape).rowMajor.symm w 2).val = w.val := by
    decide +kernel
  refine (Finset.sum_congr (g := fun w : Fin (⟨3, ![1, 1, 8]⟩ : Shape).numel => if hh : 7 ≤ t.val + w.val ∧ t.val + w.val - 7 < 8 then
    x (ix3 n h ⟨t.val + w.val - 7, hh.2⟩) else (0 : EReal)) rfl fun w _ => ?_).trans ?_
  · obtain ⟨h0', h1', h2'⟩ := hw w
    by_cases hh : 7 ≤ t.val + w.val ∧ t.val + w.val - 7 < 8
    · rw [dif_pos hh, dif_pos]
      · refine congrArg x (funext fun a => Fin.ext ?_)
        match a with
        | ⟨0, _⟩ =>
          show n.val * 1 + ((⟨3, ![1, 1, 8]⟩ : Shape).rowMajor.symm w 0).val - 0 = n.val
          omega
        | ⟨1, _⟩ =>
          show h.val * 1 + ((⟨3, ![1, 1, 8]⟩ : Shape).rowMajor.symm w 1).val - 0 = h.val
          omega
        | ⟨2, _⟩ =>
          show t.val * 1 + ((⟨3, ![1, 1, 8]⟩ : Shape).rowMajor.symm w 2).val - 7 = t.val + w.val - 7
          omega
      · intro a
        match a with
        | ⟨0, _⟩ =>
          show 0 ≤ n.val * 1 + ((⟨3, ![1, 1, 8]⟩ : Shape).rowMajor.symm w 0).val
            ∧ n.val * 1 + ((⟨3, ![1, 1, 8]⟩ : Shape).rowMajor.symm w 0).val - 0 < 32
          omega
        | ⟨1, _⟩ =>
          show 0 ≤ h.val * 1 + ((⟨3, ![1, 1, 8]⟩ : Shape).rowMajor.symm w 1).val
            ∧ h.val * 1 + ((⟨3, ![1, 1, 8]⟩ : Shape).rowMajor.symm w 1).val - 0 < 4
          omega
        | ⟨2, _⟩ =>
          show 7 ≤ t.val * 1 + ((⟨3, ![1, 1, 8]⟩ : Shape).rowMajor.symm w 2).val
            ∧ t.val * 1 + ((⟨3, ![1, 1, 8]⟩ : Shape).rowMajor.symm w 2).val - 7 < 8
          omega
    · rw [dif_neg hh, dif_neg]
      intro hin
      have h2 := hin 2
      change 7 ≤ t.val * 1 + ((⟨3, ![1, 1, 8]⟩ : Shape).rowMajor.symm w 2).val
        ∧ t.val * 1 + ((⟨3, ![1, 1, 8]⟩ : Shape).rowMajor.symm w 2).val - 7 < 8 at h2
      omega
  · show (∑ w : Fin 8, if hh : 7 ≤ t.val + w.val ∧ t.val + w.val - 7 < 8 then x (ix3 n h ⟨t.val + w.val - 7, hh.2⟩) else (0 : EReal)) = _
    fin_cases t <;> simp [Fin.sum_univ_succ, Fin.le_def]

theorem v75_at (n : Fin 32) (h : Fin 4) (t : Fin 8) : res_main_v75 (launchContents m c) (ix3 n h t) = GC (argsOf m c) n h t := by
  refine (cumsum_at _ _ (by pointwise []) n h t).trans ?_
  unfold GC Cert.Delta.run GG
  pointwise [res_main_v58, argsOf]
  rfl

/-- The comparison of two token numbers as the host makes it. -/
theorem sgt_at : ∀ i j : Fin 8, IntOp.cmpi CmpIPredicate.sgt (BitVec.ofNat 32 i.val) (BitVec.ofNat 32 j.val) = if j < i then 1#1 else 0#1 := by
  decide +kernel

theorem v94_at (n : Fin 32) (h : Fin 4) (i j : Fin 8) : res_main_v94 (launchContents m c) (ix4 n h i j) = MM (argsOf m c) n h i j := by
  unfold MM
  pointwise [res_main_v94, res_main_v82, res_main_v91, v44_at m c, v53_at m c, v75_at m c]
  rw [sgt_at]
  have z : id (constant (F := Ideal) S_ FTy.f32 0#32) ix0 = (0 : EReal) := by
    show (constant (F := Ideal) S_ FTy.f32 0#32) ix0 = (0 : EReal)
    pointwise []
  by_cases hij : j < i
  · rw [if_pos hij, if_pos hij]
    rfl
  · rw [if_neg hij, if_neg hij]
    exact z

theorem v101_at (n : Fin 32) (h : Fin 4) (i : Fin 8) (x : Fin 256) : res_main_v101 (launchContents m c) (ix4 n h i x) = RR (argsOf m c) n h i x := by
  unfold RR VH
  pointwise [res_main_v101, res_main_v91, v30_at m c, v44_at m c, v53_at m c, v75_at m c]
  done

/-- The rows solved so far, at one channel. -/
def rows (n : Fin 32) (h : Fin 4) (x : Fin 256) (j : Fin 8) : EReal := res_main_v137 (launchContents m c) (ix4 n h j x)

theorem rows_0 (n : Fin 32) (h : Fin 4) (x : Fin 256) : rows m c n h x 0 = res_main_v102 (launchContents m c) (ix4 n h 0 x) := by
  unfold rows
  pointwise [res_main_v137]

theorem rows_1 (n : Fin 32) (h : Fin 4) (x : Fin 256) : rows m c n h x 1 = res_main_v106 (launchContents m c) (ix4 n h 0 x) := by
  unfold rows
  pointwise [res_main_v137]

theorem rows_2 (n : Fin 32) (h : Fin 4) (x : Fin 256) : rows m c n h x 2 = res_main_v111 (launchContents m c) (ix4 n h 0 x) := by
  unfold rows
  pointwise [res_main_v137]

theorem rows_3 (n : Fin 32) (h : Fin 4) (x : Fin 256) : rows m c n h x 3 = res_main_v116 (launchContents m c) (ix4 n h 0 x) := by
  unfold rows
  pointwise [res_main_v137]

theorem rows_4 (n : Fin 32) (h : Fin 4) (x : Fin 256) : rows m c n h x 4 = res_main_v121 (launchContents m c) (ix4 n h 0 x) := by
  unfold rows
  pointwise [res_main_v137]

theorem rows_5 (n : Fin 32) (h : Fin 4) (x : Fin 256) : rows m c n h x 5 = res_main_v126 (launchContents m c) (ix4 n h 0 x) := by
  unfold rows
  pointwise [res_main_v137]

theorem rows_6 (n : Fin 32) (h : Fin 4) (x : Fin 256) : rows m c n h x 6 = res_main_v131 (launchContents m c) (ix4 n h 0 x) := by
  unfold rows
  pointwise [res_main_v137]

theorem row_1 (n : Fin 32) (h : Fin 4) (x : Fin 256) : res_main_v106 (launchContents m c) (ix4 n h 0 x)
    = RR (argsOf m c) n h 1 x - ∑ j : Fin 1, MM (argsOf m c) n h 1 ⟨j.val, by omega⟩ * rows m c n h x ⟨j.val, by omega⟩ := by
  pointwise [res_main_v106, v94_at m c, v101_at m c]
  refine congrArg _ (Finset.sum_congr rfl fun j _ => congrArg _ ?_)
  rw [rows_0, Subsingleton.elim j 0]

theorem row_2 (n : Fin 32) (h : Fin 4) (x : Fin 256) : res_main_v111 (launchContents m c) (ix4 n h 0 x)
    = RR (argsOf m c) n h 2 x - ∑ j : Fin 2, MM (argsOf m c) n h 2 ⟨j.val, by omega⟩ * rows m c n h x ⟨j.val, by omega⟩ := by
  pointwise [res_main_v111, v94_at m c, v101_at m c]
  rw [Fin.sum_univ_two, ← rows_0 m c n h x, ← rows_1 m c n h x]
  simp

theorem row_3 (n : Fin 32) (h : Fin 4) (x : Fin 256) : res_main_v116 (launchContents m c) (ix4 n h 0 x)
    = RR (argsOf m c) n h 3 x - ∑ j : Fin 3, MM (argsOf m c) n h 3 ⟨j.val, by omega⟩ * rows m c n h x ⟨j.val, by omega⟩ := by
  pointwise [res_main_v116, v94_at m c, v101_at m c]
  refine congrArg _ (Finset.sum_congr rfl fun j _ => congrArg _ ?_)
  match j with
  | ⟨0, _⟩ => exact (rows_0 m c n h x).symm
  | ⟨1, _⟩ => exact (rows_1 m c n h x).symm
  | ⟨2, _⟩ => exact (rows_2 m c n h x).symm

theorem row_4 (n : Fin 32) (h : Fin 4) (x : Fin 256) : res_main_v121 (launchContents m c) (ix4 n h 0 x)
    = RR (argsOf m c) n h 4 x - ∑ j : Fin 4, MM (argsOf m c) n h 4 ⟨j.val, by omega⟩ * rows m c n h x ⟨j.val, by omega⟩ := by
  pointwise [res_main_v121, v94_at m c, v101_at m c]
  refine congrArg _ (Finset.sum_congr rfl fun j _ => congrArg _ ?_)
  match j with
  | ⟨0, _⟩ => exact (rows_0 m c n h x).symm
  | ⟨1, _⟩ => exact (rows_1 m c n h x).symm
  | ⟨2, _⟩ => exact (rows_2 m c n h x).symm
  | ⟨3, _⟩ => exact (rows_3 m c n h x).symm

theorem row_5 (n : Fin 32) (h : Fin 4) (x : Fin 256) : res_main_v126 (launchContents m c) (ix4 n h 0 x)
    = RR (argsOf m c) n h 5 x - ∑ j : Fin 5, MM (argsOf m c) n h 5 ⟨j.val, by omega⟩ * rows m c n h x ⟨j.val, by omega⟩ := by
  pointwise [res_main_v126, v94_at m c, v101_at m c]
  refine congrArg _ (Finset.sum_congr rfl fun j _ => congrArg _ ?_)
  match j with
  | ⟨0, _⟩ => exact (rows_0 m c n h x).symm
  | ⟨1, _⟩ => exact (rows_1 m c n h x).symm
  | ⟨2, _⟩ => exact (rows_2 m c n h x).symm
  | ⟨3, _⟩ => exact (rows_3 m c n h x).symm
  | ⟨4, _⟩ => exact (rows_4 m c n h x).symm

theorem row_6 (n : Fin 32) (h : Fin 4) (x : Fin 256) : res_main_v131 (launchContents m c) (ix4 n h 0 x)
    = RR (argsOf m c) n h 6 x - ∑ j : Fin 6, MM (argsOf m c) n h 6 ⟨j.val, by omega⟩ * rows m c n h x ⟨j.val, by omega⟩ := by
  pointwise [res_main_v131, v94_at m c, v101_at m c]
  refine congrArg _ (Finset.sum_congr rfl fun j _ => congrArg _ ?_)
  match j with
  | ⟨0, _⟩ => exact (rows_0 m c n h x).symm
  | ⟨1, _⟩ => exact (rows_1 m c n h x).symm
  | ⟨2, _⟩ => exact (rows_2 m c n h x).symm
  | ⟨3, _⟩ => exact (rows_3 m c n h x).symm
  | ⟨4, _⟩ => exact (rows_4 m c n h x).symm
  | ⟨5, _⟩ => exact (rows_5 m c n h x).symm

/-- The last row, as the host computes it. -/
def resLast {F : FTy → Type} [FloatOps F] (V0 : Valuation τ sig (Elt F)) : (⟨S32x4x1x256, .f32⟩ : BufTy).Contents (Elt F) :=
  ((subf (extractStridedSlice S32x4x1x256 ![0, 0, 7, 0] (res_main_v101 V0) slices_S32x4x8x256_S32x4x1x256_0_0_7_0) (Host.dotGeneral dot_S32x4x1x7_S32x4x7x256_S32x4x1x256_3_2_2_3_01_01 none (extractStridedSlice S32x4x1x7 ![0, 0, 7, 0] (res_main_v94 V0) slices_S32x4x8x8_S32x4x1x7_0_0_7_0) ((concatenate S32x4x7x256 2 [⟨S32x4x1x256, ((res_main_v102 V0) : (⟨S32x4x1x256, .f32⟩ : BufTy).Contents (Elt F))⟩, ⟨S32x4x1x256, ((res_main_v106 V0) : (⟨S32x4x1x256, .f32⟩ : BufTy).Contents (Elt F))⟩, ⟨S32x4x1x256, ((res_main_v111 V0) : (⟨S32x4x1x256, .f32⟩ : BufTy).Contents (Elt F))⟩, ⟨S32x4x1x256, ((res_main_v116 V0) : (⟨S32x4x1x256, .f32⟩ : BufTy).Contents (Elt F))⟩, ⟨S32x4x1x256, ((res_main_v121 V0) : (⟨S32x4x1x256, .f32⟩ : BufTy).Contents (Elt F))⟩, ⟨S32x4x1x256, ((res_main_v126 V0) : (⟨S32x4x1x256, .f32⟩ : BufTy).Contents (Elt F))⟩, ⟨S32x4x1x256, ((res_main_v131 V0) : (⟨S32x4x1x256, .f32⟩ : BufTy).Contents (Elt F))⟩] concatenates_S32x4x1x256_S32x4x1x256_S32x4x1x256_S32x4x1x256_S32x4x1x256_S32x4x1x256_S32x4x1x256_S32x4x7x256_d2 : (⟨S32x4x7x256, .f32⟩ : BufTy).Contents (Elt F))))) : (⟨S32x4x1x256, .f32⟩ : BufTy).Contents (Elt F))

/-- All the rows, with the last one named. -/
theorem v137_eq {F : FTy → Type} [FloatOps F] (V0 : Valuation τ sig (Elt F)) : res_main_v137 V0 =
  (concatenate S32x4x8x256 2 [⟨S32x4x1x256, ((res_main_v102 V0) : (⟨S32x4x1x256, .f32⟩ : BufTy).Contents (Elt F))⟩, ⟨S32x4x1x256, ((res_main_v106 V0) : (⟨S32x4x1x256, .f32⟩ : BufTy).Contents (Elt F))⟩, ⟨S32x4x1x256, ((res_main_v111 V0) : (⟨S32x4x1x256, .f32⟩ : BufTy).Contents (Elt F))⟩, ⟨S32x4x1x256, ((res_main_v116 V0) : (⟨S32x4x1x256, .f32⟩ : BufTy).Contents (Elt F))⟩, ⟨S32x4x1x256, ((res_main_v121 V0) : (⟨S32x4x1x256, .f32⟩ : BufTy).Contents (Elt F))⟩, ⟨S32x4x1x256, ((res_main_v126 V0) : (⟨S32x4x1x256, .f32⟩ : BufTy).Contents (Elt F))⟩, ⟨S32x4x1x256, ((res_main_v131 V0) : (⟨S32x4x1x256, .f32⟩ : BufTy).Contents (Elt F))⟩, ⟨S32x4x1x256, (resLast V0 : (⟨S32x4x1x256, .f32⟩ : BufTy).Contents (Elt F))⟩] concatenates_S32x4x1x256_S32x4x1x256_S32x4x1x256_S32x4x1x256_S32x4x1x256_S32x4x1x256_S32x4x1x256_S32x4x1x256_S32x4x8x256_d2 : (⟨S32x4x8x256, .f32⟩ : BufTy).Contents (Elt F)) := rfl

theorem rows_7 (n : Fin 32) (h : Fin 4) (x : Fin 256) : rows m c n h x 7 = resLast (launchContents m c) (ix4 n h 0 x) := by
  unfold rows
  rw [v137_eq]
  pointwise []

theorem row_7 (n : Fin 32) (h : Fin 4) (x : Fin 256) : resLast (launchContents m c) (ix4 n h 0 x)
    = RR (argsOf m c) n h 7 x - ∑ j : Fin 7, MM (argsOf m c) n h 7 ⟨j.val, by omega⟩ * rows m c n h x ⟨j.val, by omega⟩ := by
  pointwise [resLast, v94_at m c, v101_at m c]
  refine congrArg _ (Finset.sum_congr rfl fun j _ => congrArg _ ?_)
  match j with
  | ⟨0, _⟩ => exact (rows_0 m c n h x).symm
  | ⟨1, _⟩ => exact (rows_1 m c n h x).symm
  | ⟨2, _⟩ => exact (rows_2 m c n h x).symm
  | ⟨3, _⟩ => exact (rows_3 m c n h x).symm
  | ⟨4, _⟩ => exact (rows_4 m c n h x).symm
  | ⟨5, _⟩ => exact (rows_5 m c n h x).symm
  | ⟨6, _⟩ => exact (rows_6 m c n h x).symm

theorem row_0 (n : Fin 32) (h : Fin 4) (x : Fin 256) : res_main_v102 (launchContents m c) (ix4 n h 0 x)
    = RR (argsOf m c) n h 0 x - ∑ j : Fin 0, MM (argsOf m c) n h 0 ⟨j.val, by omega⟩ * rows m c n h x ⟨j.val, by omega⟩ := by
  rw [Fin.sum_univ_zero, sub_zero]
  pointwise [res_main_v102, v101_at m c]

/-- Each row is its right-hand side less the rows before it, weighted. -/
theorem rows_step (n : Fin 32) (h : Fin 4) (x : Fin 256) (i : Fin 8) : rows m c n h x i
    = RR (argsOf m c) n h i x - ∑ j : Fin i.val, MM (argsOf m c) n h i ⟨j.val, by omega⟩ * rows m c n h x ⟨j.val, by omega⟩ := by
  match i with
  | ⟨0, _⟩ => exact (rows_0 m c n h x).trans (row_0 m c n h x)
  | ⟨1, _⟩ => exact (rows_1 m c n h x).trans (row_1 m c n h x)
  | ⟨2, _⟩ => exact (rows_2 m c n h x).trans (row_2 m c n h x)
  | ⟨3, _⟩ => exact (rows_3 m c n h x).trans (row_3 m c n h x)
  | ⟨4, _⟩ => exact (rows_4 m c n h x).trans (row_4 m c n h x)
  | ⟨5, _⟩ => exact (rows_5 m c n h x).trans (row_5 m c n h x)
  | ⟨6, _⟩ => exact (rows_6 m c n h x).trans (row_6 m c n h x)
  | ⟨7, _⟩ => exact (rows_7 m c n h x).trans (row_7 m c n h x)

/-- The weights are real. -/
theorem KN_fin (n : Fin 32) (h : Fin 4) (t : Fin 8) (d : Fin 128) : Fin' (KN A n h t d) := by
  have hr : ∃ r : ℝ, Ideal.ofBits .f32 0x358637BD#32 = (r : EReal) ∧ 0 < r := by
    refine ⟨_, by simp [Ideal.ofBits, Ideal.ieee, -EReal.coe_mul]; rfl, by norm_num⟩
  obtain ⟨r, h1, h2⟩ := hr
  exact norm_fin (KH A n h t) h1 h2 d

theorem BE_fin (n : Fin 32) (h : Fin 4) (t : Fin 8) : Fin' (BE A n h t) := sig_fin _

theorem GG_nonpos (n : Fin 32) (h : Fin 4) (t : Fin 8) : GG A n h t ≤ 0 := gate_nonpos _ _

theorem GC_ne_top (n : Fin 32) (h : Fin 4) (t : Fin 8) : GC A n h t ≠ ⊤ := run_ne_top (GG_nonpos A n h) t

theorem GC_sub_ne_top (n : Fin 32) (h : Fin 4) {s t : Fin 8} (hst : s ≤ t) : GC A n h t - GC A n h s ≠ ⊤ :=
  run_sub_ne_top (GG_nonpos A n h) hst

theorem MM_fin (n : Fin 32) (h : Fin 4) (i j : Fin 8) : Fin' (MM A n h i j) := by
  unfold MM
  split
  · next hij =>
    exact (Fin'.sum _ fun d => ((KN_fin A n h i d).mul (BE_fin A n h i)).mul (KN_fin A n h j d)).mul
      (exp_fin (GC_sub_ne_top A n h hij.le))
  · exact ⟨0, rfl⟩

/-- The values are real: what the claim asks of the arguments. -/
def RealV : Prop := ∀ n h t d, Fin' (VH A n h t d)

theorem RR_fin (hA : RealV A) (n : Fin 32) (h : Fin 4) (i : Fin 8) (x : Fin 256) : Fin' (RR A n h i x) := by
  unfold RR
  split
  · exact (hA n h i _).mul (BE_fin A n h i)
  · exact ((KN_fin A n h i _).mul (BE_fin A n h i)).mul (exp_fin (GC_ne_top A n h i))

/-- The weights as a real matrix. -/
def MR (n : Fin 32) (h : Fin 4) : Mat := fun i j => (MM A n h i j).toReal

/-- The right-hand sides as a real matrix. -/
def RRr (n : Fin 32) (h : Fin 4) : Rhs := fun i x => (RR A n h i x).toReal

/-- A real is its own reading. -/
theorem fin_coe {x : EReal} (h : Fin' x) : x = (x.toReal : EReal) := by
  obtain ⟨r, rfl⟩ := h
  rw [EReal.toReal_coe]

theorem MR_strict (n : Fin 32) (h : Fin 4) : Strict (MR A n h) := fun i j hij => by
  unfold MR MM
  rw [if_neg (not_lt.mpr hij), EReal.toReal_zero]

theorem MM_coe (n : Fin 32) (h : Fin 4) (i j : Fin 8) : MM A n h i j = (MR A n h i j : EReal) := fin_coe (MM_fin A n h i j)

theorem RR_coe (hA : RealV A) (n : Fin 32) (h : Fin 4) (i : Fin 8) (x : Fin 256) : RR A n h i x = (RRr A n h i x : EReal) :=
  fin_coe (RR_fin A hA n h i x)

/-- The solved rows. -/
def UU (n : Fin 32) (h : Fin 4) : Rhs := sol (MR A n h) (RRr A n h)

/-- The state after the tokens. -/
def ST (n : Fin 32) (h : Fin 4) (k v : Fin 128) : EReal :=
  A.st (ix5 0 n h k v) * Ideal.exp (GC A n h 7)
    + ∑ c : Fin 8, KN A n h c k * Ideal.exp (GC A n h 7 - GC A n h c)
        * ((UU A n h c ⟨v.val, by omega⟩ : EReal) - ∑ e : Fin 128, (UU A n h c ⟨128 + e.val, by omega⟩ : EReal) * A.st (ix5 0 n h e v))

theorem v137_at (hA : RealV (argsOf m c)) (n : Fin 32) (h : Fin 4) (i : Fin 8) (x : Fin 256) :
    res_main_v137 (launchContents m c) (ix4 n h i x) = (UU (argsOf m c) n h i x : EReal) :=
  forward (MR_strict _ n h) (RRr _ n h) (MM_coe _ n h) (RR_coe _ hA n h) (u := fun i x => rows m c n h x i)
    (fun i x => rows_step m c n h x i) i x

/-- The reference's result, in one term. -/
def resultOf {F : FTy → Type} [FloatOps F] (V0 : Valuation τ sig (Elt F)) : (Proc.devRef .tc main_v155 : DevRef τ sig).ty.Contents (Elt F) :=
  addf (mulf (res_main_v138 V0) (broadcastInDim S32x4x128x128 ![0, 1, 2, 3] bcast_S32x4x1x1_S32x4x128x128_0_1_2_3 (broadcastInDim S32x4x1x1 ![0, 1, 2] bcast_S32x4x1_S32x4x1x1_0_1_2 (Host.exp (res_main_v143 V0))))) (Host.dotGeneral dot_S32x4x8x128_S32x4x8x128_S32x4x128x128_2_2_3_3_01_01 none (mulf (res_main_v44 V0) (broadcastInDim S32x4x8x128 ![0, 1, 2, 3] bcast_S32x4x8x1_S32x4x8x128_0_1_2_3 (broadcastInDim S32x4x8x1 ![0, 1, 2] bcast_S32x4x8_S32x4x8x1_0_1_2 (Host.exp (subf (broadcastInDim S32x4x8 ![0, 1, 2] bcast_S32x4x1_S32x4x8_0_1_2 (res_main_v143 V0)) (res_main_v75 V0)))))) (subf (extractStridedSlice S32x4x8x128 ![0, 0, 0, 0] (res_main_v137 V0) slices_S32x4x8x256_S32x4x8x128_0_0_0_0) (Host.dotGeneral dot_S32x4x8x128_S32x4x128x128_S32x4x8x128_3_2_2_3_01_01 none (extractStridedSlice S32x4x8x128 ![0, 0, 0, 128] (res_main_v137 V0) slices_S32x4x8x256_S32x4x8x128_0_0_0_128) (res_main_v138 V0))))

/-- It at the arguments. -/
def result : FVec Ideal S32x4x128x128 .f32 := resultOf (launchContents m c)

theorem result_at (hA : RealV (argsOf m c)) (n : Fin 32) (h : Fin 4) (k v : Fin 128) :
    result m c (ix4 n h k v) = ST (argsOf m c) n h k v := by
  unfold ST
  pointwise [result, resultOf, res_main_v138, res_main_v143, v44_at m c, v75_at m c, v137_at m c hA, argsOf]

end Cert.DeltaSRefIdeal.Hand

end
end
-- ==== Proof.DeltaPay.lean ====
module

public import proofs.«01_k».proof.Proof.DeltaRef
public import proofs.«01_k».proof.Proof.Gen.DeltaSIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.DeltaSIdeal.Hand

open Cert.DeltaSIdeal Cert.DeltaSIdeal.Gen
open Cert.DeltaSRefIdeal.Hand
open Cert.Delta

/-! ## The body's operations for one sequence and head, in stages -/

/-- The row and the column of an entry of a matrix over the tokens. -/
abbrev i0 : IVec S8x8 32 := iota .tc S8x8 32 [0] iota_S8x8_d0_w32
abbrev i1 : IVec S8x8 32 := iota .tc S8x8 32 [1] iota_S8x8_d1_w32

/-- Where the column's token is not after the row's. -/
def mge : IVec S8x8 1 := k0_pay11 i0 i1 k0_pay7 8#32 k0_pay8 k0_pay9 0#32

/-- Where the column's token is before the row's. -/
def mgt : IVec S8x8 1 := k0_pay12 i0 i1 k0_pay7 8#32 k0_pay8 k0_pay9 0#32

/-- One on the diagonal. -/
def eye : FVec Ideal S8x8 .f32 := k0_pay13 (F := Ideal) i0 i1

/-- Ones up to a row's token, and below them ones throughout. -/
def tri : FVec Ideal S16x8 .f32 := k0_pay14 (F := Ideal) i0 i1 k0_pay7 8#32 k0_pay8 k0_pay9 0#32

/-- A zero at every place. -/
abbrev z88 : FVec Ideal S8x8 .f32 := broadcast S8x8 (Scalar.ofBits .f32 0x00000000#32 : Ideal .f32)

/-- The four-tap convolution of one group of channels over the carried rows and the sequence's. -/
def conv (tp : FVec Ideal S4x128 .f32) (cur prev : Vec Ideal S1x8x128 .f32) : FVec Ideal S8x128 .f32 :=
  addf (addf (addf
    (mulf (shapeCast S8x128 cur shapeCasts_S1x8x128_S8x128)
      (broadcastTo S8x128 (extractStridedSlice S1x128 ![3, 0] tp slices_S4x128_o3_0_S1x128) broadcasts_S1x128_S8x128))
    (mulf (extractStridedSlice S8x128 ![8, 0] (dynamicRotate 0 1#32 none (concatenate S16x128 0 [⟨S8x128, shapeCast S8x128 prev shapeCasts_S1x8x128_S8x128⟩, ⟨S8x128, shapeCast S8x128 cur shapeCasts_S1x8x128_S8x128⟩] concatenates_S8x128_S8x128_S16x128_d0) rotates_S16x128_d0) slices_S16x128_o8_0_S8x128)
      (broadcastTo S8x128 (extractStridedSlice S1x128 ![2, 0] tp slices_S4x128_o2_0_S1x128) broadcasts_S1x128_S8x128)))
    (mulf (extractStridedSlice S8x128 ![8, 0] (dynamicRotate 0 2#32 none (concatenate S16x128 0 [⟨S8x128, shapeCast S8x128 prev shapeCasts_S1x8x128_S8x128⟩, ⟨S8x128, shapeCast S8x128 cur shapeCasts_S1x8x128_S8x128⟩] concatenates_S8x128_S8x128_S16x128_d0) rotates_S16x128_d0) slices_S16x128_o8_0_S8x128)
      (broadcastTo S8x128 (extractStridedSlice S1x128 ![1, 0] tp slices_S4x128_o1_0_S1x128) broadcasts_S1x128_S8x128)))
    (mulf (extractStridedSlice S8x128 ![8, 0] (dynamicRotate 0 3#32 none (concatenate S16x128 0 [⟨S8x128, shapeCast S8x128 prev shapeCasts_S1x8x128_S8x128⟩, ⟨S8x128, shapeCast S8x128 cur shapeCasts_S1x8x128_S8x128⟩] concatenates_S8x128_S8x128_S16x128_d0) rotates_S16x128_d0) slices_S16x128_o8_0_S8x128)
      (broadcastTo S8x128 (extractStridedSlice S1x128 ![0, 0] tp slices_S4x128_o0_0_S1x128) broadcasts_S1x128_S8x128))

/-- The gate after the convolution. -/
def silu (y : FVec Ideal S8x128 .f32) : FVec Ideal S8x128 .f32 :=
  mulf y (divf (broadcast S8x128 (Scalar.ofBits .f32 0x3F800000#32 : Ideal .f32)) (addf (broadcast S8x128 (Scalar.ofBits .f32 0x3F800000#32 : Ideal .f32))
    (exp (subf (broadcast S8x128 (Scalar.ofBits .f32 0x00000000#32 : Ideal .f32)) y))))

/-- Keys at unit length. -/
def unit (k : FVec Ideal S8x128 .f32) : FVec Ideal S8x128 .f32 :=
  mulf k (broadcastTo S8x128 (rsqrt (addf (shapeCast S8x1 (multiReduction .add [1] S8 (mulf k k) 0x00000000#32 reduces_S8x128_S8 (.inl rfl) rfl) shapeCasts_S8_S8x1)
    (broadcast S8x1 (Scalar.ofBits .f32 0x358637BD#32 : Ideal .f32)))) broadcasts_S8x1_S8x128)

/-- Rows weighted each by its own number. -/
def weigh (k : FVec Ideal S8x128 .f32) (b : FVec Ideal S8x1 .f32) : FVec Ideal S8x128 .f32 :=
  mulf k (broadcastTo S8x128 b broadcasts_S8x1_S8x128)

/-- A sum over the tokens by the triangle, its three parts apart. -/
def sums (g : FVec Ideal S8x128 .f32) : FVec Ideal S16x128 .f32 :=
  let w := truncf .bf16 tri bitsLt_bf16_f32
  let hi := truncf .bf16 g bitsLt_bf16_f32
  let d := subf g (extf .f32 hi bitsLt_bf16_f32)
  let mid := truncf .bf16 d bitsLt_bf16_f32
  let lo := truncf .bf16 (subf d (extf .f32 mid bitsLt_bf16_f32)) bitsLt_bf16_f32
  addf (matmul dot_S16x8_S8x128_S16x128_1_0_0_1_n_n none w hi (constant S16x128 .f32 0x00000000#32))
    (addf (matmul dot_S16x8_S8x128_S16x128_1_0_0_1_n_n none w mid (constant S16x128 .f32 0x00000000#32))
      (matmul dot_S16x8_S8x128_S16x128_1_0_0_1_n_n none w lo (constant S16x128 .f32 0x00000000#32)))

/-- A transposition by the diagonal of ones, the three parts apart. -/
def flip (g : FVec Ideal S8x128 .f32) : FVec Ideal S128x8 .f32 :=
  let hi := truncf .bf16 g bitsLt_bf16_f32
  let d := subf g (extf .f32 hi bitsLt_bf16_f32)
  let mid := truncf .bf16 d bitsLt_bf16_f32
  let lo := truncf .bf16 (subf d (extf .f32 mid bitsLt_bf16_f32)) bitsLt_bf16_f32
  addf (matmul dot_S128x128_S8x128_S128x8_1_1_0_0_n_n none (k0_pay21 (F := Ideal)) hi (constant S128x8 .f32 0x00000000#32))
    (addf (matmul dot_S128x128_S8x128_S128x8_1_1_0_0_n_n none (k0_pay21 (F := Ideal)) mid (constant S128x8 .f32 0x00000000#32))
      (matmul dot_S128x128_S8x128_S128x8_1_1_0_0_n_n none (k0_pay21 (F := Ideal)) lo (constant S128x8 .f32 0x00000000#32)))

/-- The decay's logarithm at each token and channel. -/
def gate (gp tl : FVec Ideal S8x128 .f32) : FVec Ideal S8x128 .f32 :=
  let x := addf tl (broadcastTo S8x128 (extractStridedSlice S1x128 ![1, 0] gp slices_S8x128_o1_0_S1x128) broadcasts_S1x128_S8x128)
  mulf (broadcastTo S8x128 (subf (broadcast S1x128 (Scalar.ofBits .f32 0x00000000#32 : Ideal .f32)) (exp (extractStridedSlice S1x128 ![0, 0] gp slices_S8x128_o0_0_S1x128))) broadcasts_S1x128_S8x128)
    (addf (maximumf x (broadcast S8x128 (Scalar.ofBits .f32 0x00000000#32 : Ideal .f32)))
      (log (addf (broadcast S8x128 (Scalar.ofBits .f32 0x3F800000#32 : Ideal .f32)) (exp (subf (broadcast S8x128 (Scalar.ofBits .f32 0x00000000#32 : Ideal .f32)) (absf x))))))

/-- How a later token's key meets an earlier one's. -/
def mat (kb k : FVec Ideal S8x128 .f32) (c : FVec Ideal S8x1 .f32) (r : FVec Ideal S1x8 .f32) : FVec Ideal S8x8 .f32 :=
  select mgt (mulf (matmul dot_S8x128_S8x128_S8x8_1_1_0_0_n_n none (truncf .bf16 kb bitsLt_bf16_f32) (truncf .bf16 k bitsLt_bf16_f32) (constant S8x8 .f32 0x00000000#32))
    (exp (select mge (subf (broadcastTo S8x8 c broadcasts_S8x1_S8x8) (broadcastTo S8x8 (shapeCast S1x8 r shapeCasts_S1x8_S1x8) broadcasts_S1x8_S8x8)) z88))) z88

/-- The right-hand sides. -/
def rhs (v kb : FVec Ideal S8x128 .f32) (b c : FVec Ideal S8x1 .f32) : FVec Ideal S8x256 .f32 :=
  concatenate S8x256 1 [⟨S8x128, weigh v b⟩, ⟨S8x128, weigh kb (exp c)⟩] concatenates_S8x128_S8x128_S8x256_d1

/-- A product of two matrices over the tokens. -/
def mm (a b : FVec Ideal S8x8 .f32) : FVec Ideal S8x8 .f32 :=
  matmul dot_S8x8_S8x8_S8x8_1_0_0_1_n_n none (truncf .bf16 a bitsLt_bf16_f32) (truncf .bf16 b bitsLt_bf16_f32) (constant S8x8 .f32 0x00000000#32)

/-- A matrix over the tokens times right-hand sides. -/
def mr (a : FVec Ideal S8x8 .f32) (b : FVec Ideal S8x256 .f32) : FVec Ideal S8x256 .f32 :=
  matmul dot_S8x8_S8x256_S8x256_1_0_0_1_n_n none (truncf .bf16 a bitsLt_bf16_f32) (truncf .bf16 b bitsLt_bf16_f32) (constant S8x256 .f32 0x00000000#32)

/-- The first three factors of the inverse. -/
def half (M : FVec Ideal S8x8 .f32) : FVec Ideal S8x8 .f32 := addf (subf eye M) (mm (subf eye M) (mm M M))

/-- The inverse. -/
def whole (M : FVec Ideal S8x8 .f32) : FVec Ideal S8x8 .f32 := addf (half M) (mm (half M) (mm (mm M M) (mm M M)))

/-- What a solution leaves of the right-hand sides, the product in three parts. -/
def left (M : FVec Ideal S8x8 .f32) (R U : FVec Ideal S8x256 .f32) : FVec Ideal S8x256 .f32 :=
  let mh := truncf .bf16 M bitsLt_bf16_f32
  let ml := truncf .bf16 (subf M (extf .f32 mh bitsLt_bf16_f32)) bitsLt_bf16_f32
  let uh := truncf .bf16 U bitsLt_bf16_f32
  let ul := truncf .bf16 (subf U (extf .f32 uh bitsLt_bf16_f32)) bitsLt_bf16_f32
  subf (subf R U) (addf (matmul dot_S8x8_S8x256_S8x256_1_0_0_1_n_n none mh uh (constant S8x256 .f32 0x00000000#32))
    (addf (matmul dot_S8x8_S8x256_S8x256_1_0_0_1_n_n none mh ul (constant S8x256 .f32 0x00000000#32))
      (matmul dot_S8x8_S8x256_S8x256_1_0_0_1_n_n none ml uh (constant S8x256 .f32 0x00000000#32))))

/-- The solved rows, once refined. -/
def solved (M : FVec Ideal S8x8 .f32) (R : FVec Ideal S8x256 .f32) : FVec Ideal S8x256 .f32 :=
  addf (mr (whole M) R) (mr (whole M) (left M R (mr (whole M) R)))

/-- The state after the tokens. -/
def upd (k : FVec Ideal S8x128 .f32) (c l : FVec Ideal S8x1 .f32) (uw : FVec Ideal S8x256 .f32) (s : FVec Ideal S128x128 .f32) : FVec Ideal S128x128 .f32 :=
  addf (mulf s (broadcastTo S128x128 (extractStridedSlice S1x1 ![0, 0] (exp l) slices_S8x1_o0_0_S1x1) broadcasts_S1x1_S128x128))
    (matmul dot_S8x128_S8x128_S128x128_0_0_1_1_n_n none (truncf .bf16 (weigh k (exp (subf l c))) bitsLt_bf16_f32)
      (truncf .bf16 (subf (extractStridedSlice S8x128 ![0, 0] uw slices_S8x256_o0_0_S8x128)
        (matmul dot_S8x128_S128x128_S8x128_1_0_0_1_n_n none (truncf .bf16 (extractStridedSlice S8x128 ![0, 128] uw slices_S8x256_o0_128_S8x128) bitsLt_bf16_f32) (truncf .bf16 s bitsLt_bf16_f32) (constant S8x128 .f32 0x00000000#32))) bitsLt_bf16_f32)
      (constant S128x128 .f32 0x00000000#32))

/-- One sequence and head from its keys, values and their parameters. -/
def chain (k v : FVec Ideal S8x128 .f32) (b c l : FVec Ideal S8x1 .f32) (r : FVec Ideal S1x8 .f32) (s : FVec Ideal S128x128 .f32) : FVec Ideal S128x128 .f32 :=
  upd (unit k) c l (solved (mat (weigh (unit k) b) (unit k) c r) (rhs v (weigh (unit k) b) b c)) s

/-- The cuts of a head's channels and columns lie inside. -/
theorem cut_k (h : Fin 4) : S4x1536.Slices ![0, 512 + 128 * h.val] S4x128 := by revert h; decide

theorem cut_v (h : Fin 4) : S4x1536.Slices ![0, 1024 + 128 * h.val] S4x128 := by revert h; decide

theorem cut_b (h : Fin 4) : S8x128.Slices ![0, h.val] S8x1 := by revert h; decide

theorem cut_c (h : Fin 4) : S8x128.Slices ![0, 4 + h.val] S8x1 := by revert h; decide

theorem cut_r (h : Fin 4) : S128x8.Slices ![4 + h.val, 0] S1x8 := by revert h; decide

/-- One sequence's head from what is loaded for it. -/
def piece (h : Fin 4) (cw : Vec Ideal S4x1536 .f32) (gp : Vec Ideal S8x128 .f32) (tl kc kp vc vp : Vec Ideal S1x8x128 .f32)
    (s : Vec Ideal S1x1x128x128 .f32) : Vec Ideal S1x1x128x128 .f32 :=
  let t4 : FVec Ideal S4x1536 .f32 := shapeCast S4x1536 cw shapeCasts_S4x1536_S4x1536
  let tl8 : FVec Ideal S8x128 .f32 := shapeCast S8x128 tl shapeCasts_S1x8x128_S8x128
  let g16 := sums (gate (shapeCast S8x128 gp shapeCasts_S8x128_S8x128) tl8)
  let gc : FVec Ideal S8x128 .f32 := extractStridedSlice S8x128 ![0, 0] g16 slices_S16x128_o0_0_S8x128
  let gl : FVec Ideal S8x128 .f32 := extractStridedSlice S8x128 ![8, 0] g16 slices_S16x128_o8_0_S8x128
  shapeCast S1x1x128x128 (chain
    (silu (conv (extractStridedSlice S4x128 ![0, 512 + 128 * h.val] t4 (cut_k h)) kc kp))
    (silu (conv (extractStridedSlice S4x128 ![0, 1024 + 128 * h.val] t4 (cut_v h)) vc vp))
    (extractStridedSlice S8x1 ![0, h.val] (k0_pay16 tl) (cut_b h))
    (extractStridedSlice S8x1 ![0, 4 + h.val] gc (cut_c h))
    (extractStridedSlice S8x1 ![0, 4 + h.val] gl (cut_c h))
    (extractStridedSlice S1x8 ![4 + h.val, 0] (flip gc) (cut_r h))
    (shapeCast S128x128 s shapeCasts_S1x1x128x128_S128x128)) shapeCasts_S128x128_S1x1x128x128

/-! ## What each stage gives, entry by entry -/

theorem mge_at (i j : Fin 8) : mge (ix2 i j) = if j ≤ i then 1#1 else 0#1 := by
  revert i j
  decide +kernel

theorem mgt_at (i j : Fin 8) : mgt (ix2 i j) = if j < i then 1#1 else 0#1 := by
  revert i j
  decide +kernel

theorem eye_at (i j : Fin 8) : eye (ix2 i j) = (((1 : Mat) i j : ℝ) : EReal) := by
  pointwise [eye, k0_pay13]
  revert i j
  have key : ∀ i j : Fin 8, IntOp.cmpi CmpIPredicate.eq (BitVec.ofNat 32 i.val) (BitVec.ofNat 32 j.val) = if i = j then 1#1 else 0#1 := by decide +kernel
  intro i j
  rw [key, Matrix.one_apply]
  by_cases h : i = j
  · rw [if_pos h, if_pos h]
    rfl
  · rw [if_neg h, if_neg h]
    rfl

theorem tri_lo (t j : Fin 8) : tri (ix2 ⟨t.val, by omega⟩ j) = if j ≤ t then (1 : EReal) else 0 := by
  pointwise [tri, k0_pay14]
  refine (congrArg (fun b => Scalar.select b (1 : EReal) 0) (mge_at t j)).trans ?_
  by_cases h : j ≤ t
  · rw [if_pos h, if_pos h]
    rfl
  · rw [if_neg h, if_neg h]
    rfl

theorem tri_hi (t j : Fin 8) : tri (ix2 ⟨8 + t.val, by omega⟩ j) = (1 : EReal) := by
  pointwise [tri, k0_pay14]
  have key : ∀ t j : Fin 8, k0_pay10 i1 k0_pay7 8#32 k0_pay8 k0_pay9 0#32 (ix2 t j) = 1#1 := by decide +kernel
  exact congrArg (fun b => Scalar.select b (1 : EReal) 0) (key t j)

theorem id_at (l k : Fin 128) : k0_pay21 (F := Ideal) (ix2 l k) = if l = k then (1 : EReal) else 0 := by
  pointwise [k0_pay21]
  have key : IntOp.cmpi CmpIPredicate.eq (BitVec.ofNat 32 l.val) (BitVec.ofNat 32 k.val) = if l = k then 1#1 else 0#1 := by
    by_cases h : l = k
    · rw [if_pos h, h]
      simp [IntOp.cmpi]
    · rw [if_neg h]
      have hb : BitVec.ofNat 32 l.val ≠ BitVec.ofNat 32 k.val := fun e => h (Fin.ext (by
        have := congrArg BitVec.toNat e
        simp only [BitVec.toNat_ofNat] at this
        omega))
      show BitVec.ofBool (BitVec.ofNat 32 l.val == BitVec.ofNat 32 k.val) = 0#1
      rw [beq_eq_false_iff_ne.mpr hb]
      rfl
  rw [key]
  by_cases h : l = k
  · rw [if_pos h, if_pos h]
    rfl
  · rw [if_neg h, if_neg h]
    rfl

/-- A row of the turned rows: of the carried rows where the turn reaches them, of the sequence's own otherwise. -/
theorem row_at (X : Fin 11 → EReal) (p c : Fin 8 → EReal) (hc : ∀ t : Fin 8, c t = X ⟨3 + t.val, by omega⟩)
    (hp : ∀ r : Fin 3, p ⟨5 + r.val, by omega⟩ = X ⟨r.val, by omega⟩) (t : Fin 8) (s : ℕ) (hs : 1 ≤ s ∧ s ≤ 3)
    (b : ¬ (8 + t.val + 16 - s) % 16 < 8 → (8 + t.val + 16 - s) % 16 - 8 < 8) :
    (if h : (8 + t.val + 16 - s) % 16 < 8 then p ⟨(8 + t.val + 16 - s) % 16, h⟩ else c ⟨(8 + t.val + 16 - s) % 16 - 8, b h⟩)
      = X ⟨3 - s + t.val, by omega⟩ := by
  split
  · rename_i h
    refine Eq.trans ?_ (hp ⟨3 - s + t.val, by omega⟩)
    exact congrArg p (Fin.ext (by show (8 + t.val + 16 - s) % 16 = 5 + (3 - s + t.val); omega))
  · rename_i h
    refine (hc _).trans (congrArg X (Fin.ext ?_))
    show 3 + ((8 + t.val + 16 - s) % 16 - 8) = 3 - s + t.val
    omega

theorem add4 (a b c d : EReal) : d + c + b + a = a + b + c + d := by ac_rfl

theorem conv_at (tp : FVec Ideal S4x128 .f32) (cur prev : Vec Ideal S1x8x128 .f32) (d : Fin 128) (X : Fin 11 → EReal)
    (hc : ∀ t : Fin 8, cur (ix3 0 t d) = X ⟨3 + t.val, by omega⟩) (hp : ∀ r : Fin 3, prev (ix3 0 ⟨5 + r.val, by omega⟩ d) = X ⟨r.val, by omega⟩)
    (t : Fin 8) : conv tp cur prev (ix2 t d) = X ⟨0 + t.val, by omega⟩ * tp (ix2 0 d) + X ⟨1 + t.val, by omega⟩ * tp (ix2 1 d)
      + X ⟨2 + t.val, by omega⟩ * tp (ix2 2 d) + X ⟨3 + t.val, by omega⟩ * tp (ix2 3 d) := by
  pointwise [conv]
  have r1 := row_at X (fun r => prev (ix3 0 r d)) (fun r => cur (ix3 0 r d)) hc hp t 1 (by omega) (by omega)
  have r2 := row_at X (fun r => prev (ix3 0 r d)) (fun r => cur (ix3 0 r d)) hc hp t 2 (by omega) (by omega)
  have r3 := row_at X (fun r => prev (ix3 0 r d)) (fun r => cur (ix3 0 r d)) hc hp t 3 (by omega) (by omega)
  refine (congrArg₂ (· + ·) (congrArg₂ (· + ·) (congrArg₂ (· + ·) (congrArg (· * _) (hc t)) (congrArg (· * _) r1)) (congrArg (· * _) r2)) (congrArg (· * _) r3)).trans ?_
  show X _ * _ + X ⟨2 + t.val, _⟩ * _ + X ⟨1 + t.val, _⟩ * _ + X ⟨0 + t.val, _⟩ * _ = _
  have z : (⟨0 + t.val, by omega⟩ : Fin 11) = ⟨t.val, by omega⟩ := Fin.ext (Nat.zero_add _)
  refine (add4 _ _ _ _).trans ?_
  rw [z]

theorem silu_at (y : FVec Ideal S8x128 .f32) (t : Fin 8) (d : Fin 128) :
    silu y (ix2 t d) = y (ix2 t d) * Ideal.div 1 (1 + Ideal.exp (-y (ix2 t d))) := by
  pointwise [silu]
  rw [zero_sub]

theorem unit_at (k : FVec Ideal S8x128 .f32) (t : Fin 8) (d : Fin 128) :
    unit k (ix2 t d) = k (ix2 t d) * Ideal.rsqrt ((∑ e, k (ix2 t e) * k (ix2 t e)) + Ideal.ofBits .f32 0x358637BD#32) := by
  pointwise [unit]

theorem weigh_at (k : FVec Ideal S8x128 .f32) (b : FVec Ideal S8x1 .f32) (t : Fin 8) (d : Fin 128) :
    weigh k b (ix2 t d) = k (ix2 t d) * b (ix2 t 0) := by
  pointwise [weigh]

theorem sums_at (g : FVec Ideal S8x128 .f32) (a : Fin 16) (l : Fin 128) : sums g (ix2 a l)
    = (∑ j, tri (ix2 a j) * g (ix2 j l)) + ((∑ j, tri (ix2 a j) * (g (ix2 j l) - g (ix2 j l)))
      + ∑ j, tri (ix2 a j) * ((g (ix2 j l) - g (ix2 j l)) - (g (ix2 j l) - g (ix2 j l)))) := by
  pointwise [sums]

theorem flip_at (g : FVec Ideal S8x128 .f32) (l : Fin 128) (t : Fin 8) : flip g (ix2 l t)
    = (∑ k, k0_pay21 (F := Ideal) (ix2 l k) * g (ix2 t k)) + ((∑ k, k0_pay21 (F := Ideal) (ix2 l k) * (g (ix2 t k) - g (ix2 t k)))
      + ∑ k, k0_pay21 (F := Ideal) (ix2 l k) * ((g (ix2 t k) - g (ix2 t k)) - (g (ix2 t k) - g (ix2 t k)))) := by
  pointwise [flip]

theorem gate_at (gp tl : FVec Ideal S8x128 .f32) (t : Fin 8) (l : Fin 128) : gate gp tl (ix2 t l)
    = (-(Ideal.exp (gp (ix2 0 l)))) * (max (tl (ix2 t l) + gp (ix2 1 l)) 0
      + Ideal.log (1 + Ideal.exp (-(max (tl (ix2 t l) + gp (ix2 1 l)) (-(tl (ix2 t l) + gp (ix2 1 l))))))) := by
  pointwise [gate]
  rw [zero_sub, zero_sub]
  rfl

theorem rhs_at (v kb : FVec Ideal S8x128 .f32) (b c : FVec Ideal S8x1 .f32) (i : Fin 8) (x : Fin 256) : rhs v kb b c (ix2 i x)
    = if hx : x.val < 128 then v (ix2 i ⟨x.val, hx⟩) * b (ix2 i 0) else kb (ix2 i ⟨x.val - 128, by omega⟩) * Ideal.exp (c (ix2 i 0)) := by
  pointwise [rhs, weigh_at]

theorem mm_at {a b : FVec Ideal S8x8 .f32} {A B : Mat} (ha : ∀ i j, a (ix2 i j) = (A i j : EReal)) (hb : ∀ i j, b (ix2 i j) = (B i j : EReal))
    (i j : Fin 8) : mm a b (ix2 i j) = ((A * B) i j : EReal) := by
  pointwise [mm, ha, hb]
  rw [Matrix.mul_apply, coe_sum]
  exact Finset.sum_congr rfl fun k _ => (EReal.coe_mul _ _).symm

theorem mr_at {a : FVec Ideal S8x8 .f32} {b : FVec Ideal S8x256 .f32} {A : Mat} {B : Rhs} (ha : ∀ i j, a (ix2 i j) = (A i j : EReal))
    (hb : ∀ i x, b (ix2 i x) = (B i x : EReal)) (i : Fin 8) (x : Fin 256) : mr a b (ix2 i x) = ((A * B) i x : EReal) := by
  pointwise [mr, ha, hb]
  rw [Matrix.mul_apply, coe_sum]
  exact Finset.sum_congr rfl fun k _ => (EReal.coe_mul _ _).symm

theorem add_at {s : Shape} {a b : FVec Ideal s .f32} {x y : ℝ} {i : s.Idx} (ha : a i = (x : EReal)) (hb : b i = (y : EReal)) :
    addf a b i = ((x + y : ℝ) : EReal) := by
  show a i + b i = _
  rw [ha, hb, EReal.coe_add]

theorem sub_at {s : Shape} {a b : FVec Ideal s .f32} {x y : ℝ} {i : s.Idx} (ha : a i = (x : EReal)) (hb : b i = (y : EReal)) :
    subf a b i = ((x - y : ℝ) : EReal) := by
  show a i - b i = _
  rw [ha, hb, EReal.coe_sub]

theorem half_at {M : FVec Ideal S8x8 .f32} {A : Mat} (h : ∀ i j, M (ix2 i j) = (A i j : EReal)) (i j : Fin 8) :
    half M (ix2 i j) = (((1 - A) + (1 - A) * (A * A)) i j : EReal) := by
  have hx : ∀ i j, subf eye M (ix2 i j) = ((1 - A) i j : EReal) := fun i j => sub_at (eye_at i j) (h i j)
  exact add_at (hx i j) (mm_at hx (mm_at h h) i j)

theorem whole_at {M : FVec Ideal S8x8 .f32} {A : Mat} (h : ∀ i j, M (ix2 i j) = (A i j : EReal)) (i j : Fin 8) :
    whole M (ix2 i j) = (inv A i j : EReal) :=
  add_at (half_at h i j) (mm_at (half_at h) (mm_at (mm_at h h) (mm_at h h)) i j)

theorem left_at {M : FVec Ideal S8x8 .f32} {R U : FVec Ideal S8x256 .f32} {A : Mat} {B C : Rhs} (h : ∀ i j, M (ix2 i j) = (A i j : EReal))
    (hR : ∀ i x, R (ix2 i x) = (B i x : EReal)) (hU : ∀ i x, U (ix2 i x) = (C i x : EReal)) (i : Fin 8) (x : Fin 256) :
    left M R U (ix2 i x) = ((B - C - A * C) i x : EReal) := by
  have e : left M R U (ix2 i x) = (R (ix2 i x) - U (ix2 i x)) - ((∑ k, M (ix2 i k) * U (ix2 k x))
      + ((∑ k, M (ix2 i k) * (U (ix2 k x) - U (ix2 k x))) + ∑ k, (M (ix2 i k) - M (ix2 i k)) * U (ix2 k x))) := by
    pointwise [left]
  have z1 : ∀ k, M (ix2 i k) * (U (ix2 k x) - U (ix2 k x)) = 0 := fun k => by
    rw [hU, ← EReal.coe_sub, sub_self, EReal.coe_zero, mul_zero]
  have z2 : ∀ k, (M (ix2 i k) - M (ix2 i k)) * U (ix2 k x) = 0 := fun k => by
    rw [h, ← EReal.coe_sub, sub_self, EReal.coe_zero, zero_mul]
  have z3 : (∑ k, M (ix2 i k) * U (ix2 k x)) = ((A * C) i x : EReal) := by
    rw [Matrix.mul_apply, coe_sum]
    exact Finset.sum_congr rfl fun k _ => by rw [h, hU, EReal.coe_mul]
  rw [e, Finset.sum_eq_zero fun k _ => z1 k, Finset.sum_eq_zero fun k _ => z2 k, add_zero, add_zero, z3, hR, hU, ← EReal.coe_sub, ← EReal.coe_sub]
  rfl

theorem solved_at {M : FVec Ideal S8x8 .f32} {R : FVec Ideal S8x256 .f32} {A : Mat} {B : Rhs} (hA : Strict A)
    (h : ∀ i j, M (ix2 i j) = (A i j : EReal)) (hR : ∀ i x, R (ix2 i x) = (B i x : EReal)) (i : Fin 8) (x : Fin 256) :
    solved M R (ix2 i x) = (sol A B i x : EReal) := by
  have hU := mr_at (whole_at h) hR
  have hz : B - inv A * B - A * (inv A * B) = 0 := by
    have := sol_eq hA B
    unfold sol at this
    rw [sub_sub, this, sub_self]
  have hd := mr_at (whole_at h) (left_at h hR hU) i x
  rw [hz, Matrix.mul_zero] at hd
  refine (add_at (hU i x) hd).trans ?_
  rw [Matrix.zero_apply, add_zero]
  rfl

theorem upd_at (k : FVec Ideal S8x128 .f32) (c l : FVec Ideal S8x1 .f32) (uw : FVec Ideal S8x256 .f32) (s : FVec Ideal S128x128 .f32) (a b : Fin 128) :
    upd k c l uw s (ix2 a b) = s (ix2 a b) * Ideal.exp (l (ix2 0 0)) + ∑ t : Fin 8, k (ix2 t a) * Ideal.exp (l (ix2 t 0) - c (ix2 t 0))
      * (uw (ix2 t ⟨b.val, by omega⟩) - ∑ e : Fin 128, uw (ix2 t ⟨128 + e.val, by omega⟩) * s (ix2 e b)) := by
  pointwise [upd, weigh_at]
  done

theorem mat_at (kb k : FVec Ideal S8x128 .f32) (c : FVec Ideal S8x1 .f32) (r : FVec Ideal S1x8 .f32) (i j : Fin 8) : mat kb k c r (ix2 i j)
    = if j < i then (∑ d, kb (ix2 i d) * k (ix2 j d)) * Ideal.exp (c (ix2 i 0) - r (ix2 0 j)) else 0 := by
  pointwise [mat, mge_at, mgt_at]
  by_cases h : j < i
  · rw [if_pos h, if_pos h, if_pos (le_of_lt h)]
    rfl
  · rw [if_neg h, if_neg h]
    rfl

/-- The sums up to a token, and over all the tokens. -/
theorem sums_lo (g : FVec Ideal S8x128 .f32) (l : Fin 128) (hg : ∀ j, g (ix2 j l) ≤ 0) (t : Fin 8) :
    sums g (ix2 ⟨t.val, by omega⟩ l) = Cert.Delta.run (fun j => g (ix2 j l)) t := by
  rw [sums_at, split_sum]
  · refine Finset.sum_congr rfl fun j _ => ?_
    rw [tri_lo]
    split
    · rw [one_mul]
    · rw [zero_mul]
  · intro j
    rw [tri_lo]
    split
    · exact .inr rfl
    · exact .inl rfl
  · exact fun j _ e => absurd (hg j) (by rw [e]; simp)

theorem sums_hi (g : FVec Ideal S8x128 .f32) (l : Fin 128) (hg : ∀ j, g (ix2 j l) ≤ 0) (t : Fin 8) :
    sums g (ix2 ⟨8 + t.val, by omega⟩ l) = Cert.Delta.run (fun j => g (ix2 j l)) 7 := by
  rw [sums_at, split_sum]
  · refine Finset.sum_congr rfl fun j _ => ?_
    rw [tri_hi, one_mul, if_pos (show j ≤ 7 from Fin.le_def.mpr (show j.val ≤ 7 by omega))]
  · exact fun j => .inr (tri_hi t j)
  · exact fun j _ e => absurd (hg j) (by rw [e]; simp)

theorem flip_eq (g : FVec Ideal S8x128 .f32) (l : Fin 128) (t : Fin 8) (hg : g (ix2 t l) ≠ ⊤) : flip g (ix2 l t) = g (ix2 t l) := by
  rw [flip_at, split_sum]
  · rw [Finset.sum_eq_single l]
    · rw [id_at, if_pos rfl, one_mul]
    · intro k _ hk
      rw [id_at, if_neg (Ne.symm hk), zero_mul]
    · exact fun h => absurd (Finset.mem_univ l) h
  · intro k
    rw [id_at]
    split
    · exact .inr rfl
    · exact .inl rfl
  · intro k hk
    rw [id_at] at hk
    by_cases h : l = k
    · rw [← h]
      exact hg
    · rw [if_neg h] at hk
      exact absurd hk zero_ne_one

/-- One sequence and head, from the specification's entries of its operands. -/
theorem chain_at {A : Args} (hA : RealV A) (n : Fin 32) (h : Fin 4) (k v : FVec Ideal S8x128 .f32) (b c l : FVec Ideal S8x1 .f32)
    (r : FVec Ideal S1x8 .f32) (s : FVec Ideal S128x128 .f32)
    (hk : ∀ t d, k (ix2 t d) = KH A n h t d) (hv : ∀ t d, v (ix2 t d) = VH A n h t d) (hb : ∀ t, b (ix2 t 0) = BE A n h t)
    (hc : ∀ t, c (ix2 t 0) = GC A n h t) (hl : ∀ t, l (ix2 t 0) = GC A n h 7) (hr : ∀ t, r (ix2 0 t) = GC A n h t)
    (hs : ∀ x y, s (ix2 x y) = A.st (ix5 0 n h x y)) (x y : Fin 128) : chain k v b c l r s (ix2 x y) = ST A n h x y := by
  have hu : ∀ t d, unit k (ix2 t d) = KN A n h t d := fun t d => by
    rw [unit_at]
    simp only [hk]
    rfl
  have hw : ∀ t d, weigh (unit k) b (ix2 t d) = KN A n h t d * BE A n h t := fun t d => by rw [weigh_at, hu, hb]
  have hM : ∀ i j, mat (weigh (unit k) b) (unit k) c r (ix2 i j) = (MR A n h i j : EReal) := fun i j => by
    rw [mat_at, ← MM_coe]
    simp only [hw, hu, hc, hr]
    rfl
  have hR : ∀ i z, rhs v (weigh (unit k) b) b c (ix2 i z) = (RRr A n h i z : EReal) := fun i z => by
    rw [rhs_at, ← RR_coe A hA]
    simp only [hw, hv, hb, hc]
    rfl
  have hU := solved_at (MR_strict A n h) hM hR
  unfold chain
  rw [upd_at]
  simp only [hU, hu, hc, hl, hs]
  rfl

/-- The cuts' entries. -/
theorem lo_at (g : FVec Ideal S16x128 .f32) (t : Fin 8) (l : Fin 128) :
    extractStridedSlice S8x128 ![0, 0] g slices_S16x128_o0_0_S8x128 (ix2 t l) = g (ix2 ⟨t.val, by omega⟩ l) := by
  pointwise []

theorem hi_at (g : FVec Ideal S16x128 .f32) (t : Fin 8) (l : Fin 128) :
    extractStridedSlice S8x128 ![8, 0] g slices_S16x128_o8_0_S8x128 (ix2 t l) = g (ix2 ⟨8 + t.val, by omega⟩ l) := by
  pointwise []

theorem col_at (g : FVec Ideal S8x128 .f32) (o : Fin 128) (hf : S8x128.Slices ![0, o.val] S8x1) (t : Fin 8) :
    extractStridedSlice S8x1 ![0, o.val] g hf (ix2 t 0) = g (ix2 t o) := by
  pointwise []

theorem line_at (g : FVec Ideal S128x8 .f32) (o : Fin 128) (hf : S128x8.Slices ![o.val, 0] S1x8) (t : Fin 8) :
    extractStridedSlice S1x8 ![o.val, 0] g hf (ix2 0 t) = g (ix2 o t) := by
  pointwise []

theorem out_at (a : FVec Ideal S128x128 .f32) (x y : Fin 128) : shapeCast S1x1x128x128 a shapeCasts_S128x128_S1x1x128x128 (ix4 0 0 x y) = a (ix2 x y) := by
  pointwise []

/-- One sequence's head, from the arguments' entries of what is loaded for it. -/
theorem piece_at {A : Args} (hA : RealV A) (n : Fin 32) (h : Fin 4) (cw : Vec Ideal S4x1536 .f32) (gp : Vec Ideal S8x128 .f32)
    (tl kc kp vc vp : Vec Ideal S1x8x128 .f32) (s : Vec Ideal S1x1x128x128 .f32)
    (hcw : ∀ j x, cw (ix2 j x) = A.cw (ix3 0 j x)) (hal : gp (ix2 0 ⟨4 + h.val, by omega⟩) = A.al (ix2 0 h))
    (hdb : gp (ix2 1 ⟨4 + h.val, by omega⟩) = A.db (ix2 0 h)) (htl : ∀ t l, tl (ix3 0 t l) = A.tl (ix3 n t l))
    (hkc : ∀ t d, kc (ix3 0 t d) = A.q (ix3 n t ⟨512 + (h.val * 128 + d.val), by omega⟩))
    (hkp : ∀ (r : Fin 3) d, kp (ix3 0 ⟨5 + r.val, by omega⟩ d) = A.cs (ix4 0 n r ⟨512 + (h.val * 128 + d.val), by omega⟩))
    (hvc : ∀ t d, vc (ix3 0 t d) = A.q (ix3 n t ⟨1024 + (h.val * 128 + d.val), by omega⟩))
    (hvp : ∀ (r : Fin 3) d, vp (ix3 0 ⟨5 + r.val, by omega⟩ d) = A.cs (ix4 0 n r ⟨1024 + (h.val * 128 + d.val), by omega⟩))
    (hs : ∀ x y, s (ix4 0 0 x y) = A.st (ix5 0 n h x y)) (x y : Fin 128) :
    piece h cw gp tl kc kp vc vp s (ix4 0 0 x y) = ST A n h x y := by
  have hg : ∀ t, gate (shapeCast S8x128 gp shapeCasts_S8x128_S8x128) (shapeCast S8x128 tl shapeCasts_S1x8x128_S8x128) (ix2 t ⟨4 + h.val, by omega⟩) = GG A n h t := fun t => by
    rw [gate_at]
    unfold GG
    pointwise [hal, hdb, htl]
  have hn : ∀ t, gate (shapeCast S8x128 gp shapeCasts_S8x128_S8x128) (shapeCast S8x128 tl shapeCasts_S1x8x128_S8x128) (ix2 t ⟨4 + h.val, by omega⟩) ≤ 0 := fun t => by
    rw [hg]
    exact GG_nonpos A n h t
  have hlo := fun t => (sums_lo _ _ hn t).trans (congrArg (fun f => Cert.Delta.run f t) (funext hg))
  have hhi := fun t => (sums_hi _ _ hn t).trans (congrArg (fun f => Cert.Delta.run f 7) (funext hg))
  have hcv : ∀ (o : ℕ) (hf : S4x1536.Slices ![0, o] S4x128) (cur prev : Vec Ideal S1x8x128 .f32) (ch : Fin 128 → Fin 1536)
      (hch : ∀ d, (ch d).val = o + d.val)
      (h1 : ∀ t d, cur (ix3 0 t d) = A.q (ix3 n t (ch d))) (h2 : ∀ (r : Fin 3) d, prev (ix3 0 ⟨5 + r.val, by omega⟩ d) = A.cs (ix4 0 n r (ch d)))
      (t : Fin 8) (d : Fin 128), silu (conv (extractStridedSlice S4x128 ![0, o] (shapeCast S4x1536 cw shapeCasts_S4x1536_S4x1536) hf) cur prev) (ix2 t d) = SI A n t (ch d) := by
    intro o hf cur prev ch hch h1 h2 t d
    have e := conv_at (extractStridedSlice S4x128 ![0, o] (shapeCast S4x1536 cw shapeCasts_S4x1536_S4x1536) hf) cur prev d (fun i => XX A n i (ch d))
      (fun t => by
        rw [h1]
        unfold XX
        rw [dif_neg (by show ¬ (3 + t.val < 3); omega)]
        exact congrArg A.q (congrArg (fun i => ix3 n i (ch d)) (Fin.ext (by show t.val = 3 + t.val - 3; omega))))
      (fun r => by
        rw [h2]
        unfold XX
        rw [dif_pos r.isLt]) t
    have ht : ∀ j : Fin 4, extractStridedSlice S4x128 ![0, o] (shapeCast S4x1536 cw shapeCasts_S4x1536_S4x1536) hf (ix2 j d) = A.cw (ix3 0 j (ch d)) := fun j => by
      pointwise [hcw]
      exact congrArg A.cw (congrArg (ix3 0 j) (Fin.ext (hch d).symm))
    rw [ht, ht, ht, ht] at e
    rw [silu_at, e]
    rfl
  have hcu : ∀ t, extractStridedSlice S8x128 ![0, 0] (sums (gate (shapeCast S8x128 gp shapeCasts_S8x128_S8x128) (shapeCast S8x128 tl shapeCasts_S1x8x128_S8x128))) slices_S16x128_o0_0_S8x128 (ix2 t ⟨4 + h.val, by omega⟩) = GC A n h t := fun t =>
    (lo_at _ _ _).trans (hlo t)
  have hfl : ∀ t, flip (extractStridedSlice S8x128 ![0, 0] (sums (gate (shapeCast S8x128 gp shapeCasts_S8x128_S8x128) (shapeCast S8x128 tl shapeCasts_S1x8x128_S8x128))) slices_S16x128_o0_0_S8x128) (ix2 ⟨4 + h.val, by omega⟩ t) = GC A n h t := fun t =>
    (flip_eq _ _ t (by rw [hcu]; exact GC_ne_top A n h t)).trans (hcu t)
  unfold piece
  refine (out_at _ x y).trans (chain_at hA n h _ _ _ _ _ _ _ ?_ ?_ ?_ ?_ ?_ ?_ ?_ x y)
  · exact hcv (512 + 128 * h.val) (cut_k h) kc kp (fun d => ⟨512 + (h.val * 128 + d.val), by omega⟩) (fun d => by show 512 + (h.val * 128 + d.val) = _; omega) hkc hkp
  · exact hcv (1024 + 128 * h.val) (cut_v h) vc vp (fun d => ⟨1024 + (h.val * 128 + d.val), by omega⟩) (fun d => by show 1024 + (h.val * 128 + d.val) = _; omega) hvc hvp
  · intro t
    unfold BE
    pointwise [k0_pay16, k0_pay15, htl]
    rw [zero_sub]
  · intro t
    exact (col_at _ _ _ _).trans (hcu t)
  · intro t
    exact ((col_at _ _ _ _).trans (hi_at _ _ _)).trans (hhi t)
  · intro t
    exact (line_at _ _ _ _).trans (hfl t)
  · intro x y
    pointwise [hs]

end Cert.DeltaSIdeal.Hand

end
end
-- ==== Proof.DeltaVal.lean ====
module

public import proofs.«01_k».proof.Proof.DeltaPay
public import Idealize.ShloMosaic.Lib.Routing.OpsOne
public import Idealize.ShloMosaic.Lib.Pipeline.ReadBack

@[expose] public section

set_option maxRecDepth 16384

noncomputable section

open Idealize.ShloMosaic Idealize.ShloMosaic.TcCoe Idealize.SL.Sem
open scoped BigOperators

namespace Cert.DeltaSIdeal.Hand

open Cert.DeltaSIdeal Cert.DeltaSIdeal.Gen
open Cert.DeltaSRefIdeal.Hand
open Idealize.ShloMosaic.Pipeline (Dat)
open Idealize.ShloMosaic.Routing

/-! ## A write of part of a row -/

/-- Where an update of part of a row lands. -/
theorem lands_row (idx : IVec S2 32) (k : Fin 4) (r : Fin 8) (c : Fin 128) :
    scatter_S8x128_S2_S4_0_0_01_0.resultIdx? (ix1 k) idx = some (ix2 r c)
      ↔ (idx (ix1 (0 : Fin 2))).toInt = r.val ∧ (idx (ix1 (1 : Fin 2))).toInt + (k.val : Int) = c.val := by
  have hwin0 : scatter_S8x128_S2_S4_0_0_01_0.window (ix1 k) 0 = 0 := by
    unfold ScatterDims.window
    rw [dif_neg fun h => (of_decide_eq_true (List.mem_filter.1 h).2) (by show (0 : Fin 2) ∈ [0]; simp)]
  have hwin1 : scatter_S8x128_S2_S4_0_0_01_0.window (ix1 k) 1 = k.val := by
    have hk : scatter_S8x128_S2_S4_0_0_01_0.sKept = [1] := rfl
    unfold ScatterDims.window
    rw [dif_pos (by rw [hk]; simp)]
    exact congrArg (fun t => ((ix1 k : (S4).Idx) t).val) (Subsingleton.elim (α := Fin 1) _ 0)
  have s0 : scatter_S8x128_S2_S4_0_0_01_0.start (ix1 k) idx 0 = (idx (ix1 (0 : Fin 2))).toInt := start_pair (R := 8) (C := 128) (u := S4) scatter_S8x128_S2_S4_0_0_01_0 rfl rfl idx (ix1 k) 0
  have s1 : scatter_S8x128_S2_S4_0_0_01_0.start (ix1 k) idx 1 = (idx (ix1 (1 : Fin 2))).toInt := start_pair (R := 8) (C := 128) (u := S4) scatter_S8x128_S2_S4_0_0_01_0 rfl rfl idx (ix1 k) 1
  refine (resultIdx?_ix2 _ _ _ _ _).trans ?_
  rw [s0, s1, hwin0, hwin1]
  omega

/-- Such a write, read where one of its entries lands. -/
theorem row_hit (x0 : S8x128.Idx → EReal) (idx : IVec S2 32) (upd : S4.Idx → EReal) (k : Fin 4) (r : Fin 8) (c : Fin 128)
    (h0 : (idx (ix1 (0 : Fin 2))).toInt = r.val) (h1 : (idx (ix1 (1 : Fin 2))).toInt + (k.val : Int) = c.val) :
    Host.scatter scatter_S8x128_S2_S4_0_0_01_0 (fun _ b => b) x0 idx upd (ix2 r c) = upd (ix1 k) := by
  refine scatter_set_hit _ x0 idx upd _ _ (fun k' hk' => ?_) (ix1 k) ((lands_row idx k r c).2 ⟨h0, h1⟩)
  have e := eq_ix1 k'
  rw [e] at hk' ⊢
  have q := ((lands_row idx (k' 0) r c).1 hk').2
  exact congrArg upd (congrArg ix1 (Fin.ext (by omega)))

/-- Such a write, read at another row. -/
theorem row_miss (x0 : S8x128.Idx → EReal) (idx : IVec S2 32) (upd : S4.Idx → EReal) (r : Fin 8) (c : Fin 128)
    (h0 : (idx (ix1 (0 : Fin 2))).toInt ≠ r.val) :
    Host.scatter scatter_S8x128_S2_S4_0_0_01_0 (fun _ b => b) x0 idx upd (ix2 r c) = x0 (ix2 r c) :=
  scatter_set_miss _ x0 idx upd _ fun k hk => by
    rw [eq_ix1 k] at hk
    exact h0 ((lands_row idx (k 0) r c).1 hk).1

variable (m : (ℓ : Loc nD τ sig) → Buf (Elt Ideal) ℓ)

/-- The call's arguments in a memory. -/
def args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩

/-- Every window's block index at a grid point (decided). -/
theorem idx_val : ∀ t : Fin cfg0.N, win0_0.index t = ![t.val, 0, 0]
    ∧ win0_1.index t = ![t.val, 0, 0]
    ∧ win0_3.index t = ![t.val, 0, 0]
    ∧ win0_4.index t = ![t.val, 0, 0, 0]
    ∧ win0_5.index t = ![0, 0]
    ∧ win0_6.index t = ![0, 0]
    ∧ win0_9.index t = ![t.val, 0, 0, 0] :=
  (by decide +kernel : ∀ t : Fin grid0.N, _)

/-- The sequence at a place of a point's block. -/
abbrev sq (t : Fin cfg0.N) (i : Fin 2) : Fin 32 := ⟨t.val * 2 + i.val, by have := t.isLt; have : cfg0.N = 16 := rfl; omega⟩

/-- The host's array `v10` at an index, as an argument's element. -/
theorem V_v10_0 (c : Dev nD) (h : Fin 4) : V m c main_v10 (ix2 0 ⟨4 + h.val, by omega⟩) = (args m c).al (ix2 0 h) := by
  simp only [V, hostOps0, hostOps0_1, hostOps0_2, List.flatten_cons, List.flatten_nil, List.append_nil, List.cons_append, List.nil_append]
  after_results
  refine (row_miss _ _ _ 0 _ (by decide +kernel)).trans ((row_hit _ _ _ h 0 _ (by decide +kernel) (by revert h; decide +kernel)).trans ?_)
  pointwise [args]
  done

theorem V_v10_1 (c : Dev nD) (h : Fin 4) : V m c main_v10 (ix2 1 ⟨4 + h.val, by omega⟩) = (args m c).db (ix2 0 h) := by
  simp only [V, hostOps0, hostOps0_1, hostOps0_2, List.flatten_cons, List.flatten_nil, List.append_nil, List.cons_append, List.nil_append]
  after_results
  refine (row_hit _ _ _ h 1 _ (by decide +kernel) (by revert h; decide +kernel)).trans ?_
  pointwise [args]
  done

/-- The host's array `v12` at the carried rows, as an argument's element. -/
theorem V_v12 (c : Dev nD) (n : Fin 32) (r : Fin 3) (x : Fin 1536) : V m c main_v12 (ix3 n ⟨5 + r.val, by omega⟩ x) = (args m c).cs (ix4 0 n r x) := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise [args]
  done

/-- The host's array `v13` at an index, as an argument's element. -/
theorem V_v13 (c : Dev nD) (n : Fin 32) (h : Fin 4) (x y : Fin 128) : V m c main_v13 (ix4 n h x y) = (args m c).st (ix5 0 n h x y) := by
  simp only [V, hostOps0, hostOps0_1, hostOps0_2, List.flatten_cons, List.flatten_nil, List.append_nil, List.cons_append, List.nil_append]
  after_results
  pointwise [args]
  done

/-- The host's array `v14` at an index, as an argument's element. -/
theorem V_v14 (c : Dev nD) (j : Fin 4) (x : Fin 1536) : V m c main_v14 (ix2 j x) = (args m c).cw (ix3 0 j x) := by
  simp only [V, hostOps0, hostOps0_1, hostOps0_2, List.flatten_cons, List.flatten_nil, List.append_nil, List.cons_append, List.nil_append]
  after_results
  pointwise [args]
  done

theorem V_a0 (c : Dev nD) (n : Fin 32) (r : Fin 8) (x : Fin 1536) : V m c main_arg0 (ix3 n r x) = (args m c).q (ix3 n r x) := by
  simp only [V, hostOps0, hostOps0_1, hostOps0_2, List.flatten_cons, List.flatten_nil, List.append_nil, List.cons_append, List.nil_append]
  after_results
  pointwise [args]
  done

theorem V_a1 (c : Dev nD) (n : Fin 32) (r : Fin 8) (x : Fin 128) : V m c main_arg1 (ix3 n r x) = (args m c).tl (ix3 n r x) := by
  simp only [V, hostOps0, hostOps0_1, hostOps0_2, List.flatten_cons, List.flatten_nil, List.append_nil, List.cons_append, List.nil_append]
  after_results
  pointwise [args]
  done

/-- The block that a window brings to a grid point, at an index. -/
theorem iblk_0 (c : Dev nD) (t : Fin cfg0.N) (i : Fin 2) (r : Fin 8) (x : Fin 1536) : iblk m c 0 t (ix3 i r x) = (args m c).q (ix3 (sq t i) r x) := by
  refine Eq.trans ?_ (V_a0 m c (sq t i) r x)
  blk_ext [iblk, idx_val t]

theorem iblk_1 (c : Dev nD) (t : Fin cfg0.N) (i : Fin 2) (r : Fin 8) (x : Fin 128) : iblk m c 1 t (ix3 i r x) = (args m c).tl (ix3 (sq t i) r x) := by
  refine Eq.trans ?_ (V_a1 m c (sq t i) r x)
  blk_ext [iblk, idx_val t]

theorem iblk_3 (c : Dev nD) (t : Fin cfg0.N) (i : Fin 2) (r : Fin 3) (x : Fin 1536) : iblk m c 3 t (ix3 i ⟨5 + r.val, by omega⟩ x) = (args m c).cs (ix4 0 (sq t i) r x) := by
  refine Eq.trans ?_ (V_v12 m c (sq t i) r x)
  blk_ext [iblk, idx_val t]

theorem iblk_4 (c : Dev nD) (t : Fin cfg0.N) (i : Fin 2) (h : Fin 4) (x y : Fin 128) : iblk m c 4 t (ix4 i h x y) = (args m c).st (ix5 0 (sq t i) h x y) := by
  refine Eq.trans ?_ (V_v13 m c (sq t i) h x y)
  blk_ext [iblk, idx_val t]

theorem iblk_5 (c : Dev nD) (t : Fin cfg0.N) (j : Fin 4) (x : Fin 1536) : iblk m c 5 t (ix2 j x) = (args m c).cw (ix3 0 j x) := by
  refine Eq.trans ?_ (V_v14 m c j x)
  blk_ext [iblk, idx_val t]

theorem iblk_6_0 (c : Dev nD) (t : Fin cfg0.N) (h : Fin 4) : iblk m c 6 t (ix2 0 ⟨4 + h.val, by omega⟩) = (args m c).al (ix2 0 h) := by
  refine Eq.trans ?_ (V_v10_0 m c h)
  blk_ext [iblk, idx_val t]

theorem iblk_6_1 (c : Dev nD) (t : Fin cfg0.N) (h : Fin 4) : iblk m c 6 t (ix2 1 ⟨4 + h.val, by omega⟩) = (args m c).db (ix2 0 h) := by
  refine Eq.trans ?_ (V_v10_1 m c h)
  blk_ext [iblk, idx_val t]

/-- The carried rows as the body keeps them, read at a rectangle. -/
abbrev carried (c : Dev nD) (t : Fin cfg0.N) (r : Rect S2x8x1536) : r.shape.Idx → EReal :=
  (View.whole cc0_scratch1).readCov (Val := Elt Ideal) [⟨Rect.unit ![0, 0, 0] ![2, 8, 1536] inb_S2x8x1536_S2x8x1536_0_0_0, shapeCast S2x8x1536 (shapeCast S2x8x1536 (iblk m c 3 t) shapeCasts_S2x8x1536_S2x8x1536) shapeCasts_S2x8x1536_S2x8x1536⟩] r.toLoadRect

/-- The carried state as the body keeps it, read at a rectangle. -/
abbrev state (c : Dev nD) (t : Fin cfg0.N) (r : Rect S2x4x128x128) : r.shape.Idx → EReal :=
  (View.whole cc0_scratch0).readCov (Val := Elt Ideal) [⟨Rect.unit ![0, 0, 0, 0] ![2, 4, 128, 128] inb_S2x4x128x128_S2x4x128x128_0_0_0_0, shapeCast S2x4x128x128 (shapeCast S2x4x128x128 (iblk m c 4 t) shapeCasts_S2x4x128x128_S2x4x128x128) shapeCasts_S2x4x128x128_S2x4x128x128⟩] r.toLoadRect

/-- The new state of a point's two sequences. -/
def blkT (c : Dev nD) (t : Fin cfg0.N) : S2x4x128x128.Idx → EReal := fun j => ST (args m c) (sq t (j 0)) (j 1) (j 2) (j 3)

/-- The new state. -/
def t9 (A : Args) : FVec Ideal S32x4x128x128 .f32 := fun j => ST A (j 0) (j 1) (j 2) (j 3)

/-- A load of one sequence's rows, of one group of its channels, and of one head's state, at an entry. -/
theorem ld_t (X : S2x8x128.Idx → EReal) (i : Fin 2) (b : ∀ a, (![i.val, 0, 0] : Fin 3 → ℕ) a + (![1, 8, 128] : Fin 3 → ℕ) a ≤ S2x8x128.size a) (r : Fin 8) (l : Fin 128) :
    View.ld (Val := Elt Ideal) (e' := .f32) X (Rect.unit (s := S2x8x128) ![i.val, 0, 0] ![1, 8, 128] b) (ix3 0 r l) = X (ix3 i r l) := by
  refine congrArg X (funext fun a => Fin.ext ?_)
  match a with
  | ⟨0, _⟩ => exact (show i.val + 1 * 0 = i.val by omega)
  | ⟨1, _⟩ => exact (show 0 + 1 * r.val = r.val by omega)
  | ⟨2, _⟩ => exact (show 0 + 1 * l.val = l.val by omega)

theorem ld_q (X : S2x8x1536.Idx → EReal) (i : Fin 2) (o : ℕ) (b : ∀ a, (![i.val, 0, o] : Fin 3 → ℕ) a + (![1, 8, 128] : Fin 3 → ℕ) a ≤ S2x8x1536.size a) (r : Fin 8) (d : Fin 128)
    (ch : Fin 1536) (hch : ch.val = o + d.val) :
    View.ld (Val := Elt Ideal) (e' := .f32) X (Rect.unit (s := S2x8x1536) ![i.val, 0, o] ![1, 8, 128] b) (ix3 0 r d) = X (ix3 i r ch) := by
  refine congrArg X (funext fun a => Fin.ext ?_)
  match a with
  | ⟨0, _⟩ => exact (show i.val + 1 * 0 = i.val by omega)
  | ⟨1, _⟩ => exact (show 0 + 1 * r.val = r.val by omega)
  | ⟨2, _⟩ => exact (show o + 1 * d.val = ch.val by omega)

theorem ld_s (X : S2x4x128x128.Idx → EReal) (i : Fin 2) (h : Fin 4) (b : ∀ a, (![i.val, h.val, 0, 0] : Fin 4 → ℕ) a + (![1, 1, 128, 128] : Fin 4 → ℕ) a ≤ S2x4x128x128.size a)
    (x y : Fin 128) :
    View.ld (Val := Elt Ideal) (e' := .f32) X (Rect.unit (s := S2x4x128x128) ![i.val, h.val, 0, 0] ![1, 1, 128, 128] b) (ix4 0 0 x y) = X (ix4 i h x y) := by
  refine congrArg X (funext fun a => Fin.ext ?_)
  match a with
  | ⟨0, _⟩ => exact (show i.val + 1 * 0 = i.val by omega)
  | ⟨1, _⟩ => exact (show h.val + 1 * 0 = h.val by omega)
  | ⟨2, _⟩ => exact (show 0 + 1 * x.val = x.val by omega)
  | ⟨3, _⟩ => exact (show 0 + 1 * y.val = y.val by omega)

theorem zero3 : ∀ a, (![0, 0, 0] : Fin 3 → ℕ) a = 0 := by decide

theorem zero4 : ∀ a, (![0, 0, 0, 0] : Fin 4 → ℕ) a = 0 := by decide

/-- The rectangle of a whole block takes an index to itself. -/
theorem whole_idx (z : S2x4x128x128.Idx) :
    (Rect.unit (s := S2x4x128x128) ![0, 0, 0, 0] ![2, 4, 128, 128] inb_S2x4x128x128_S2x4x128x128_0_0_0_0).toLoadRect.idx z = z := by
  funext a
  refine Fin.ext ?_
  show (![0, 0, 0, 0] : Fin 4 → ℕ) a + 1 * (z a).val = (z a).val
  rw [zero4 a]
  omega

/-- A cast to the same shape changes nothing. -/
theorem same_q (X : S2x8x1536.Idx → EReal) (j : S2x8x1536.Idx) :
    shapeCast S2x8x1536 (shapeCast S2x8x1536 X shapeCasts_S2x8x1536_S2x8x1536) shapeCasts_S2x8x1536_S2x8x1536 j = X j := by
  pointwise []

theorem same_s (X : S2x4x128x128.Idx → EReal) (j : S2x4x128x128.Idx) :
    shapeCast S2x4x128x128 (shapeCast S2x4x128x128 X shapeCasts_S2x4x128x128_S2x4x128x128) shapeCasts_S2x4x128x128_S2x4x128x128 j = X j := by
  pointwise []

/-- A point's sequence and head, entry by entry, the places of what is loaded given as numbers. -/
theorem pc_at (c : Dev nD) (hA : RealV (args m c)) (t : Fin cfg0.N) (i : Fin 2) (h : Fin 4) (i' h' ok ov : ℕ) (hi : i' = i.val) (hh : h' = h.val)
    (hok : ok = 512 + 128 * h.val) (hov : ov = 1024 + 128 * h.val)
    (b1 : ∀ a, (![i', 0, 0] : Fin 3 → ℕ) a + (![1, 8, 128] : Fin 3 → ℕ) a ≤ S2x8x128.size a)
    (bk : ∀ a, (![i', 0, ok] : Fin 3 → ℕ) a + (![1, 8, 128] : Fin 3 → ℕ) a ≤ S2x8x1536.size a)
    (bv : ∀ a, (![i', 0, ov] : Fin 3 → ℕ) a + (![1, 8, 128] : Fin 3 → ℕ) a ≤ S2x8x1536.size a)
    (bs : ∀ a, (![i', h', 0, 0] : Fin 4 → ℕ) a + (![1, 1, 128, 128] : Fin 4 → ℕ) a ≤ S2x4x128x128.size a) (x : S1x1x128x128.Idx) :
    piece h (iblk m c 5 t) (iblk m c 6 t) (View.ld (iblk m c 1 t) (Rect.unit (s := S2x8x128) ![i', 0, 0] ![1, 8, 128] b1))
      (View.ld (iblk m c 0 t) (Rect.unit (s := S2x8x1536) ![i', 0, ok] ![1, 8, 128] bk)) (carried m c t (Rect.unit (s := S2x8x1536) ![i', 0, ok] ![1, 8, 128] bk))
      (View.ld (iblk m c 0 t) (Rect.unit (s := S2x8x1536) ![i', 0, ov] ![1, 8, 128] bv)) (carried m c t (Rect.unit (s := S2x8x1536) ![i', 0, ov] ![1, 8, 128] bv))
      (state m c t (Rect.unit (s := S2x4x128x128) ![i', h', 0, 0] ![1, 1, 128, 128] bs)) x
      = blkT m c t ((Rect.unit (s := S2x4x128x128) ![i', h', 0, 0] ![1, 1, 128, 128] bs).emb x) := by
  subst hi hh hok hov
  have ex : x = ix4 0 0 (x 2) (x 3) := by blk_ext
  have ee : (Rect.unit (s := S2x4x128x128) ![i.val, h.val, 0, 0] ![1, 1, 128, 128] bs).emb x = ix4 i h (x 2) (x 3) := by blk_ext
  rw [ee]
  rw [ex]
  refine piece_at hA (sq t i) h _ _ _ _ _ _ _ _ (iblk_5 m c t) (iblk_6_0 m c t h) (iblk_6_1 m c t h) ?_ ?_ ?_ ?_ ?_ ?_ (x 2) (x 3)
  · exact fun r l => (ld_t _ i b1 r l).trans (iblk_1 m c t i r l)
  · exact fun r d => (ld_q _ i _ bk r d ⟨512 + (h.val * 128 + d.val), by omega⟩ (by show 512 + (h.val * 128 + d.val) = _; omega)).trans (iblk_0 m c t i r _)
  · intro r d
    refine (congrFun (View.readCov_fill (View.whole cc0_scratch1) inb_S2x8x1536_S2x8x1536_0_0_0 _ [] _ zero3) _).trans ?_
    exact ((ld_q _ i _ bk _ d ⟨512 + (h.val * 128 + d.val), by omega⟩ (by show 512 + (h.val * 128 + d.val) = _; omega)).trans (same_q _ _)).trans (iblk_3 m c t i r _)
  · exact fun r d => (ld_q _ i _ bv r d ⟨1024 + (h.val * 128 + d.val), by omega⟩ (by show 1024 + (h.val * 128 + d.val) = _; omega)).trans (iblk_0 m c t i r _)
  · intro r d
    refine (congrFun (View.readCov_fill (View.whole cc0_scratch1) inb_S2x8x1536_S2x8x1536_0_0_0 _ [] _ zero3) _).trans ?_
    exact ((ld_q _ i _ bv _ d ⟨1024 + (h.val * 128 + d.val), by omega⟩ (by show 1024 + (h.val * 128 + d.val) = _; omega)).trans (same_q _ _)).trans (iblk_3 m c t i r _)
  · intro a b
    refine (congrFun (View.readCov_fill (View.whole cc0_scratch0) inb_S2x4x128x128_S2x4x128x128_0_0_0_0 _ [] _ zero4) _).trans ?_
    exact ((ld_s _ i h bs a b).trans (same_s _ _)).trans (iblk_4 m c t i h a b)

theorem inb_head (i : Fin 2) (h : Fin 4) : ∀ a, (![i.val, h.val, 0, 0] : Fin 4 → ℕ) a + (![1, 1, 128, 128] : Fin 4 → ℕ) a ≤ S2x4x128x128.size a := by
  revert i h
  decide

/-- Pieces at every sequence and head cover the block. -/
theorem cover (L : List (View.Piece (Elt Ideal) S2x4x128x128 .f32))
    (hL : ∀ (i : Fin 2) (h : Fin 4), ∃ p ∈ L, p.1 = Rect.unit (s := S2x4x128x128) ![i.val, h.val, 0, 0] ![1, 1, 128, 128] (inb_head i h)) (y : S2x4x128x128.Idx) :
    ∃ p ∈ L, y ∈ p.1.set := by
  obtain ⟨p, hp, e⟩ := hL (y 0) (y 1)
  refine ⟨p, hp, ?_⟩
  rw [e, Rect.mem_set_unit]
  intro a
  match a with
  | ⟨0, _⟩ => exact ⟨le_refl _, Nat.lt_succ_self _⟩
  | ⟨1, _⟩ => exact ⟨le_refl _, Nat.lt_succ_self _⟩
  | ⟨2, _⟩ => exact ⟨Nat.zero_le _, lt_of_lt_of_eq (y 2).isLt (Nat.zero_add _).symm⟩
  | ⟨3, _⟩ => exact ⟨Nat.zero_le _, lt_of_lt_of_eq (y 3).isLt (Nat.zero_add _).symm⟩

set_option maxHeartbeats 40000000 in
/-- The second result. -/
theorem final_9 (c : Dev nD) (hA : RealV (args m c)) : (dats m 0 c).arrAt 9 (cfgs 0).N = t9 (args m c) := by
  refine (dats m 0 c).arrAt_eq_of_covers 9 _ (by decide +kernel) fun t hf y => ?_
  blk_simp; rw [after0_9]
  unfold outsAt0
  dsimp only; frame_out
  rw [View.readCov_eq_canon']
  dsimp only
  refine (View.canon_append_of_piecesOf (blkT m c t) [_] [_, _, _, _, _, _, _, _] ⟨?_, ?_, ?_, ?_, ?_, ?_, ?_, ?_, trivial⟩ _ (cover _ ?_ _)).trans ?_
  · exact fun x => pc_at m c hA t 1 3 1 3 896 1408 rfl rfl rfl rfl inb_S2x8x128_S1x8x128_1_0_0 inb_S2x8x1536_S1x8x128_1_0_896 inb_S2x8x1536_S1x8x128_1_0_1408 inb_S2x4x128x128_S1x1x128x128_1_3_0_0 x
  · exact fun x => pc_at m c hA t 1 2 1 2 768 1280 rfl rfl rfl rfl inb_S2x8x128_S1x8x128_1_0_0 inb_S2x8x1536_S1x8x128_1_0_768 inb_S2x8x1536_S1x8x128_1_0_1280 inb_S2x4x128x128_S1x1x128x128_1_2_0_0 x
  · exact fun x => pc_at m c hA t 1 1 1 1 640 1152 rfl rfl rfl rfl inb_S2x8x128_S1x8x128_1_0_0 inb_S2x8x1536_S1x8x128_1_0_640 inb_S2x8x1536_S1x8x128_1_0_1152 inb_S2x4x128x128_S1x1x128x128_1_1_0_0 x
  · exact fun x => pc_at m c hA t 1 0 1 0 512 1024 rfl rfl rfl rfl inb_S2x8x128_S1x8x128_1_0_0 inb_S2x8x1536_S1x8x128_1_0_512 inb_S2x8x1536_S1x8x128_1_0_1024 inb_S2x4x128x128_S1x1x128x128_1_0_0_0 x
  · exact fun x => pc_at m c hA t 0 3 0 3 896 1408 rfl rfl rfl rfl inb_S2x8x128_S1x8x128_0_0_0 inb_S2x8x1536_S1x8x128_0_0_896 inb_S2x8x1536_S1x8x128_0_0_1408 inb_S2x4x128x128_S1x1x128x128_0_3_0_0 x
  · exact fun x => pc_at m c hA t 0 2 0 2 768 1280 rfl rfl rfl rfl inb_S2x8x128_S1x8x128_0_0_0 inb_S2x8x1536_S1x8x128_0_0_768 inb_S2x8x1536_S1x8x128_0_0_1280 inb_S2x4x128x128_S1x1x128x128_0_2_0_0 x
  · exact fun x => pc_at m c hA t 0 1 0 1 640 1152 rfl rfl rfl rfl inb_S2x8x128_S1x8x128_0_0_0 inb_S2x8x1536_S1x8x128_0_0_640 inb_S2x8x1536_S1x8x128_0_0_1152 inb_S2x4x128x128_S1x1x128x128_0_1_0_0 x
  · exact fun x => pc_at m c hA t 0 0 0 0 512 1024 rfl rfl rfl rfl inb_S2x8x128_S1x8x128_0_0_0 inb_S2x8x1536_S1x8x128_0_0_512 inb_S2x8x1536_S1x8x128_0_0_1024 inb_S2x4x128x128_S1x1x128x128_0_0_0_0 x
  · intro i h
    match i, h with
    | ⟨0, _⟩, ⟨0, _⟩ => exact ⟨_, .tail _ (.tail _ (.tail _ (.tail _ (.tail _ (.tail _ (.tail _ (.head _))))))), rfl⟩
    | ⟨0, _⟩, ⟨1, _⟩ => exact ⟨_, .tail _ (.tail _ (.tail _ (.tail _ (.tail _ (.tail _ (.head _)))))), rfl⟩
    | ⟨0, _⟩, ⟨2, _⟩ => exact ⟨_, .tail _ (.tail _ (.tail _ (.tail _ (.tail _ (.head _))))), rfl⟩
    | ⟨0, _⟩, ⟨3, _⟩ => exact ⟨_, .tail _ (.tail _ (.tail _ (.tail _ (.head _)))), rfl⟩
    | ⟨1, _⟩, ⟨0, _⟩ => exact ⟨_, .tail _ (.tail _ (.tail _ (.head _))), rfl⟩
    | ⟨1, _⟩, ⟨1, _⟩ => exact ⟨_, .tail _ (.tail _ (.head _)), rfl⟩
    | ⟨1, _⟩, ⟨2, _⟩ => exact ⟨_, .tail _ (.head _), rfl⟩
    | ⟨1, _⟩, ⟨3, _⟩ => exact ⟨_, .head _, rfl⟩
  · have e : ((cfg0.win 9).blk t).view.emb y = ix4 (sq t (y 0)) (y 1) (y 2) (y 3) := by blk_ext [idx_val t]
    exact (congrArg (blkT m c t) (whole_idx y)).trans (congrArg (t9 (args m c)) e).symm

end Cert.DeltaSIdeal.Hand

end
end
-- ==== Proof.ClaimsD.lean ====
module

public import proofs.«01_k».proof.Defs
public import proofs.«01_k».proof.Proof.DeltaVal
public import proofs.«01_k».proof.Proof.Gen.DeltaS.Frame
public import proofs.«01_k».proof.Proof.Gen.DeltaSIdeal.Value
public import proofs.«01_k».proof.Proof.Gen.DeltaSRefIdeal.Run
public import proofs.«01_k».proof.Proof.Gen.Pre_finite_values
public import Idealize.ShloMosaic.Adequacy
public import Idealize.ShloMosaic.Lib.Claim

@[expose] public section

noncomputable section

namespace Cert.Proof

open Idealize.ShloMosaic Idealize.SL.Sem
open Cert.Delta

/-- The delta rule's frame on the sample rows: it ends, leaves its arguments, and every semaphore reads zero. -/
theorem frame_p6 : Cert.quiescent_DeltaS (hDeltaS := Cert.DeltaS.Gen.facts) := fun m ρ _ => Cert.DeltaS.Gen.frame m ρ

/-- The same over the extended reals. -/
theorem frame_pi6 : Cert.quiescent_DeltaSIdeal (hDeltaSIdeal := Cert.DeltaSIdeal.Gen.facts) :=
  fun m ρ _ => Cert.DeltaSIdeal.Gen.frame m ρ

/-- The same where the values are finite. -/
theorem frame_pi6' : Cert.quiescent_DeltaSIdeal_pre_finite_values (hDeltaSIdeal := Cert.DeltaSIdeal.Gen.facts)
    (hPre_finite_values := Cert.Pre_finite_values.Gen.facts) :=
  fun m ρ _ => Cert.DeltaSIdeal.Gen.frame m ρ

/-- The delta rule's reference ends and leaves its arguments; it has no semaphore. -/
theorem frame_ri6 : Cert.quiescent_DeltaSRefIdeal (hDeltaSRefIdeal := Cert.DeltaSRefIdeal.Gen.facts) := fun m ρ _ =>
  (θ_run Cert.DeltaSRefIdeal.defs _ _).mono (fun r h => ⟨fun c => (h c).2,
      Idealize.ShloMosaic.sem_eq_zero_of_no_sems (by decide) r.2⟩)
    (Cert.DeltaSRefIdeal.Value.run (F := Ideal) m ρ)

/-- The same where the values are finite. -/
theorem frame_ri6' : Cert.quiescent_DeltaSRefIdeal_pre_finite_values (hDeltaSRefIdeal := Cert.DeltaSRefIdeal.Gen.facts)
    (hPre_finite_values := Cert.Pre_finite_values.Gen.facts) := fun m ρ _ => frame_ri6 m ρ trivial

/-- What is below infinity in size is a real number. -/
theorem fin_of_abs {x : EReal} (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  have h' : max x (-x) < ⊤ := by
    by_contra hn
    simp only [Ideal.cmp, hn, decide_false] at h
    exact absurd h (by decide)
  rw [fin_iff]
  constructor
  · rintro rfl
    simp at h'
  · rintro rfl
    simp at h'

section
variable (m : (ℓ : Loc Cert.DeltaSIdeal.nD Cert.DeltaSIdeal.τ Cert.DeltaSIdeal.sig) → Buf (Elt Ideal) ℓ)
  (hp : Cert.Pre_DeltaSIdeal_finite_values (hPre_finite_values := Cert.Pre_finite_values.Gen.facts) m) (c : Dev Cert.DeltaSIdeal.nD)
include hp

/-- The precondition at an entry of each of the three arrays. -/
theorem q_fin (n : Fin 32) (t : Fin 8) (d : Fin 512) : Fin' ((Cert.DeltaSIdeal.Hand.args m c).q (ix3 n t ⟨1024 + d.val, by omega⟩)) := by
  have e := congrFun (hp c).1 (ix3 n t d)
  refine fin_of_abs (Eq.trans ?_ e)
  pointwise [Cert.Pre_finite_values.fn]
  rfl

theorem cs_fin (n : Fin 32) (r : Fin 3) (d : Fin 512) : Fin' ((Cert.DeltaSIdeal.Hand.args m c).cs (ix4 0 n r ⟨1024 + d.val, by omega⟩)) := by
  have e := congrFun (hp c).2.1 (ix4 0 n r d)
  refine fin_of_abs (Eq.trans ?_ e)
  pointwise [Cert.Pre_finite_values.fn]
  rfl

theorem cw_fin (j : Fin 4) (d : Fin 512) : Fin' ((Cert.DeltaSIdeal.Hand.args m c).cw (ix3 0 j ⟨1024 + d.val, by omega⟩)) := by
  have e := congrFun (hp c).2.2 (ix3 0 j d)
  refine fin_of_abs (Eq.trans ?_ e)
  pointwise [Cert.Pre_finite_values.fn]
  rfl

theorem xx_fin (n : Fin 32) (i : Fin 11) (d : Fin 512) : Fin' (Cert.DeltaSRefIdeal.Hand.XX (Cert.DeltaSIdeal.Hand.args m c) n i ⟨1024 + d.val, by omega⟩) := by
  unfold Cert.DeltaSRefIdeal.Hand.XX
  split
  · exact cs_fin m hp c n _ d
  · exact q_fin m hp c n _ d

/-- So the values are real numbers. -/
theorem real_v : Cert.DeltaSRefIdeal.Hand.RealV (Cert.DeltaSIdeal.Hand.args m c) := by
  intro n h t d
  have k : ∀ e : Fin 512, Fin' (Cert.DeltaSRefIdeal.Hand.SI (Cert.DeltaSIdeal.Hand.args m c) n t ⟨1024 + e.val, by omega⟩) := fun e =>
    ((((xx_fin m hp c n _ e).mul (cw_fin m hp c 0 e)).add ((xx_fin m hp c n _ e).mul (cw_fin m hp c 1 e))).add
      ((xx_fin m hp c n _ e).mul (cw_fin m hp c 2 e)) |>.add ((xx_fin m hp c n _ e).mul (cw_fin m hp c 3 e))).mul (sig_fin _)
  exact k ⟨h.val * 128 + d.val, by omega⟩

end

/-- The two programs' arguments are the same where their memories agree. -/
theorem args_eq6 (m : (ℓ : Loc Cert.DeltaSIdeal.nD Cert.DeltaSIdeal.τ Cert.DeltaSIdeal.sig) → Buf (Elt Ideal) ℓ)
    (m' : (ℓ : Loc Cert.DeltaSRefIdeal.nD Cert.DeltaSRefIdeal.τ Cert.DeltaSRefIdeal.sig) → Buf (Elt Ideal) ℓ) (c : Dev Cert.DeltaSIdeal.nD)
    (e0 : m' (c.tc.loc DeltaSRefIdeal.main_arg0) = m (c.tc.loc DeltaSIdeal.main_arg0))
    (e1 : m' (c.tc.loc DeltaSRefIdeal.main_arg1) = m (c.tc.loc DeltaSIdeal.main_arg1))
    (e2 : m' (c.tc.loc DeltaSRefIdeal.main_arg2) = m (c.tc.loc DeltaSIdeal.main_arg2))
    (e3 : m' (c.tc.loc DeltaSRefIdeal.main_arg3) = m (c.tc.loc DeltaSIdeal.main_arg3))
    (e4 : m' (c.tc.loc DeltaSRefIdeal.main_arg4) = m (c.tc.loc DeltaSIdeal.main_arg4))
    (e5 : m' (c.tc.loc DeltaSRefIdeal.main_arg5) = m (c.tc.loc DeltaSIdeal.main_arg5))
    (e6 : m' (c.tc.loc DeltaSRefIdeal.main_arg6) = m (c.tc.loc DeltaSIdeal.main_arg6))
    (e7 : m' (c.tc.loc DeltaSRefIdeal.main_arg7) = m (c.tc.loc DeltaSIdeal.main_arg7))
    (e8 : m' (c.tc.loc DeltaSRefIdeal.main_arg8) = m (c.tc.loc DeltaSIdeal.main_arg8))
    : Cert.DeltaSRefIdeal.Hand.argsOf m' c = Cert.DeltaSIdeal.Hand.args m c := by
  unfold Cert.DeltaSRefIdeal.Hand.argsOf Cert.DeltaSIdeal.Hand.args
  rw [e0, e1, e2, e3, e4, e5, e6, e7, e8]

/-- The reference's result is the new state at every index. -/
theorem result_eq (m' : (ℓ : Loc Cert.DeltaSRefIdeal.nD Cert.DeltaSRefIdeal.τ Cert.DeltaSRefIdeal.sig) → Buf (Elt Ideal) ℓ) (c : Dev Cert.DeltaSRefIdeal.nD)
    (hA : Cert.DeltaSRefIdeal.Hand.RealV (Cert.DeltaSRefIdeal.Hand.argsOf m' c)) :
    Cert.DeltaSRefIdeal.Hand.result m' c = Cert.DeltaSIdeal.Hand.t9 (Cert.DeltaSRefIdeal.Hand.argsOf m' c) := by
  funext j
  have ej : j = ix4 (j 0) (j 1) (j 2) (j 3) := by blk_ext
  exact (congrArg (Cert.DeltaSRefIdeal.Hand.result m' c) ej).trans (Cert.DeltaSRefIdeal.Hand.result_at m' c hA _ _ _ _)

set_option maxHeartbeats 4000000 in
/-- Where the values are finite, the delta rule's kernel and its reference give equal states over the extended reals. -/
theorem algebraic6 : Cert.algebraic_DeltaSIdeal_DeltaSRefIdeal_pre_finite_values (hDeltaSIdeal := Cert.DeltaSIdeal.Gen.facts)
    (hDeltaSRefIdeal := Cert.DeltaSRefIdeal.Gen.facts) (hPre_finite_values := Cert.Pre_finite_values.Gen.facts) := by
  pair_intro
  · run_from Cert.DeltaSIdeal.Gen.run_main m g
    all_goals
      simp only [DeltaSIdeal.Gen.hostOps0, DeltaSIdeal.Gen.hostOps0_1, DeltaSIdeal.Gen.hostOps0_2, List.flatten_cons, List.flatten_nil, List.append_nil, List.cons_append, List.nil_append]
      after_results
  · refine (θ_run _ _ _).mono (fun r h c => ⟨(h c).1.trans ?_, (h c).2⟩)
      (Cert.DeltaSRefIdeal.Value.run m' g')
    obtain ⟨e0, e1, e2, e3, e4, e5, e6, e7, e8⟩ := hagree c
    have ea := args_eq6 m m' c e0 e1 e2 e3 e4 e5 e6 e7 e8
    have hA := real_v m hpre c
    refine (result_eq m' c (ea ▸ hA)).trans ?_
    rw [ea]
    exact (Cert.DeltaSIdeal.Hand.final_9 m c hA).symm

end Cert.Proof

end
-- ==== Proof.lean ====
module

public import proofs.«01_k».proof.Defs
public import proofs.«01_k».proof.Proof.Claims
public import proofs.«01_k».proof.Proof.ClaimsS
public import proofs.«01_k».proof.Proof.ClaimsD
public import Idealize.ShloMosaic.Adequacy
public import Idealize.ShloMosaic.Init

@[expose] public section

noncomputable section

namespace Cert.Proof

open Idealize.ShloMosaic Idealize.SL.Sem

/-- Everything claimed: the programs' facts, then the frames and the pairs, one by one. -/
theorem claim : Cert.Claim := ⟨Cert.Project.Gen.facts, Cert.ProjectIdeal.Gen.facts, Cert.ProjectRefIdeal.Gen.facts,
  Cert.Tail.Gen.facts, Cert.TailIdeal.Gen.facts, Cert.TailRefIdeal.Gen.facts,
  Cert.ProjectS.Gen.facts, Cert.ProjectSIdeal.Gen.facts, Cert.ProjectSRefIdeal.Gen.facts,
  Cert.TailS.Gen.facts, Cert.TailSIdeal.Gen.facts, Cert.TailSRefIdeal.Gen.facts,
  Cert.DeltaS.Gen.facts, Cert.DeltaSIdeal.Gen.facts, Cert.DeltaSRefIdeal.Gen.facts, Cert.Pre_finite_values.Gen.facts,
  frame_p2, frame_pi2, frame_ri2, frame_p3, frame_pi3, frame_ri3, frame_p4, frame_pi4, frame_ri4, frame_p5, frame_pi5, frame_ri5,
  frame_p6, frame_pi6, frame_pi6', frame_ri6, frame_ri6',
  trivial, algebraic2, trivial, algebraic3, trivial, algebraic4, trivial, algebraic5, trivial, algebraic6⟩

end Cert.Proof

end
